-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Exchange (m : (ℓ : Loc Cert.Exchange.nD Cert.Exchange.τ Cert.Exchange.sig) → Buf (Elt Bits) ℓ) : Prop :=
  True

def Pre_ExchangeIdeal (m : (ℓ : Loc Cert.ExchangeIdeal.nD Cert.ExchangeIdeal.τ Cert.ExchangeIdeal.sig) → Buf (Elt Ideal) ℓ) : Prop :=
  True

def Pre_DispatchIdeal (m : (ℓ : Loc Cert.DispatchIdeal.nD Cert.DispatchIdeal.τ Cert.DispatchIdeal.sig) → Buf (Elt Ideal) ℓ) : Prop :=
  True

def Pre_Gather (m : (ℓ : Loc Cert.Gather.nD Cert.Gather.τ Cert.Gather.sig) → Buf (Elt Bits) ℓ) : Prop :=
  True

def Pre_GatherIdeal (m : (ℓ : Loc Cert.GatherIdeal.nD Cert.GatherIdeal.τ Cert.GatherIdeal.sig) → Buf (Elt Ideal) ℓ) : Prop :=
  True

def Pre_WholeIdeal (m : (ℓ : Loc Cert.WholeIdeal.nD Cert.WholeIdeal.τ Cert.WholeIdeal.sig) → Buf (Elt Ideal) ℓ) : Prop :=
  True

def Pre_Feed [hPre_among : Cert.Pre_among.Facts] (m : (ℓ : Loc Cert.Feed.nD Cert.Feed.τ Cert.Feed.sig) → Buf (Elt Bits) ℓ) : Prop :=
  ∀ c : Dev Cert.Feed.nD,
    (Cert.Pre_among.fn (F := Bits) (m ((c.tc : Thread Cert.Feed.nD Cert.Feed.τ).loc Cert.Feed.main_arg0)) (m ((c.tc : Thread Cert.Feed.nD Cert.Feed.τ).loc Cert.Feed.main_arg1)) (m ((c.tc : Thread Cert.Feed.nD Cert.Feed.τ).loc Cert.Feed.main_arg2)) (m ((c.tc : Thread Cert.Feed.nD Cert.Feed.τ).loc Cert.Feed.main_arg3))) = (fun _ => 1#1)

def Pre_FeedIdeal [hPre_among : Cert.Pre_among.Facts] (m : (ℓ : Loc Cert.FeedIdeal.nD Cert.FeedIdeal.τ Cert.FeedIdeal.sig) → Buf (Elt Ideal) ℓ) : Prop :=
  ∀ c : Dev Cert.FeedIdeal.nD,
    (Cert.Pre_among.fn (F := Ideal) (m ((c.tc : Thread Cert.FeedIdeal.nD Cert.FeedIdeal.τ).loc Cert.FeedIdeal.main_arg0)) (m ((c.tc : Thread Cert.FeedIdeal.nD Cert.FeedIdeal.τ).loc Cert.FeedIdeal.main_arg1)) (m ((c.tc : Thread Cert.FeedIdeal.nD Cert.FeedIdeal.τ).loc Cert.FeedIdeal.main_arg2)) (m ((c.tc : Thread Cert.FeedIdeal.nD Cert.FeedIdeal.τ).loc Cert.FeedIdeal.main_arg3))) = (fun _ => 1#1)

def Pre_ExpertsIdeal (m : (ℓ : Loc Cert.ExpertsIdeal.nD Cert.ExpertsIdeal.τ Cert.ExpertsIdeal.sig) → Buf (Elt Ideal) ℓ) : Prop :=
  True

def Pre_ExpertsIdeal_among [hPre_among : Cert.Pre_among.Facts] (m : (ℓ : Loc Cert.ExpertsIdeal.nD Cert.ExpertsIdeal.τ Cert.ExpertsIdeal.sig) → Buf (Elt Ideal) ℓ) : Prop :=
  ∀ c : Dev Cert.ExpertsIdeal.nD,
    (Cert.Pre_among.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_Exchange [hExchange : Cert.Exchange.Facts] : Prop :=
  ∀ (m : (ℓ : Loc Cert.Exchange.nD Cert.Exchange.τ Cert.Exchange.sig) → Buf (Elt Bits) ℓ) (g : Dev Cert.Exchange.nD → PrngReg), Pre_Exchange m →
    θ_run (Cert.Exchange.defs (F := Bits)) (onTc (τ := Cert.Exchange.τ) (Cert.Exchange.main (F := Bits))) ⟨m, fun _ => 0, g⟩ (fun r => (∀ c : Dev Cert.Exchange.nD,
      r.2.mem ((c.tc : Thread Cert.Exchange.nD Cert.Exchange.τ).loc Cert.Exchange.main_arg0) = m ((c.tc : Thread Cert.Exchange.nD Cert.Exchange.τ).loc Cert.Exchange.main_arg0)
      ∧ r.2.mem ((c.tc : Thread Cert.Exchange.nD Cert.Exchange.τ).loc Cert.Exchange.main_arg1) = m ((c.tc : Thread Cert.Exchange.nD Cert.Exchange.τ).loc Cert.Exchange.main_arg1)
      ∧ r.2.mem ((c.tc : Thread Cert.Exchange.nD Cert.Exchange.τ).loc Cert.Exchange.main_arg2) = m ((c.tc : Thread Cert.Exchange.nD Cert.Exchange.τ).loc Cert.Exchange.main_arg2)
      ∧ r.2.mem ((c.tc : Thread Cert.Exchange.nD Cert.Exchange.τ).loc Cert.Exchange.main_arg3) = m ((c.tc : Thread Cert.Exchange.nD Cert.Exchange.τ).loc Cert.Exchange.main_arg3))
      ∧ r.2.sem = fun _ => 0)

def quiescent_ExchangeIdeal [hExchangeIdeal : Cert.ExchangeIdeal.Facts] : Prop :=
  ∀ (m : (ℓ : Loc Cert.ExchangeIdeal.nD Cert.ExchangeIdeal.τ Cert.ExchangeIdeal.sig) → Buf (Elt Ideal) ℓ) (g : Dev Cert.ExchangeIdeal.nD → PrngReg), Pre_ExchangeIdeal m →
    θ_run (Cert.ExchangeIdeal.defs (F := Ideal)) (onTc (τ := Cert.ExchangeIdeal.τ) (Cert.ExchangeIdeal.main (F := Ideal))) ⟨m, fun _ => 0, g⟩ (fun r => (∀ c : Dev Cert.ExchangeIdeal.nD,
      r.2.mem ((c.tc : Thread Cert.ExchangeIdeal.nD Cert.ExchangeIdeal.τ).loc Cert.ExchangeIdeal.main_arg0) = m ((c.tc : Thread Cert.ExchangeIdeal.nD Cert.ExchangeIdeal.τ).loc Cert.ExchangeIdeal.main_arg0)
      ∧ r.2.mem ((c.tc : Thread Cert.ExchangeIdeal.nD Cert.ExchangeIdeal.τ).loc Cert.ExchangeIdeal.main_arg1) = m ((c.tc : Thread Cert.ExchangeIdeal.nD Cert.ExchangeIdeal.τ).loc Cert.ExchangeIdeal.main_arg1)
      ∧ r.2.mem ((c.tc : Thread Cert.ExchangeIdeal.nD Cert.ExchangeIdeal.τ).loc Cert.ExchangeIdeal.main_arg2) = m ((c.tc : Thread Cert.ExchangeIdeal.nD Cert.ExchangeIdeal.τ).loc Cert.ExchangeIdeal.main_arg2)
      ∧ r.2.mem ((c.tc : Thread Cert.ExchangeIdeal.nD Cert.ExchangeIdeal.τ).loc Cert.ExchangeIdeal.main_arg3) = m ((c.tc : Thread Cert.ExchangeIdeal.nD Cert.ExchangeIdeal.τ).loc Cert.ExchangeIdeal.main_arg3))
      ∧ r.2.sem = fun _ => 0)

def quiescent_DispatchIdeal [hDispatchIdeal : Cert.DispatchIdeal.Facts] : Prop :=
  ∀ (m : (ℓ : Loc Cert.DispatchIdeal.nD Cert.DispatchIdeal.τ Cert.DispatchIdeal.sig) → Buf (Elt Ideal) ℓ) (g : Dev Cert.DispatchIdeal.nD → PrngReg), Pre_DispatchIdeal m →
    θ_run (Cert.DispatchIdeal.defs (F := Ideal)) (onTc (τ := Cert.DispatchIdeal.τ) (Cert.DispatchIdeal.main (F := Ideal))) ⟨m, fun _ => 0, g⟩ (fun r => (∀ c : Dev Cert.DispatchIdeal.nD,
      r.2.mem ((c.tc : Thread Cert.DispatchIdeal.nD Cert.DispatchIdeal.τ).loc Cert.DispatchIdeal.main_arg0) = m ((c.tc : Thread Cert.DispatchIdeal.nD Cert.DispatchIdeal.τ).loc Cert.DispatchIdeal.main_arg0)
      ∧ r.2.mem ((c.tc : Thread Cert.DispatchIdeal.nD Cert.DispatchIdeal.τ).loc Cert.DispatchIdeal.main_arg1) = m ((c.tc : Thread Cert.DispatchIdeal.nD Cert.DispatchIdeal.τ).loc Cert.DispatchIdeal.main_arg1)
      ∧ r.2.mem ((c.tc : Thread Cert.DispatchIdeal.nD Cert.DispatchIdeal.τ).loc Cert.DispatchIdeal.main_arg2) = m ((c.tc : Thread Cert.DispatchIdeal.nD Cert.DispatchIdeal.τ).loc Cert.DispatchIdeal.main_arg2)
      ∧ r.2.mem ((c.tc : Thread Cert.DispatchIdeal.nD Cert.DispatchIdeal.τ).loc Cert.DispatchIdeal.main_arg3) = m ((c.tc : Thread Cert.DispatchIdeal.nD Cert.DispatchIdeal.τ).loc Cert.DispatchIdeal.main_arg3))
      ∧ r.2.sem = fun _ => 0)

def quiescent_Gather [hGather : Cert.Gather.Facts] : Prop :=
  ∀ (m : (ℓ : Loc Cert.Gather.nD Cert.Gather.τ Cert.Gather.sig) → Buf (Elt Bits) ℓ) (g : Dev Cert.Gather.nD → PrngReg), Pre_Gather m →
    θ_run (Cert.Gather.defs (F := Bits)) (onTc (τ := Cert.Gather.τ) (Cert.Gather.main (F := Bits))) ⟨m, fun _ => 0, g⟩ (fun r => (∀ c : Dev Cert.Gather.nD,
      r.2.mem ((c.tc : Thread Cert.Gather.nD Cert.Gather.τ).loc Cert.Gather.main_arg0) = m ((c.tc : Thread Cert.Gather.nD Cert.Gather.τ).loc Cert.Gather.main_arg0))
      ∧ r.2.sem = fun _ => 0)

def quiescent_GatherIdeal [hGatherIdeal : Cert.GatherIdeal.Facts] : Prop :=
  ∀ (m : (ℓ : Loc Cert.GatherIdeal.nD Cert.GatherIdeal.τ Cert.GatherIdeal.sig) → Buf (Elt Ideal) ℓ) (g : Dev Cert.GatherIdeal.nD → PrngReg), Pre_GatherIdeal m →
    θ_run (Cert.GatherIdeal.defs (F := Ideal)) (onTc (τ := Cert.GatherIdeal.τ) (Cert.GatherIdeal.main (F := Ideal))) ⟨m, fun _ => 0, g⟩ (fun r => (∀ c : Dev Cert.GatherIdeal.nD,
      r.2.mem ((c.tc : Thread Cert.GatherIdeal.nD Cert.GatherIdeal.τ).loc Cert.GatherIdeal.main_arg0) = m ((c.tc : Thread Cert.GatherIdeal.nD Cert.GatherIdeal.τ).loc Cert.GatherIdeal.main_arg0))
      ∧ r.2.sem = fun _ => 0)

def quiescent_WholeIdeal [hWholeIdeal : Cert.WholeIdeal.Facts] : Prop :=
  ∀ (m : (ℓ : Loc Cert.WholeIdeal.nD Cert.WholeIdeal.τ Cert.WholeIdeal.sig) → Buf (Elt Ideal) ℓ) (g : Dev Cert.WholeIdeal.nD → PrngReg), Pre_WholeIdeal m →
    θ_run (Cert.WholeIdeal.defs (F := Ideal)) (onTc (τ := Cert.WholeIdeal.τ) (Cert.WholeIdeal.main (F := Ideal))) ⟨m, fun _ => 0, g⟩ (fun r => (∀ c : Dev Cert.WholeIdeal.nD,
      r.2.mem ((c.tc : Thread Cert.WholeIdeal.nD Cert.WholeIdeal.τ).loc Cert.WholeIdeal.main_arg0) = m ((c.tc : Thread Cert.WholeIdeal.nD Cert.WholeIdeal.τ).loc Cert.WholeIdeal.main_arg0))
      ∧ r.2.sem = fun _ => 0)

def quiescent_Feed [hFeed : Cert.Feed.Facts] [hPre_among : Cert.Pre_among.Facts] : Prop :=
  ∀ (m : (ℓ : Loc Cert.Feed.nD Cert.Feed.τ Cert.Feed.sig) → Buf (Elt Bits) ℓ) (g : Dev Cert.Feed.nD → PrngReg), Pre_Feed m →
    θ_run (Cert.Feed.defs (F := Bits)) (onTc (τ := Cert.Feed.τ) (Cert.Feed.main (F := Bits))) ⟨m, fun _ => 0, g⟩ (fun r => (∀ c : Dev Cert.Feed.nD,
      r.2.mem ((c.tc : Thread Cert.Feed.nD Cert.Feed.τ).loc Cert.Feed.main_arg0) = m ((c.tc : Thread Cert.Feed.nD Cert.Feed.τ).loc Cert.Feed.main_arg0)
      ∧ r.2.mem ((c.tc : Thread Cert.Feed.nD Cert.Feed.τ).loc Cert.Feed.main_arg1) = m ((c.tc : Thread Cert.Feed.nD Cert.Feed.τ).loc Cert.Feed.main_arg1)
      ∧ r.2.mem ((c.tc : Thread Cert.Feed.nD Cert.Feed.τ).loc Cert.Feed.main_arg2) = m ((c.tc : Thread Cert.Feed.nD Cert.Feed.τ).loc Cert.Feed.main_arg2)
      ∧ r.2.mem ((c.tc : Thread Cert.Feed.nD Cert.Feed.τ).loc Cert.Feed.main_arg3) = m ((c.tc : Thread Cert.Feed.nD Cert.Feed.τ).loc Cert.Feed.main_arg3))
      ∧ r.2.sem = fun _ => 0)

def quiescent_FeedIdeal [hFeedIdeal : Cert.FeedIdeal.Facts] [hPre_among : Cert.Pre_among.Facts] : Prop :=
  ∀ (m : (ℓ : Loc Cert.FeedIdeal.nD Cert.FeedIdeal.τ Cert.FeedIdeal.sig) → Buf (Elt Ideal) ℓ) (g : Dev Cert.FeedIdeal.nD → PrngReg), Pre_FeedIdeal m →
    θ_run (Cert.FeedIdeal.defs (F := Ideal)) (onTc (τ := Cert.FeedIdeal.τ) (Cert.FeedIdeal.main (F := Ideal))) ⟨m, fun _ => 0, g⟩ (fun r => (∀ c : Dev Cert.FeedIdeal.nD,
      r.2.mem ((c.tc : Thread Cert.FeedIdeal.nD Cert.FeedIdeal.τ).loc Cert.FeedIdeal.main_arg0) = m ((c.tc : Thread Cert.FeedIdeal.nD Cert.FeedIdeal.τ).loc Cert.FeedIdeal.main_arg0)
      ∧ r.2.mem ((c.tc : Thread Cert.FeedIdeal.nD Cert.FeedIdeal.τ).loc Cert.FeedIdeal.main_arg1) = m ((c.tc : Thread Cert.FeedIdeal.nD Cert.FeedIdeal.τ).loc Cert.FeedIdeal.main_arg1)
      ∧ r.2.mem ((c.tc : Thread Cert.FeedIdeal.nD Cert.FeedIdeal.τ).loc Cert.FeedIdeal.main_arg2) = m ((c.tc : Thread Cert.FeedIdeal.nD Cert.FeedIdeal.τ).loc Cert.FeedIdeal.main_arg2)
      ∧ r.2.mem ((c.tc : Thread Cert.FeedIdeal.nD Cert.FeedIdeal.τ).loc Cert.FeedIdeal.main_arg3) = m ((c.tc : Thread Cert.FeedIdeal.nD Cert.FeedIdeal.τ).loc Cert.FeedIdeal.main_arg3))
      ∧ r.2.sem = fun _ => 0)

def quiescent_ExpertsIdeal [hExpertsIdeal : Cert.ExpertsIdeal.Facts] : Prop :=
  ∀ (m : (ℓ : Loc Cert.ExpertsIdeal.nD Cert.ExpertsIdeal.τ Cert.ExpertsIdeal.sig) → Buf (Elt Ideal) ℓ) (g : Dev Cert.ExpertsIdeal.nD → PrngReg), Pre_ExpertsIdeal m →
    θ_run (Cert.ExpertsIdeal.defs (F := Ideal)) (onTc (τ := Cert.ExpertsIdeal.τ) (Cert.ExpertsIdeal.main (F := Ideal))) ⟨m, fun _ => 0, g⟩ (fun r => (∀ c : Dev Cert.ExpertsIdeal.nD,
      r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
      ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
      ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
      ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3))
      ∧ r.2.sem = fun _ => 0)

def quiescent_ExpertsIdeal_pre_among [hExpertsIdeal : Cert.ExpertsIdeal.Facts] [hPre_among : Cert.Pre_among.Facts] : Prop :=
  ∀ (m : (ℓ : Loc Cert.ExpertsIdeal.nD Cert.ExpertsIdeal.τ Cert.ExpertsIdeal.sig) → Buf (Elt Ideal) ℓ) (g : Dev Cert.ExpertsIdeal.nD → PrngReg), Pre_ExpertsIdeal_among m →
    θ_run (Cert.ExpertsIdeal.defs (F := Ideal)) (onTc (τ := Cert.ExpertsIdeal.τ) (Cert.ExpertsIdeal.main (F := Ideal))) ⟨m, fun _ => 0, g⟩ (fun r => (∀ c : Dev Cert.ExpertsIdeal.nD,
      r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
      ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
      ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
      ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![2048, 1024]⟩ ⟨2, ![4096, 2048]⟩ (Layout.meshBlock [2, 2] ![[0], [1]] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![1024, 1024]⟩ ⟨2, ![2048, 1024]⟩ (Layout.meshBlock [2, 2] ![[0], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def preserves_Exchange_ExchangeIdeal : Prop :=
  True

def algebraic_ExchangeIdeal_DispatchIdeal [hExchangeIdeal : Cert.ExchangeIdeal.Facts] [hDispatchIdeal : Cert.DispatchIdeal.Facts] : Prop :=
  ∀ (m : (ℓ : Loc Cert.ExchangeIdeal.nD Cert.ExchangeIdeal.τ Cert.ExchangeIdeal.sig) → Buf (Elt Ideal) ℓ) (g : Dev Cert.ExchangeIdeal.nD → PrngReg)
    (m' : (ℓ : Loc Cert.DispatchIdeal.nD Cert.DispatchIdeal.τ Cert.DispatchIdeal.sig) → Buf (Elt Ideal) ℓ) (g' : Dev Cert.DispatchIdeal.nD → PrngReg), Pre_ExchangeIdeal m →
    (∀ c : Dev Cert.ExchangeIdeal.nD,
      m ((c.tc : Thread Cert.ExchangeIdeal.nD Cert.ExchangeIdeal.τ).loc Cert.ExchangeIdeal.main_arg0) = Layout.blockN ⟨2, ![8, 1024]⟩ ⟨2, ![16, 1024]⟩ (Layout.meshBlock [2, 2] ![[0], []] c) (m' (((0 : Dev Cert.DispatchIdeal.nD).tc : Thread Cert.DispatchIdeal.nD Cert.DispatchIdeal.τ).loc Cert.DispatchIdeal.main_arg0))
      ∧ m ((c.tc : Thread Cert.ExchangeIdeal.nD Cert.ExchangeIdeal.τ).loc Cert.ExchangeIdeal.main_arg1) = Layout.blockN ⟨2, ![1024, 1024]⟩ ⟨2, ![2048, 1024]⟩ (Layout.meshBlock [2, 2] ![[0], []] c) (m' (((0 : Dev Cert.DispatchIdeal.nD).tc : Thread Cert.DispatchIdeal.nD Cert.DispatchIdeal.τ).loc Cert.DispatchIdeal.main_arg1))
      ∧ m ((c.tc : Thread Cert.ExchangeIdeal.nD Cert.ExchangeIdeal.τ).loc Cert.ExchangeIdeal.main_arg2) = Layout.block ⟨2, ![672, 1024]⟩ ⟨2, ![2688, 1024]⟩ 0 4 c (m' (((0 : Dev Cert.DispatchIdeal.nD).tc : Thread Cert.DispatchIdeal.nD Cert.DispatchIdeal.τ).loc Cert.DispatchIdeal.main_arg2))
      ∧ m ((c.tc : Thread Cert.ExchangeIdeal.nD Cert.ExchangeIdeal.τ).loc Cert.ExchangeIdeal.main_arg3) = Layout.blockN ⟨2, ![1024, 1024]⟩ ⟨2, ![2048, 1024]⟩ (Layout.meshBlock [2, 2] ![[0], []] c) (m' (((0 : Dev Cert.DispatchIdeal.nD).tc : Thread Cert.DispatchIdeal.nD Cert.DispatchIdeal.τ).loc Cert.DispatchIdeal.main_arg3))) →
    ∃ (v0 : Buf (Elt Ideal) (((0 : Dev Cert.DispatchIdeal.nD).tc : Thread Cert.DispatchIdeal.nD Cert.DispatchIdeal.τ).loc Cert.DispatchIdeal.main_v48)) (v1 : Buf (Elt Ideal) (((0 : Dev Cert.DispatchIdeal.nD).tc : Thread Cert.DispatchIdeal.nD Cert.DispatchIdeal.τ).loc Cert.DispatchIdeal.main_v51)),
      θ_run (Cert.ExchangeIdeal.defs (F := Ideal)) (onTc (τ := Cert.ExchangeIdeal.τ) (Cert.ExchangeIdeal.main (F := Ideal))) ⟨m, fun _ => 0, g⟩ (fun r => ∀ c : Dev Cert.ExchangeIdeal.nD,
          r.2.mem ((c.tc : Thread Cert.ExchangeIdeal.nD Cert.ExchangeIdeal.τ).loc Cert.ExchangeIdeal.main_v1_0) = Layout.blockN ⟨2, ![8, 1024]⟩ ⟨2, ![16, 1024]⟩ (Layout.meshBlock [2, 2] ![[0], []] c) v0
          ∧ r.2.mem ((c.tc : Thread Cert.ExchangeIdeal.nD Cert.ExchangeIdeal.τ).loc Cert.ExchangeIdeal.main_v1_1) = Layout.block ⟨3, ![4, 336, 1024]⟩ ⟨3, ![16, 336, 1024]⟩ 0 4 c v1
          ∧ r.2.mem ((c.tc : Thread Cert.ExchangeIdeal.nD Cert.ExchangeIdeal.τ).loc Cert.ExchangeIdeal.main_arg0) = m ((c.tc : Thread Cert.ExchangeIdeal.nD Cert.ExchangeIdeal.τ).loc Cert.ExchangeIdeal.main_arg0)
          ∧ r.2.mem ((c.tc : Thread Cert.ExchangeIdeal.nD Cert.ExchangeIdeal.τ).loc Cert.ExchangeIdeal.main_arg1) = m ((c.tc : Thread Cert.ExchangeIdeal.nD Cert.ExchangeIdeal.τ).loc Cert.ExchangeIdeal.main_arg1)
          ∧ r.2.mem ((c.tc : Thread Cert.ExchangeIdeal.nD Cert.ExchangeIdeal.τ).loc Cert.ExchangeIdeal.main_arg2) = m ((c.tc : Thread Cert.ExchangeIdeal.nD Cert.ExchangeIdeal.τ).loc Cert.ExchangeIdeal.main_arg2)
          ∧ r.2.mem ((c.tc : Thread Cert.ExchangeIdeal.nD Cert.ExchangeIdeal.τ).loc Cert.ExchangeIdeal.main_arg3) = m ((c.tc : Thread Cert.ExchangeIdeal.nD Cert.ExchangeIdeal.τ).loc Cert.ExchangeIdeal.main_arg3))
      ∧ θ_run (Cert.DispatchIdeal.defs (F := Ideal)) (onTc (τ := Cert.DispatchIdeal.τ) (Cert.DispatchIdeal.main (F := Ideal))) ⟨m', fun _ => 0, g'⟩ (fun r =>
          r.2.mem (((0 : Dev Cert.DispatchIdeal.nD).tc : Thread Cert.DispatchIdeal.nD Cert.DispatchIdeal.τ).loc Cert.DispatchIdeal.main_v48) = v0
          ∧ r.2.mem (((0 : Dev Cert.DispatchIdeal.nD).tc : Thread Cert.DispatchIdeal.nD Cert.DispatchIdeal.τ).loc Cert.DispatchIdeal.main_v51) = v1
          ∧ r.2.mem (((0 : Dev Cert.DispatchIdeal.nD).tc : Thread Cert.DispatchIdeal.nD Cert.DispatchIdeal.τ).loc Cert.DispatchIdeal.main_arg0) = m' (((0 : Dev Cert.DispatchIdeal.nD).tc : Thread Cert.DispatchIdeal.nD Cert.DispatchIdeal.τ).loc Cert.DispatchIdeal.main_arg0)
          ∧ r.2.mem (((0 : Dev Cert.DispatchIdeal.nD).tc : Thread Cert.DispatchIdeal.nD Cert.DispatchIdeal.τ).loc Cert.DispatchIdeal.main_arg1) = m' (((0 : Dev Cert.DispatchIdeal.nD).tc : Thread Cert.DispatchIdeal.nD Cert.DispatchIdeal.τ).loc Cert.DispatchIdeal.main_arg1)
          ∧ r.2.mem (((0 : Dev Cert.DispatchIdeal.nD).tc : Thread Cert.DispatchIdeal.nD Cert.DispatchIdeal.τ).loc Cert.DispatchIdeal.main_arg2) = m' (((0 : Dev Cert.DispatchIdeal.nD).tc : Thread Cert.DispatchIdeal.nD Cert.DispatchIdeal.τ).loc Cert.DispatchIdeal.main_arg2)
          ∧ r.2.mem (((0 : Dev Cert.DispatchIdeal.nD).tc : Thread Cert.DispatchIdeal.nD Cert.DispatchIdeal.τ).loc Cert.DispatchIdeal.main_arg3) = m' (((0 : Dev Cert.DispatchIdeal.nD).tc : Thread Cert.DispatchIdeal.nD Cert.DispatchIdeal.τ).loc Cert.DispatchIdeal.main_arg3))

def preserves_Gather_GatherIdeal : Prop :=
  True

def algebraic_GatherIdeal_WholeIdeal [hGatherIdeal : Cert.GatherIdeal.Facts] [hWholeIdeal : Cert.WholeIdeal.Facts] : Prop :=
  ∀ (m : (ℓ : Loc Cert.GatherIdeal.nD Cert.GatherIdeal.τ Cert.GatherIdeal.sig) → Buf (Elt Ideal) ℓ) (g : Dev Cert.GatherIdeal.nD → PrngReg)
    (m' : (ℓ : Loc Cert.WholeIdeal.nD Cert.WholeIdeal.τ Cert.WholeIdeal.sig) → Buf (Elt Ideal) ℓ) (g' : Dev Cert.WholeIdeal.nD → PrngReg), Pre_GatherIdeal m →
    (∀ c : Dev Cert.GatherIdeal.nD,
      m ((c.tc : Thread Cert.GatherIdeal.nD Cert.GatherIdeal.τ).loc Cert.GatherIdeal.main_arg0) = Layout.blockN ⟨2, ![8, 1024]⟩ ⟨2, ![16, 1024]⟩ (Layout.meshBlock [2, 2] ![[0], []] c) (m' (((0 : Dev Cert.WholeIdeal.nD).tc : Thread Cert.WholeIdeal.nD Cert.WholeIdeal.τ).loc Cert.WholeIdeal.main_arg0))) →
    ∃ (v0 : Buf (Elt Ideal) (((0 : Dev Cert.WholeIdeal.nD).tc : Thread Cert.WholeIdeal.nD Cert.WholeIdeal.τ).loc Cert.WholeIdeal.main_arg0)),
      θ_run (Cert.GatherIdeal.defs (F := Ideal)) (onTc (τ := Cert.GatherIdeal.τ) (Cert.GatherIdeal.main (F := Ideal))) ⟨m, fun _ => 0, g⟩ (fun r => ∀ c : Dev Cert.GatherIdeal.nD,
          r.2.mem ((c.tc : Thread Cert.GatherIdeal.nD Cert.GatherIdeal.τ).loc Cert.GatherIdeal.main_v1) = v0
          ∧ r.2.mem ((c.tc : Thread Cert.GatherIdeal.nD Cert.GatherIdeal.τ).loc Cert.GatherIdeal.main_arg0) = m ((c.tc : Thread Cert.GatherIdeal.nD Cert.GatherIdeal.τ).loc Cert.GatherIdeal.main_arg0))
      ∧ θ_run (Cert.WholeIdeal.defs (F := Ideal)) (onTc (τ := Cert.WholeIdeal.τ) (Cert.WholeIdeal.main (F := Ideal))) ⟨m', fun _ => 0, g'⟩ (fun r =>
          r.2.mem (((0 : Dev Cert.WholeIdeal.nD).tc : Thread Cert.WholeIdeal.nD Cert.WholeIdeal.τ).loc Cert.WholeIdeal.main_arg0) = v0
          ∧ r.2.mem (((0 : Dev Cert.WholeIdeal.nD).tc : Thread Cert.WholeIdeal.nD Cert.WholeIdeal.τ).loc Cert.WholeIdeal.main_arg0) = m' (((0 : Dev Cert.WholeIdeal.nD).tc : Thread Cert.WholeIdeal.nD Cert.WholeIdeal.τ).loc Cert.WholeIdeal.main_arg0))

def preserves_Feed_FeedIdeal : Prop :=
  True

def algebraic_FeedIdeal_ExpertsIdeal [hFeedIdeal : Cert.FeedIdeal.Facts] [hExpertsIdeal : Cert.ExpertsIdeal.Facts] [hPre_among : Cert.Pre_among.Facts] : Prop :=
  ∀ (m : (ℓ : Loc Cert.FeedIdeal.nD Cert.FeedIdeal.τ Cert.FeedIdeal.sig) → Buf (Elt Ideal) ℓ) (g : Dev Cert.FeedIdeal.nD → PrngReg)
    (m' : (ℓ : Loc Cert.ExpertsIdeal.nD Cert.ExpertsIdeal.τ Cert.ExpertsIdeal.sig) → Buf (Elt Ideal) ℓ) (g' : Dev Cert.ExpertsIdeal.nD → PrngReg), Pre_FeedIdeal m →
    (∀ c : Dev Cert.FeedIdeal.nD,
      m' ((c.tc : Thread Cert.ExpertsIdeal.nD Cert.ExpertsIdeal.τ).loc Cert.ExpertsIdeal.main_arg0) = m ((c.tc : Thread Cert.FeedIdeal.nD Cert.FeedIdeal.τ).loc Cert.FeedIdeal.main_arg0)
      ∧ m' ((c.tc : Thread Cert.ExpertsIdeal.nD Cert.ExpertsIdeal.τ).loc Cert.ExpertsIdeal.main_arg1) = m ((c.tc : Thread Cert.FeedIdeal.nD Cert.FeedIdeal.τ).loc Cert.FeedIdeal.main_arg1)
      ∧ m' ((c.tc : Thread Cert.ExpertsIdeal.nD Cert.ExpertsIdeal.τ).loc Cert.ExpertsIdeal.main_arg2) = m ((c.tc : Thread Cert.FeedIdeal.nD Cert.FeedIdeal.τ).loc Cert.FeedIdeal.main_arg2)
      ∧ m' ((c.tc : Thread Cert.ExpertsIdeal.nD Cert.ExpertsIdeal.τ).loc Cert.ExpertsIdeal.main_arg3) = m ((c.tc : Thread Cert.FeedIdeal.nD Cert.FeedIdeal.τ).loc Cert.FeedIdeal.main_arg3)) →
    ∃ (v0 : (c : Dev Cert.FeedIdeal.nD) → Buf (Elt Ideal) ((c.tc : Thread Cert.FeedIdeal.nD Cert.FeedIdeal.τ).loc Cert.FeedIdeal.main_v0)),
      θ_run (Cert.FeedIdeal.defs (F := Ideal)) (onTc (τ := Cert.FeedIdeal.τ) (Cert.FeedIdeal.main (F := Ideal))) ⟨m, fun _ => 0, g⟩ (fun r => ∀ c : Dev Cert.FeedIdeal.nD,
          r.2.mem ((c.tc : Thread Cert.FeedIdeal.nD Cert.FeedIdeal.τ).loc Cert.FeedIdeal.main_v0) = v0 c
          ∧ r.2.mem ((c.tc : Thread Cert.FeedIdeal.nD Cert.FeedIdeal.τ).loc Cert.FeedIdeal.main_arg0) = m ((c.tc : Thread Cert.FeedIdeal.nD Cert.FeedIdeal.τ).loc Cert.FeedIdeal.main_arg0)
          ∧ r.2.mem ((c.tc : Thread Cert.FeedIdeal.nD Cert.FeedIdeal.τ).loc Cert.FeedIdeal.main_arg1) = m ((c.tc : Thread Cert.FeedIdeal.nD Cert.FeedIdeal.τ).loc Cert.FeedIdeal.main_arg1)
          ∧ r.2.mem ((c.tc : Thread Cert.FeedIdeal.nD Cert.FeedIdeal.τ).loc Cert.FeedIdeal.main_arg2) = m ((c.tc : Thread Cert.FeedIdeal.nD Cert.FeedIdeal.τ).loc Cert.FeedIdeal.main_arg2)
          ∧ r.2.mem ((c.tc : Thread Cert.FeedIdeal.nD Cert.FeedIdeal.τ).loc Cert.FeedIdeal.main_arg3) = m ((c.tc : Thread Cert.FeedIdeal.nD Cert.FeedIdeal.τ).loc Cert.FeedIdeal.main_arg3))
      ∧ θ_run (Cert.ExpertsIdeal.defs (F := Ideal)) (onTc (τ := Cert.ExpertsIdeal.τ) (Cert.ExpertsIdeal.main (F := Ideal))) ⟨m', fun _ => 0, g'⟩ (fun r => ∀ c : Dev Cert.ExpertsIdeal.nD,
          r.2.mem ((c.tc : Thread Cert.ExpertsIdeal.nD Cert.ExpertsIdeal.τ).loc Cert.ExpertsIdeal.main_v17) = v0 c
          ∧ r.2.mem ((c.tc : Thread Cert.ExpertsIdeal.nD Cert.ExpertsIdeal.τ).loc Cert.ExpertsIdeal.main_arg0) = m' ((c.tc : Thread Cert.ExpertsIdeal.nD Cert.ExpertsIdeal.τ).loc Cert.ExpertsIdeal.main_arg0)
          ∧ r.2.mem ((c.tc : Thread Cert.ExpertsIdeal.nD Cert.ExpertsIdeal.τ).loc Cert.ExpertsIdeal.main_arg1) = m' ((c.tc : Thread Cert.ExpertsIdeal.nD Cert.ExpertsIdeal.τ).loc Cert.ExpertsIdeal.main_arg1)
          ∧ r.2.mem ((c.tc : Thread Cert.ExpertsIdeal.nD Cert.ExpertsIdeal.τ).loc Cert.ExpertsIdeal.main_arg2) = m' ((c.tc : Thread Cert.ExpertsIdeal.nD Cert.ExpertsIdeal.τ).loc Cert.ExpertsIdeal.main_arg2)
          ∧ r.2.mem ((c.tc : Thread Cert.ExpertsIdeal.nD Cert.ExpertsIdeal.τ).loc Cert.ExpertsIdeal.main_arg3) = m' ((c.tc : Thread Cert.ExpertsIdeal.nD Cert.ExpertsIdeal.τ).loc Cert.ExpertsIdeal.main_arg3))

def Claim : Prop :=
  ∃ (hKernel : Cert.Kernel.Facts) (hKernelIdeal : Cert.KernelIdeal.Facts) (hReferenceIdeal : Cert.ReferenceIdeal.Facts) (hExchange : Cert.Exchange.Facts) (hExchangeIdeal : Cert.ExchangeIdeal.Facts) (hDispatchIdeal : Cert.DispatchIdeal.Facts) (hGather : Cert.Gather.Facts) (hGatherIdeal : Cert.GatherIdeal.Facts) (hWholeIdeal : Cert.WholeIdeal.Facts) (hFeed : Cert.Feed.Facts) (hFeedIdeal : Cert.FeedIdeal.Facts) (hExpertsIdeal : Cert.ExpertsIdeal.Facts) (hPre_among : Cert.Pre_among.Facts),
    quiescent_Kernel (hKernel := hKernel)
    ∧ quiescent_KernelIdeal (hKernelIdeal := hKernelIdeal)
    ∧ quiescent_ReferenceIdeal (hReferenceIdeal := hReferenceIdeal)
    ∧ quiescent_Exchange (hExchange := hExchange)
    ∧ quiescent_ExchangeIdeal (hExchangeIdeal := hExchangeIdeal)
    ∧ quiescent_DispatchIdeal (hDispatchIdeal := hDispatchIdeal)
    ∧ quiescent_Gather (hGather := hGather)
    ∧ quiescent_GatherIdeal (hGatherIdeal := hGatherIdeal)
    ∧ quiescent_WholeIdeal (hWholeIdeal := hWholeIdeal)
    ∧ quiescent_Feed (hFeed := hFeed) (hPre_among := hPre_among)
    ∧ quiescent_FeedIdeal (hFeedIdeal := hFeedIdeal) (hPre_among := hPre_among)
    ∧ quiescent_ExpertsIdeal (hExpertsIdeal := hExpertsIdeal)
    ∧ quiescent_ExpertsIdeal_pre_among (hExpertsIdeal := hExpertsIdeal) (hPre_among := hPre_among)
    ∧ preserves_Kernel_KernelIdeal
    ∧ algebraic_KernelIdeal_ReferenceIdeal (hKernelIdeal := hKernelIdeal) (hReferenceIdeal := hReferenceIdeal)
    ∧ preserves_Exchange_ExchangeIdeal
    ∧ algebraic_ExchangeIdeal_DispatchIdeal (hExchangeIdeal := hExchangeIdeal) (hDispatchIdeal := hDispatchIdeal)
    ∧ preserves_Gather_GatherIdeal
    ∧ algebraic_GatherIdeal_WholeIdeal (hGatherIdeal := hGatherIdeal) (hWholeIdeal := hWholeIdeal)
    ∧ preserves_Feed_FeedIdeal
    ∧ algebraic_FeedIdeal_ExpertsIdeal (hFeedIdeal := hFeedIdeal) (hExpertsIdeal := hExpertsIdeal) (hPre_among := hPre_among)
-- ==== Pre_among.lean ====
abbrev S4 : Shape := ⟨1, ![4]⟩
abbrev S4x336x1024 : Shape := ⟨3, ![4, 336, 1024]⟩
abbrev S8x1024x4096 : Shape := ⟨3, ![8, 1024, 4096]⟩
abbrev S8x4096x1024 : Shape := ⟨3, ![8, 4096, 1024]⟩
abbrev S_ : Shape := ⟨0, ![]⟩

class Facts : Prop where
  bcast_S_S4 : S_.BroadcastsInDim S4 (![] : Fin 0 → Fin S4.rank)
  reducesTo_S4_S_d0 : S4.ReducesTo [0] S_
  h_S_ : 0 < S_.numel

variable [Facts]

def fn {F : FTy → Type} [FloatOps F] (main_arg0 : IVec S4 32) (main_arg1 : FVec F S4x336x1024 .f32) (main_arg2 : FVec F S8x1024x4096 .f32) (main_arg3 : FVec F S8x4096x1024 .f32) : IVec S_ 1 :=
  let main_c : IVec S_ 32 := constantI S_ 32 0#32
  let main_v0 : IVec S4 32 := broadcastInDim S4 ![] bcast_S_S4 main_c
  let main_v1 : IVec S4 1 := cmpi .sge main_arg0 main_v0
  let main_c_0 : IVec S_ 32 := constantI S_ 32 8#32
  let main_v2 : IVec S4 32 := broadcastInDim S4 ![] bcast_S_S4 main_c_0
  let main_v3 : IVec S4 1 := cmpi .slt main_arg0 main_v2
  let main_v4 : IVec S4 1 := andi main_v1 main_v3
  let main_c_1 : IVec S_ 1 := constantI S_ 1 1#1
  let main_v5 : IVec S_ 1 := (fun x v => Host.reduce IntOp.andi x v reducesTo_S4_S_d0 h_S_) main_v4 main_c_1
  main_v5
-- ==== Kernel.lean ====
abbrev S2048x1024 : Shape := ⟨2, ![2048, 1024]⟩
abbrev S1024x1024 : Shape := ⟨2, ![1024, 1024]⟩
abbrev S8 : Shape := ⟨1, ![8]⟩
abbrev S_ : Shape := ⟨0, ![]⟩
abbrev S1024x128 : Shape := ⟨2, ![1024, 128]⟩
abbrev S1 : Shape := ⟨1, ![1]⟩

abbrev nBuf : Space → Nat
  | .hbm => 2
  | .vmem => 6
  | .smem => 0
  | _ => 0

abbrev bufTy : (tb : Table) → Fin (tcTables nBuf tb) → BufTy
  | .hbm, ⟨0, _⟩ => ⟨S2048x1024, .f32⟩
  | .hbm, ⟨1, _⟩ => ⟨S1024x1024, .f32⟩
  | .local _ .vmem, ⟨0, _⟩ => ⟨S2048x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  (ofTc nBuf bufTy 1 34 bufScoped semScoped dmaSemScoped tileCredit tileCredit_eq_zero tileCredit_pos).withBarriers [(1, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_sem0_0 : DmaSem sig := 0
abbrev cc0_sem1_0 : DmaSem sig := 1
abbrev barrier1 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_5 : BitVec 32 := 2#32
  let v9 : BitVec 32 := Scalar.muli v6 c2_i32_5
  let v10 : BitVec 32 := Scalar.addi c0_i32 v9
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_6 : BitVec 32 := 1#32
  let v11 : BitVec 32 := Scalar.muli v5 c1_i32_6
  let v12 : BitVec 32 := Scalar.addi v10 v11
  v12.toNat
def k0_dev2 (d0 : Dev nD) : Nat :=
  let c0_i32_9 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_8 : BitVec 32 := 2#32
  let v13 : BitVec 32 := Scalar.muli v2 c2_i32_8
  let v14 : BitVec 32 := Scalar.addi c0_i32_9 v13
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_10 : BitVec 32 := 1#32
  let v15 : BitVec 32 := Scalar.muli v7 c1_i32_10
  let v16 : BitVec 32 := Scalar.addi v14 v15
  v16.toNat
def k0_off1 (d0 : Dev nD) : Fin 2 → Nat :=
  let c1_i32_12 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v17 : BitVec 32 := Scalar.subi c1_i32_12 v2
  let c1024_i32 : BitVec 32 := 1024#32
  let v18 : BitVec 32 := Scalar.muli v17 c1024_i32
  let v19 : Index := Scalar.indexCast v18
  let c0 : Index := 0#32
  ![v19.toNat, 0]
def k0_dev3 (d0 : Dev nD) : Nat :=
  let c0_i32_18 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_17 : BitVec 32 := 2#32
  let v26 : BitVec 32 := Scalar.muli v6 c2_i32_17
  let v27 : BitVec 32 := Scalar.addi c0_i32_18 v26
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_19 : BitVec 32 := 1#32
  let v28 : BitVec 32 := Scalar.muli v5 c1_i32_19
  let v29 : BitVec 32 := Scalar.addi v27 v28
  v29.toNat
def k0_off2 (d0 : Dev nD) : Fin 2 → Nat :=
  let c1_i32_24 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v36 : BitVec 32 := Scalar.subi c1_i32_24 v2
  let c1024_i32_25 : BitVec 32 := 1024#32
  let v37 : BitVec 32 := Scalar.muli v36 c1024_i32_25
  let v38 : Index := Scalar.indexCast v37
  let c128 : Index := 128#32
  ![v38.toNat, 128]
def k0_dev4 (d0 : Dev nD) : Nat :=
  let c0_i32_31 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_30 : BitVec 32 := 2#32
  let v45 : BitVec 32 := Scalar.muli v6 c2_i32_30
  let v46 : BitVec 32 := Scalar.addi c0_i32_31 v45
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_32 : BitVec 32 := 1#32
  let v47 : BitVec 32 := Scalar.muli v5 c1_i32_32
  let v48 : BitVec 32 := Scalar.addi v46 v47
  v48.toNat
def k0_off3 (d0 : Dev nD) : Fin 2 → Nat :=
  let c1_i32_36 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v55 : BitVec 32 := Scalar.subi c1_i32_36 v2
  let c1024_i32_37 : BitVec 32 := 1024#32
  let v56 : BitVec 32 := Scalar.muli v55 c1024_i32_37
  let v57 : Index := Scalar.indexCast v56
  let c256 : Index := 256#32
  ![v57.toNat, 256]
def k0_dev5 (d0 : Dev nD) : Nat :=
  let c0_i32_43 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_42 : BitVec 32 := 2#32
  let v64 : BitVec 32 := Scalar.muli v6 c2_i32_42
  let v65 : BitVec 32 := Scalar.addi c0_i32_43 v64
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_44 : BitVec 32 := 1#32
  let v66 : BitVec 32 := Scalar.muli v5 c1_i32_44
  let v67 : BitVec 32 := Scalar.addi v65 v66
  v67.toNat
def k0_off4 (d0 : Dev nD) : Fin 2 → Nat :=
  let c1_i32_48 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v74 : BitVec 32 := Scalar.subi c1_i32_48 v2
  let c1024_i32_49 : BitVec 32 := 1024#32
  let v75 : BitVec 32 := Scalar.muli v74 c1024_i32_49
  let v76 : Index := Scalar.indexCast v75
  let c384 : Index := 384#32
  ![v76.toNat, 384]
def k0_dev6 (d0 : Dev nD) : Nat :=
  let c0_i32_54 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_53 : BitVec 32 := 2#32
  let v83 : BitVec 32 := Scalar.muli v6 c2_i32_53
  let v84 : BitVec 32 := Scalar.addi c0_i32_54 v83
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_55 : BitVec 32 := 1#32
  let v85 : BitVec 32 := Scalar.muli v5 c1_i32_55
  let v86 : BitVec 32 := Scalar.addi v84 v85
  v86.toNat
def k0_off5 (d0 : Dev nD) : Fin 2 → Nat :=
  let c1_i32_59 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v93 : BitVec 32 := Scalar.subi c1_i32_59 v2
  let c1024_i32_60 : BitVec 32 := 1024#32
  let v94 : BitVec 32 := Scalar.muli v93 c1024_i32_60
  let v95 : Index := Scalar.indexCast v94
  let c512 : Index := 512#32
  ![v95.toNat, 512]
def k0_dev7 (d0 : Dev nD) : Nat :=
  let c0_i32_65 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_64 : BitVec 32 := 2#32
  let v102 : BitVec 32 := Scalar.muli v6 c2_i32_64
  let v103 : BitVec 32 := Scalar.addi c0_i32_65 v102
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_66 : BitVec 32 := 1#32
  let v104 : BitVec 32 := Scalar.muli v5 c1_i32_66
  let v105 : BitVec 32 := Scalar.addi v103 v104
  v105.toNat
def k0_off6 (d0 : Dev nD) : Fin 2 → Nat :=
  let c1_i32_70 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v112 : BitVec 32 := Scalar.subi c1_i32_70 v2
  let c1024_i32_71 : BitVec 32 := 1024#32
  let v113 : BitVec 32 := Scalar.muli v112 c1024_i32_71
  let v114 : Index := Scalar.indexCast v113
  let c640 : Index := 640#32
  ![v114.toNat, 640]
def k0_dev8 (d0 : Dev nD) : Nat :=
  let c0_i32_76 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_75 : BitVec 32 := 2#32
  let v121 : BitVec 32 := Scalar.muli v6 c2_i32_75
  let v122 : BitVec 32 := Scalar.addi c0_i32_76 v121
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_77 : BitVec 32 := 1#32
  let v123 : BitVec 32 := Scalar.muli v5 c1_i32_77
  let v124 : BitVec 32 := Scalar.addi v122 v123
  v124.toNat
def k0_off7 (d0 : Dev nD) : Fin 2 → Nat :=
  let c1_i32_81 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v131 : BitVec 32 := Scalar.subi c1_i32_81 v2
  let c1024_i32_82 : BitVec 32 := 1024#32
  let v132 : BitVec 32 := Scalar.muli v131 c1024_i32_82
  let v133 : Index := Scalar.indexCast v132
  let c768 : Index := 768#32
  ![v133.toNat, 768]
def k0_dev9 (d0 : Dev nD) : Nat :=
  let c0_i32_87 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_86 : BitVec 32 := 2#32
  let v140 : BitVec 32 := Scalar.muli v6 c2_i32_86
  let v141 : BitVec 32 := Scalar.addi c0_i32_87 v140
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_88 : BitVec 32 := 1#32
  let v142 : BitVec 32 := Scalar.muli v5 c1_i32_88
  let v143 : BitVec 32 := Scalar.addi v141 v142
  v143.toNat
def k0_off8 (d0 : Dev nD) : Fin 2 → Nat :=
  let c1_i32_92 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v150 : BitVec 32 := Scalar.subi c1_i32_92 v2
  let c1024_i32_93 : BitVec 32 := 1024#32
  let v151 : BitVec 32 := Scalar.muli v150 c1024_i32_93
  let v152 : Index := Scalar.indexCast v151
  let c896 : Index := 896#32
  ![v152.toNat, 896]
def k0_dev10 (d0 : Dev nD) : Nat :=
  let c0_i32_98 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_97 : BitVec 32 := 2#32
  let v159 : BitVec 32 := Scalar.muli v6 c2_i32_97
  let v160 : BitVec 32 := Scalar.addi c0_i32_98 v159
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_99 : BitVec 32 := 1#32
  let v161 : BitVec 32 := Scalar.muli v5 c1_i32_99
  let v162 : BitVec 32 := Scalar.addi v160 v161
  v162.toNat
def k0_off9 (d0 : Dev nD) : Fin 2 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c1024_i32_112 : BitVec 32 := 1024#32
  let v177 : BitVec 32 := Scalar.muli v2 c1024_i32_112
  let v178 : Index := Scalar.indexCast v177
  let c0_113 : Index := 0#32
  ![v178.toNat, 0]
def k0_dev11 (d0 : Dev nD) : Nat :=
  let c0_i32_125 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_124 : BitVec 32 := 2#32
  let v191 : BitVec 32 := Scalar.muli v2 c2_i32_124
  let v192 : BitVec 32 := Scalar.addi c0_i32_125 v191
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_126 : BitVec 32 := 1#32
  let v193 : BitVec 32 := Scalar.muli v7 c1_i32_126
  let v194 : BitVec 32 := Scalar.addi v192 v193
  v194.toNat
def k0_off10 (d0 : Dev nD) : Fin 2 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c1024_i32_140 : BitVec 32 := 1024#32
  let v209 : BitVec 32 := Scalar.muli v2 c1024_i32_140
  let v210 : Index := Scalar.indexCast v209
  let c128_141 : Index := 128#32
  ![v210.toNat, 128]
def k0_dev12 (d0 : Dev nD) : Nat :=
  let c0_i32_153 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_152 : BitVec 32 := 2#32
  let v223 : BitVec 32 := Scalar.muli v2 c2_i32_152
  let v224 : BitVec 32 := Scalar.addi c0_i32_153 v223
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_154 : BitVec 32 := 1#32
  let v225 : BitVec 32 := Scalar.muli v7 c1_i32_154
  let v226 : BitVec 32 := Scalar.addi v224 v225
  v226.toNat
def k0_off11 (d0 : Dev nD) : Fin 2 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c1024_i32_168 : BitVec 32 := 1024#32
  let v241 : BitVec 32 := Scalar.muli v2 c1024_i32_168
  let v242 : Index := Scalar.indexCast v241
  let c256_169 : Index := 256#32
  ![v242.toNat, 256]
def k0_dev13 (d0 : Dev nD) : Nat :=
  let c0_i32_181 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_180 : BitVec 32 := 2#32
  let v255 : BitVec 32 := Scalar.muli v2 c2_i32_180
  let v256 : BitVec 32 := Scalar.addi c0_i32_181 v255
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_182 : BitVec 32 := 1#32
  let v257 : BitVec 32 := Scalar.muli v7 c1_i32_182
  let v258 : BitVec 32 := Scalar.addi v256 v257
  v258.toNat
def k0_off12 (d0 : Dev nD) : Fin 2 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c1024_i32_196 : BitVec 32 := 1024#32
  let v273 : BitVec 32 := Scalar.muli v2 c1024_i32_196
  let v274 : Index := Scalar.indexCast v273
  let c384_197 : Index := 384#32
  ![v274.toNat, 384]
def k0_dev14 (d0 : Dev nD) : Nat :=
  let c0_i32_209 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_208 : BitVec 32 := 2#32
  let v287 : BitVec 32 := Scalar.muli v2 c2_i32_208
  let v288 : BitVec 32 := Scalar.addi c0_i32_209 v287
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_210 : BitVec 32 := 1#32
  let v289 : BitVec 32 := Scalar.muli v7 c1_i32_210
  let v290 : BitVec 32 := Scalar.addi v288 v289
  v290.toNat
def k0_off13 (d0 : Dev nD) : Fin 2 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c1024_i32_224 : BitVec 32 := 1024#32
  let v305 : BitVec 32 := Scalar.muli v2 c1024_i32_224
  let v306 : Index := Scalar.indexCast v305
  let c512_225 : Index := 512#32
  ![v306.toNat, 512]
def k0_dev15 (d0 : Dev nD) : Nat :=
  let c0_i32_237 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_236 : BitVec 32 := 2#32
  let v319 : BitVec 32 := Scalar.muli v2 c2_i32_236
  let v320 : BitVec 32 := Scalar.addi c0_i32_237 v319
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_238 : BitVec 32 := 1#32
  let v321 : BitVec 32 := Scalar.muli v7 c1_i32_238
  let v322 : BitVec 32 := Scalar.addi v320 v321
  v322.toNat
def k0_off14 (d0 : Dev nD) : Fin 2 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c1024_i32_252 : BitVec 32 := 1024#32
  let v337 : BitVec 32 := Scalar.muli v2 c1024_i32_252
  let v338 : Index := Scalar.indexCast v337
  let c640_253 : Index := 640#32
  ![v338.toNat, 640]
def k0_dev16 (d0 : Dev nD) : Nat :=
  let c0_i32_265 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_264 : BitVec 32 := 2#32
  let v351 : BitVec 32 := Scalar.muli v2 c2_i32_264
  let v352 : BitVec 32 := Scalar.addi c0_i32_265 v351
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_266 : BitVec 32 := 1#32
  let v353 : BitVec 32 := Scalar.muli v7 c1_i32_266
  let v354 : BitVec 32 := Scalar.addi v352 v353
  v354.toNat
def k0_off15 (d0 : Dev nD) : Fin 2 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c1024_i32_280 : BitVec 32 := 1024#32
  let v369 : BitVec 32 := Scalar.muli v2 c1024_i32_280
  let v370 : Index := Scalar.indexCast v369
  let c768_281 : Index := 768#32
  ![v370.toNat, 768]
def k0_dev17 (d0 : Dev nD) : Nat :=
  let c0_i32_293 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_292 : BitVec 32 := 2#32
  let v383 : BitVec 32 := Scalar.muli v2 c2_i32_292
  let v384 : BitVec 32 := Scalar.addi c0_i32_293 v383
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_294 : BitVec 32 := 1#32
  let v385 : BitVec 32 := Scalar.muli v7 c1_i32_294
  let v386 : BitVec 32 := Scalar.addi v384 v385
  v386.toNat
def k0_off16 (d0 : Dev nD) : Fin 2 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c1024_i32_308 : BitVec 32 := 1024#32
  let v401 : BitVec 32 := Scalar.muli v2 c1024_i32_308
  let v402 : Index := Scalar.indexCast v401
  let c896_309 : Index := 896#32
  ![v402.toNat, 896]
def k0_dev18 (d0 : Dev nD) : Nat :=
  let c0_i32_321 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_320 : BitVec 32 := 2#32
  let v415 : BitVec 32 := Scalar.muli v2 c2_i32_320
  let v416 : BitVec 32 := Scalar.addi c0_i32_321 v415
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_322 : BitVec 32 := 1#32
  let v417 : BitVec 32 := Scalar.muli v7 c1_i32_322
  let v418 : BitVec 32 := Scalar.addi v416 v417
  v418.toNat
abbrev stage0_0 : Fin 1 → Memref sig .tc .vmem S2048x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S4096x2048 : Shape := ⟨2, ![4096, 2048]⟩
abbrev S2x2048x2x1024 : Shape := ⟨4, ![2, 2048, 2, 1024]⟩
abbrev S_ : Shape := ⟨0, ![]⟩
abbrev S2048x1024 : Shape := ⟨2, ![2048, 1024]⟩

abbrev nBuf : Space → Nat
  | .hbm => 4
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2x2048x2x1024, .f32⟩
  | .hbm, ⟨2, _⟩ => ⟨S_, .f32⟩
  | .hbm, ⟨3, _⟩ => ⟨S2048x1024, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Exchange.lean ====
abbrev S8x1024 : Shape := ⟨2, ![8, 1024]⟩
abbrev S1024x1024 : Shape := ⟨2, ![1024, 1024]⟩
abbrev S672x1024 : Shape := ⟨2, ![672, 1024]⟩
abbrev S4x336x1024 : Shape := ⟨3, ![4, 336, 1024]⟩
abbrev S2 : Shape := ⟨1, ![2]⟩
abbrev S_ : Shape := ⟨0, ![]⟩
abbrev S1 : Shape := ⟨1, ![1]⟩
abbrev S168x1024 : Shape := ⟨2, ![168, 1024]⟩
abbrev S1x168x1024 : Shape := ⟨3, ![1, 168, 1024]⟩
abbrev S1x1024 : Shape := ⟨2, ![1, 1024]⟩

abbrev nBuf : Space → Nat
  | .hbm => 6
  | .vmem => 7
  | .smem => 0
  | _ => 0

abbrev bufTy : (tb : Table) → Fin (tcTables nBuf tb) → BufTy
  | .hbm, ⟨0, _⟩ => ⟨S8x1024, .f32⟩
  | .hbm, ⟨1, _⟩ => ⟨S1024x1024, .bf16⟩
  | .hbm, ⟨2, _⟩ => ⟨S672x1024, .f32⟩
  | .hbm, ⟨3, _⟩ => ⟨S1024x1024, .f32⟩
  | .hbm, ⟨4, _⟩ => ⟨S8x1024, .f32⟩
  | .hbm, ⟨5, _⟩ => ⟨S4x336x1024, .f32⟩
  | .local _ .vmem, ⟨0, _⟩ => ⟨S8x1024, .f32⟩
  | .local _ .vmem, ⟨1, _⟩ => ⟨S1024x1024, .bf16⟩
  | .local _ .vmem, ⟨2, _⟩ => ⟨S672x1024, .f32⟩
  | .local _ .vmem, ⟨3, _⟩ => ⟨S1024x1024, .f32⟩
  | .local _ .vmem, ⟨4, _⟩ => ⟨S8x1024, .f32⟩
  | .local _ .vmem, ⟨5, _⟩ => ⟨S4x336x1024, .f32⟩
  | .local _ .vmem, ⟨6, _⟩ => ⟨S1024x1024, .bf16⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  (ofTc nBuf bufTy 1 10 bufScoped semScoped dmaSemScoped tileCredit tileCredit_eq_zero tileCredit_pos).withBarriers [(2, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier2 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_4 : BitVec 32 := 2#32
  let v11 : BitVec 32 := Scalar.muli v6 c2_i32_4
  let v12 : BitVec 32 := Scalar.addi c0_i32 v11
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_5 : BitVec 32 := 1#32
  let v13 : BitVec 32 := Scalar.muli v5 c1_i32_5
  let v14 : BitVec 32 := Scalar.addi v12 v13
  v14.toNat
def k0_dev2 (d0 : Dev nD) : Nat :=
  let c0_i32_10 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_9 : BitVec 32 := 2#32
  let v15 : BitVec 32 := Scalar.muli v6 c2_i32_9
  let v16 : BitVec 32 := Scalar.addi c0_i32_10 v15
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_11 : BitVec 32 := 1#32
  let v17 : BitVec 32 := Scalar.muli v5 c1_i32_11
  let v18 : BitVec 32 := Scalar.addi v16 v17
  v18.toNat
def k0_dev3 (d0 : Dev nD) : Nat :=
  let c0_i32_15 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_14 : BitVec 32 := 2#32
  let v23 : BitVec 32 := Scalar.muli v6 c2_i32_14
  let v24 : BitVec 32 := Scalar.addi c0_i32_15 v23
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_16 : BitVec 32 := 1#32
  let v25 : BitVec 32 := Scalar.muli v5 c1_i32_16
  let v26 : BitVec 32 := Scalar.addi v24 v25
  v26.toNat
abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S672x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4x336x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== DispatchIdeal.lean ====
abbrev S16x1024 : Shape := ⟨2, ![16, 1024]⟩
abbrev S2048x1024 : Shape := ⟨2, ![2048, 1024]⟩
abbrev S2688x1024 : Shape := ⟨2, ![2688, 1024]⟩
abbrev S2x8x1024 : Shape := ⟨3, ![2, 8, 1024]⟩
abbrev S2x2x1024 : Shape := ⟨3, ![2, 2, 1024]⟩
abbrev S4 : Shape := ⟨1, ![4]⟩
abbrev S_ : Shape := ⟨0, ![]⟩
abbrev S2x2x1x1 : Shape := ⟨4, ![2, 2, 1, 1]⟩
abbrev S2x1x2x1024 : Shape := ⟨4, ![2, 1, 2, 1024]⟩
abbrev S2x2x2x1024 : Shape := ⟨4, ![2, 2, 2, 1024]⟩
abbrev S672 : Shape := ⟨1, ![672]⟩
abbrev S672x1 : Shape := ⟨2, ![672, 1]⟩
abbrev S2x2x2x1x1024 : Shape := ⟨5, ![2, 2, 2, 1, 1024]⟩
abbrev S1x1x1x672x1 : Shape := ⟨5, ![1, 1, 1, 672, 1]⟩
abbrev S2x2x2x672x1024 : Shape := ⟨5, ![2, 2, 2, 672, 1024]⟩
abbrev S2x2x672x1024 : Shape := ⟨4, ![2, 2, 672, 1024]⟩
abbrev S2x1024x1024 : Shape := ⟨3, ![2, 1024, 1024]⟩
abbrev S16x168x1024 : Shape := ⟨3, ![16, 168, 1024]⟩
abbrev S16x336x1024 : Shape := ⟨3, ![16, 336, 1024]⟩

abbrev nBuf : Space → Nat
  | .hbm => 62
  | .vmem => 0
  | .smem => 0
  | _ => 0

abbrev bufTy : (tb : Table) → Fin (tcTables nBuf tb) → BufTy
  | .hbm, ⟨0, _⟩ => ⟨S16x1024, .f32⟩
  | .hbm, ⟨1, _⟩ => ⟨S2048x1024, .bf16⟩
  | .hbm, ⟨2, _⟩ => ⟨S2688x1024, .f32⟩
  | .hbm, ⟨3, _⟩ => ⟨S2048x1024, .f32⟩
  | .hbm, ⟨4, _⟩ => ⟨S2x8x1024, .f32⟩
  | .hbm, ⟨5, _⟩ => ⟨S2x8x1024, .f32⟩
  | .hbm, ⟨6, _⟩ => ⟨S2x2x1024, .f32⟩
  | .hbm, ⟨7, _⟩ => ⟨S2x2x1024, .i32⟩
  | .hbm, ⟨8, _⟩ => ⟨S2x2x1024, .f32⟩
  | .hbm, ⟨9, _⟩ => ⟨S2x2x1024, .i32⟩
  | .hbm, ⟨10, _⟩ => ⟨S4, .i32⟩
  | .hbm, ⟨11, _⟩ => ⟨S_, .i32⟩
  | .hbm, ⟨12, _⟩ => ⟨S4, .i32⟩
  | .hbm, ⟨13, _⟩ => ⟨S4, .i32⟩
  | .hbm, ⟨14, _⟩ => ⟨S2x2x1x1, .i32⟩
  | .hbm, ⟨15, _⟩ => ⟨S2x1x2x1024, .i32⟩
  | .hbm, ⟨16, _⟩ => ⟨S2x2x2x1024, .i32⟩
  | .hbm, ⟨17, _⟩ => ⟨S2x2x2x1024, .i32⟩
  | .hbm, ⟨18, _⟩ => ⟨S2x2x2x1024, .i32⟩
  | .hbm, ⟨19, _⟩ => ⟨S_, .i32⟩
  | .hbm, ⟨20, _⟩ => ⟨S2x2x2x1024, .i32⟩
  | .hbm, ⟨21, _⟩ => ⟨S2x2x2x1024, .i1⟩
  | .hbm, ⟨22, _⟩ => ⟨S_, .i32⟩
  | .hbm, ⟨23, _⟩ => ⟨S2x2x2x1024, .i32⟩
  | .hbm, ⟨24, _⟩ => ⟨S2x2x2x1024, .i1⟩
  | .hbm, ⟨25, _⟩ => ⟨S2x2x2x1024, .i1⟩
  | .hbm, ⟨26, _⟩ => ⟨S2x1x2x1024, .i32⟩
  | .hbm, ⟨27, _⟩ => ⟨S_, .i32⟩
  | .hbm, ⟨28, _⟩ => ⟨S2x1x2x1024, .i32⟩
  | .hbm, ⟨29, _⟩ => ⟨S2x1x2x1024, .i1⟩
  | .hbm, ⟨30, _⟩ => ⟨S2x2x2x1024, .i1⟩
  | .hbm, ⟨31, _⟩ => ⟨S2x2x2x1024, .i1⟩
  | .hbm, ⟨32, _⟩ => ⟨S672, .i32⟩
  | .hbm, ⟨33, _⟩ => ⟨S672x1, .i32⟩
  | .hbm, ⟨34, _⟩ => ⟨S2x2x2x1x1024, .i1⟩
  | .hbm, ⟨35, _⟩ => ⟨S_, .i32⟩
  | .hbm, ⟨36, _⟩ => ⟨S2x2x2x1024, .i32⟩
  | .hbm, ⟨37, _⟩ => ⟨S2x2x2x1024, .i32⟩
  | .hbm, ⟨38, _⟩ => ⟨S2x1x2x1024, .i32⟩
  | .hbm, ⟨39, _⟩ => ⟨S2x2x2x1024, .i32⟩
  | .hbm, ⟨40, _⟩ => ⟨S2x2x2x1024, .i32⟩
  | .hbm, ⟨41, _⟩ => ⟨S2x2x2x1x1024, .i32⟩
  | .hbm, ⟨42, _⟩ => ⟨S1x1x1x672x1, .i32⟩
  | .hbm, ⟨43, _⟩ => ⟨S2x2x2x672x1024, .i32⟩
  | .hbm, ⟨44, _⟩ => ⟨S2x2x2x672x1024, .i32⟩
  | .hbm, ⟨45, _⟩ => ⟨S2x2x2x672x1024, .i1⟩
  | .hbm, ⟨46, _⟩ => ⟨S2x2x2x672x1024, .i1⟩
  | .hbm, ⟨47, _⟩ => ⟨S2x2x2x672x1024, .i1⟩
  | .hbm, ⟨48, _⟩ => ⟨S2x2x2x672x1024, .f32⟩
  | .hbm, ⟨49, _⟩ => ⟨S_, .f32⟩
  | .hbm, ⟨50, _⟩ => ⟨S2x2x672x1024, .f32⟩
  | .hbm, ⟨51, _⟩ => ⟨S2x1024x1024, .bf16⟩
  | .hbm, ⟨52, _⟩ => ⟨S2x1024x1024, .bf16⟩
  | .hbm, ⟨53, _⟩ => ⟨S2x1024x1024, .f32⟩
  | .hbm, ⟨54, _⟩ => ⟨S2x2x672x1024, .f32⟩
  | .hbm, ⟨55, _⟩ => ⟨S2x2x672x1024, .f32⟩
  | .hbm, ⟨56, _⟩ => ⟨S2x1024x1024, .f32⟩
  | .hbm, ⟨57, _⟩ => ⟨S2x2x672x1024, .f32⟩
  | .hbm, ⟨58, _⟩ => ⟨S16x1024, .f32⟩
  | .hbm, ⟨59, _⟩ => ⟨S16x168x1024, .f32⟩
  | .hbm, ⟨60, _⟩ => ⟨S16x168x1024, .f32⟩
  | .hbm, ⟨61, _⟩ => ⟨S16x336x1024, .f32⟩
  | _, _ => ⟨S16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_c_0 : Ref sig .tc := ⟨.hbm, 19, rfl⟩
abbrev main_v14 : Ref sig .tc := ⟨.hbm, 20, rfl⟩
abbrev main_v15 : Ref sig .tc := ⟨.hbm, 21, rfl⟩
abbrev main_c_1 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_c_2 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_c_3 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_cst : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩

abbrev nD : Nat := 1
abbrev τ : Topo := Topo.v7x

variable {F : FTy → Type} [FloatOps F]
-- ==== Gather.lean ====
abbrev S8x1024 : Shape := ⟨2, ![8, 1024]⟩
abbrev S16x1024 : Shape := ⟨2, ![16, 1024]⟩
abbrev S_ : Shape := ⟨0, ![]⟩

abbrev nBuf : Space → Nat
  | .hbm => 2
  | .vmem => 2
  | .smem => 0
  | _ => 0

abbrev bufTy : (tb : Table) → Fin (tcTables nBuf tb) → BufTy
  | .hbm, ⟨0, _⟩ => ⟨S8x1024, .f32⟩
  | .hbm, ⟨1, _⟩ => ⟨S16x1024, .f32⟩
  | .local _ .vmem, ⟨0, _⟩ => ⟨S8x1024, .f32⟩
  | .local _ .vmem, ⟨1, _⟩ => ⟨S16x1024, .f32⟩
  | _, _ => ⟨S8x1024, .f32⟩

abbrev bufScoped : (cs : CoreSpace) → Fin (nBuf (.core cs)) → Bool
  | .vmem, ⟨0, _⟩ => true
  | .vmem, ⟨1, _⟩ => true
  | _, _ => false

abbrev semScoped : Fin 1 → Bool
  | ⟨0, _⟩ => false
  | _ => false

abbrev dmaSemScoped : Fin 4 → Bool
  | ⟨0, _⟩ => true
  | ⟨1, _⟩ => true
  | ⟨2, _⟩ => true
  | ⟨3, _⟩ => true
  | _ => false

abbrev sig : RefSig :=
  (ofTc nBuf bufTy 1 4 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_4 : BitVec 32 := 2#32
  let v8 : BitVec 32 := Scalar.muli v6 c2_i32_4
  let v9 : BitVec 32 := Scalar.addi c0_i32 v8
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_5 : BitVec 32 := 1#32
  let v10 : BitVec 32 := Scalar.muli v5 c1_i32_5
  let v11 : BitVec 32 := Scalar.addi v9 v10
  v11.toNat
def k0_off1 (d0 : Dev nD) : Fin 2 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c8_i32 : BitVec 32 := 8#32
  let v14 : BitVec 32 := Scalar.muli v2 c8_i32
  let v15 : Index := Scalar.indexCast v14
  let c0_8 : Index := 0#32
  ![v15.toNat, 0]
def k0_off2 (d0 : Dev nD) : Fin 2 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c8_i32_9 : BitVec 32 := 8#32
  let v17 : BitVec 32 := Scalar.muli v2 c8_i32_9
  let c0_i32_13 : BitVec 32 := 0#32
  ![v17.toNat, 0]
def k0_dev2 (d0 : Dev nD) : Nat :=
  let c0_i32_11 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_10 : BitVec 32 := 2#32
  let v18 : BitVec 32 := Scalar.muli v6 c2_i32_10
  let v19 : BitVec 32 := Scalar.addi c0_i32_11 v18
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_12 : BitVec 32 := 1#32
  let v20 : BitVec 32 := Scalar.muli v5 c1_i32_12
  let v21 : BitVec 32 := Scalar.addi v19 v20
  v21.toNat
abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== WholeIdeal.lean ====
abbrev S16x1024 : Shape := ⟨2, ![16, 1024]⟩

abbrev nBuf : Space → Nat
  | .hbm => 1
  | .vmem => 0
  | .smem => 0
  | _ => 0

abbrev bufTy : (tb : Table) → Fin (tcTables nBuf tb) → BufTy
  | .hbm, ⟨0, _⟩ => ⟨S16x1024, .f32⟩
  | _, _ => ⟨S16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩

abbrev nD : Nat := 1
abbrev τ : Topo := Topo.v7x

variable {F : FTy → Type} [FloatOps F]
-- ==== Feed.lean ====
abbrev S4 : Shape := ⟨1, ![4]⟩
abbrev S4x336x1024 : Shape := ⟨3, ![4, 336, 1024]⟩
abbrev S8x1024x4096 : Shape := ⟨3, ![8, 1024, 4096]⟩
abbrev S8x4096x1024 : Shape := ⟨3, ![8, 4096, 1024]⟩
abbrev S1x336x1024 : Shape := ⟨3, ![1, 336, 1024]⟩
abbrev S1x1024x1024 : Shape := ⟨3, ![1, 1024, 1024]⟩
abbrev S1 : Shape := ⟨1, ![1]⟩
abbrev S336x1024 : Shape := ⟨2, ![336, 1024]⟩
abbrev S1024x1024 : Shape := ⟨2, ![1024, 1024]⟩

abbrev nBuf : Space → Nat
  | .hbm => 4
  | .vmem => 8
  | .smem => 1
  | _ => 0

abbrev bufTy : (tb : Table) → Fin (tcTables nBuf tb) → BufTy
  | .hbm, ⟨0, _⟩ => ⟨S4x336x1024, .f32⟩
  | .hbm, ⟨1, _⟩ => ⟨S8x1024x4096, .f32⟩
  | .hbm, ⟨2, _⟩ => ⟨S8x4096x1024, .f32⟩
  | .hbm, ⟨3, _⟩ => ⟨S4x336x1024, .f32⟩
  | .local _ .vmem, ⟨0, _⟩ => ⟨S1x336x1024, .f32⟩
  | .local _ .vmem, ⟨1, _⟩ => ⟨S1x336x1024, .f32⟩
  | .local _ .vmem, ⟨2, _⟩ => ⟨S1x1024x1024, .f32⟩
  | .local _ .vmem, ⟨3, _⟩ => ⟨S1x1024x1024, .f32⟩
  | .local _ .vmem, ⟨4, _⟩ => ⟨S1x1024x1024, .f32⟩
  | .local _ .vmem, ⟨5, _⟩ => ⟨S1x1024x1024, .f32⟩
  | .local _ .vmem, ⟨6, _⟩ => ⟨S1x336x1024, .f32⟩
  | .local _ .vmem, ⟨7, _⟩ => ⟨S1x336x1024, .f32⟩
  | .local _ .smem, ⟨0, _⟩ => ⟨S4, .i32⟩
  | _, _ => ⟨S4x336x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_v0 : Ref sig .tc := ⟨.hbm, 3, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 4], ![false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) : BitVec 1 :=
  let arg1 : BitVec 32 := BitVec.ofNat 32 (i 1).val
  let c0_i32 : BitVec 32 := 0#32
  let v10 : BitVec 1 := Scalar.cmpi .eq arg1 c0_i32
  let v11 : BitVec 32 := Scalar.extui v10
  let c0_i32_10 : BitVec 32 := 0#32
  let v12 : BitVec 1 := Scalar.cmpi .ne v11 c0_i32_10
  v12

def k0_cond2 (i : grid0.Coords) : BitVec 1 :=
  let arg1 : BitVec 32 := BitVec.ofNat 32 (i 1).val
  let c0_i32_11 : BitVec 32 := 0#32
  let v13 : BitVec 1 := Scalar.cmpi .ne arg1 c0_i32_11
  let v14 : BitVec 32 := Scalar.extui v13
  let c0_i32_12 : BitVec 32 := 0#32
  let v15 : BitVec 1 := Scalar.cmpi .ne v14 c0_i32_12
  v15

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (k0_off1_inb : ∀ i : grid0.Coords, ∀ a, (k0_off1 i) a + S1.size a ≤ S4.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S4) ![v0.toNat] S1.size (k0_off1_inb i)) numel1_S1
  let c0_i32 : BitVec 32 := 0#32
  let c0_i32_0 : BitVec 32 := 0#32
  ![v1.toNat, c0_i32.toNat, arg1.toNat]

def cc0_transform_2 (k0_off1_inb : ∀ i : grid0.Coords, ∀ a, (k0_off1 i) a + S1.size a ≤ S4.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S4) ![v0.toNat] S1.size (k0_off1_inb i)) numel1_S1
  let c0_i32 : BitVec 32 := 0#32
  let c0_i32_0 : BitVec 32 := 0#32
  ![v1.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x336x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x336x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]
-- ==== ExpertsIdeal.lean ====
abbrev S4 : Shape := ⟨1, ![4]⟩
abbrev S4x336x1024 : Shape := ⟨3, ![4, 336, 1024]⟩
abbrev S8x1024x4096 : Shape := ⟨3, ![8, 1024, 4096]⟩
abbrev S8x4096x1024 : Shape := ⟨3, ![8, 4096, 1024]⟩
abbrev S_ : Shape := ⟨0, ![]⟩
abbrev S4x1 : Shape := ⟨2, ![4, 1]⟩
abbrev S4x1024x4096 : Shape := ⟨3, ![4, 1024, 4096]⟩
abbrev S4x336x4096 : Shape := ⟨3, ![4, 336, 4096]⟩
abbrev S4x4096x1024 : Shape := ⟨3, ![4, 4096, 1024]⟩

abbrev nBuf : Space → Nat
  | .hbm => 27
  | .vmem => 0
  | .smem => 0
  | _ => 0

abbrev bufTy : (tb : Table) → Fin (tcTables nBuf tb) → BufTy
  | .hbm, ⟨0, _⟩ => ⟨S4, .i32⟩
  | .hbm, ⟨1, _⟩ => ⟨S4x336x1024, .f32⟩
  | .hbm, ⟨2, _⟩ => ⟨S8x1024x4096, .f32⟩
  | .hbm, ⟨3, _⟩ => ⟨S8x4096x1024, .f32⟩
  | .hbm, ⟨4, _⟩ => ⟨S_, .i32⟩
  | .hbm, ⟨5, _⟩ => ⟨S4, .i32⟩
  | .hbm, ⟨6, _⟩ => ⟨S4, .i1⟩
  | .hbm, ⟨7, _⟩ => ⟨S_, .i32⟩
  | .hbm, ⟨8, _⟩ => ⟨S4, .i32⟩
  | .hbm, ⟨9, _⟩ => ⟨S4, .i32⟩
  | .hbm, ⟨10, _⟩ => ⟨S4, .i32⟩
  | .hbm, ⟨11, _⟩ => ⟨S4x1, .i32⟩
  | .hbm, ⟨12, _⟩ => ⟨S4x1024x4096, .f32⟩
  | .hbm, ⟨13, _⟩ => ⟨S4x336x4096, .f32⟩
  | .hbm, ⟨14, _⟩ => ⟨S_, .f32⟩
  | .hbm, ⟨15, _⟩ => ⟨S4x336x4096, .f32⟩
  | .hbm, ⟨16, _⟩ => ⟨S4x336x4096, .f32⟩
  | .hbm, ⟨17, _⟩ => ⟨S_, .i32⟩
  | .hbm, ⟨18, _⟩ => ⟨S4, .i32⟩
  | .hbm, ⟨19, _⟩ => ⟨S4, .i1⟩
  | .hbm, ⟨20, _⟩ => ⟨S_, .i32⟩
  | .hbm, ⟨21, _⟩ => ⟨S4, .i32⟩
  | .hbm, ⟨22, _⟩ => ⟨S4, .i32⟩
  | .hbm, ⟨23, _⟩ => ⟨S4, .i32⟩
  | .hbm, ⟨24, _⟩ => ⟨S4x1, .i32⟩
  | .hbm, ⟨25, _⟩ => ⟨S4x4096x1024, .f32⟩
  | .hbm, ⟨26, _⟩ => ⟨S4x336x1024, .f32⟩
  | _, _ => ⟨S4, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_c_1 : Ref sig .tc := ⟨.hbm, 17, rfl⟩
abbrev main_v10 : Ref sig .tc := ⟨.hbm, 18, rfl⟩
abbrev main_v11 : Ref sig .tc := ⟨.hbm, 19, rfl⟩
abbrev main_c_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩

abbrev nD : Nat := 1
abbrev τ : Topo := Topo.v7x

variable {F : FTy → Type} [FloatOps F]
-- ==== Proof.Meet.lean ====
/-
# One meeting of several devices, stated once

Every kernel of this problem that talks to other devices follows one plan. Each device has a finite set of semaphore
cells, indexed by a type `κ`; each cell is waited on once, by its owner, for all the units it will ever get. The units of
a cell come in one or two *duties* (named by `Bool`), each paid in one go by one device: a signal of another device, or
the arrival of a copy. Paying a duty hands the cell's owner a *payload*: the buffers, with their contents, that the owner
may use once it has waited.

This module says what such a plan is (`Meet`), what a device starts from (`Meet.start`: the cells' invariants, its place at
each of its own cells, the right to pay each duty it pays, credit for what it waits for), and proves that a launch
provides it (`Meet.fund`, `Meet.deal`, `Meet.credits`), that the waits are in order (`Meet.mayWait`), and that at the end the
cells' counters are zero (`Meet.closeAll`).
-/
module

public import Idealize.ShloMosaic.Lib.Pipeline.Launch
public import Idealize.ShloMosaic.Lib.Pipeline.Kit
public import Idealize.ShloMosaic.Lib.Rounds
public import Idealize.ShloMosaic.Lib.Tactic

@[expose] public section

noncomputable section

namespace Cert.Meeting

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {nD : ℕ} {τ : Topo} {sig : RefSig} {Val : EltTy → Type} {κ : Type} [Fintype κ] [DecidableEq κ]

/-- The ghost state: the staging pipeline's and the meeting's. -/
abbrev UU (nD : ℕ) (τ : Topo) (sig : RefSig) : Type := UR sig nD τ × URounds (GSem nD τ sig) Bool

local notation "𝕄" => MT nD τ sig Unit Val ℕ (UU nD τ sig) ℕ

/-- The pipeline's part of the ghost state, -/
abbrev EP : Emb (UR sig nD τ) (MT nD τ sig Unit Val ℕ (UU nD τ sig) ℕ) := embL
/-- and the meeting's. -/
abbrev ER : Emb (URounds (GSem nD τ sig) Bool) (MT nD τ sig Unit Val ℕ (UU nD τ sig) ℕ) := embR

/-- One conjunct of many. -/
theorem pick {I : Type} [Fintype I] [DecidableEq I] (Φ : I → sProp 𝕄) (i : I) : bigSep Finset.univ Φ ⊢ Φ i :=
  bigSep_elim (Finset.mem_univ i)

/-- The plan of one meeting. -/
structure Meet (nD : ℕ) (sig : RefSig) (κ : Type) where
  /-- The semaphore behind each cell; -/
  sem : κ → SemLoc sig
  /-- different cells, different semaphores. -/
  inj : Function.Injective sem
  /-- The duties of a cell. -/
  duties : κ → Finset Bool
  /-- The units one duty of the cell brings. -/
  amount : κ → ℕ
  pos : ∀ k, 0 < amount k
  /-- The order of the waits: a device waits on a cell only while everything it still owes lies higher. -/
  level : κ → ℕ
  /-- Device `c` pays duty `d` of cell `k` of device `toward k d c`. -/
  toward : κ → Bool → (Dev nD ≃ Dev nD)
  /-- The duties a device owes from the start. (The others are copies' own send cells, whose credit the copy makes.) -/
  owed : Finset (κ × Bool)

namespace Meet

variable (M : Meet nD sig κ)

variable (τ) in
/-- Cell `k` of device `c`. -/
abbrev cell (c : Dev nD) (k : κ) : GSem nD τ sig := ((c : Thread nD τ), M.sem k)

open Classical in
/-- The cell behind a semaphore, if it is one of the meeting's. -/
def dec (s : SemLoc sig) : Option κ := if h : ∃ k, M.sem k = s then some h.choose else none

theorem dec_sem (k : κ) : M.dec (M.sem k) = some k := by
  unfold dec
  have h : ∃ k', M.sem k' = M.sem k := ⟨k, rfl⟩
  rw [dif_pos h]
  exact congrArg some (M.inj h.choose_spec)

theorem dec_none {s : SemLoc sig} (h : ∀ k, M.sem k ≠ s) : M.dec s = none := by
  unfold dec; rw [dif_neg]; rintro ⟨k, hk⟩; exact h k hk

variable (hand : Dev nD → κ → Bool → sProp (MT nD τ sig Unit Val ℕ (UU nD τ sig) ℕ))
  [hst : ∀ c k d, BI.Storable (upEmb : UEmb _ (MT nD τ sig Unit Val ℕ (UU nD τ sig) ℕ)) (hand c k d)]

/-- The plan as a schedule of one round. -/
def sched : Rounds.Schedule (GSem nD τ sig) Bool 𝕄 where
  duties g r := if r = 0 ∧ g.1.2 = .tc then (M.dec g.2).elim ∅ M.duties else ∅
  unitless _ := False
  amount g _ _ := (M.dec g.2).elim 1 M.amount
  payload g _ d := (M.dec g.2).elim iprop(emp) fun k => hand g.1.1 k d
  amount_pos g _ _ _ := by
    cases M.dec g.2 with
    | none => exact Nat.one_pos
    | some k => exact M.pos k

instance sched_storable (g : GSem nD τ sig) (r : ℕ) (d : Bool) :
    BI.Storable (upEmb : UEmb _ 𝕄) ((M.sched (τ := τ) hand).payload g r d) := by
  dsimp only [sched]
  cases M.dec g.2 with
  | none => exact inferInstanceAs (BI.Storable _ iprop(emp))
  | some k => exact hst g.1.1 k d

omit hst in
theorem duties_cell (c : Dev nD) (k : κ) : (M.sched (τ := τ) hand).duties (M.cell τ c k) 0 = M.duties k := by
  dsimp only [sched]; rw [if_pos ⟨rfl, rfl⟩, M.dec_sem]; rfl
omit hst in
theorem duties_later (g : GSem nD τ sig) (r : ℕ) (hr : 1 ≤ r) : (M.sched (τ := τ) hand).duties g r = ∅ := by
  dsimp only [sched]; rw [if_neg fun h => by omega]
omit hst in
theorem amount_cell (c : Dev nD) (k : κ) (d : Bool) : (M.sched (τ := τ) hand).amount (M.cell τ c k) 0 d = M.amount k := by
  dsimp only [sched]; rw [M.dec_sem]; rfl
omit hst in
theorem payload_cell (c : Dev nD) (k : κ) (d : Bool) : (M.sched (τ := τ) hand).payload (M.cell τ c k) 0 d = hand c k d := by
  dsimp only [sched]; rw [M.dec_sem]; rfl
omit hst in
theorem expect_cell (c : Dev nD) (k : κ) : (M.sched (τ := τ) hand).expect (M.cell τ c k) 0 = (M.duties k).card * M.amount k := by
  unfold Schedule.expect Schedule.amountOf
  rw [duties_cell, Finset.sum_congr rfl fun d _ => M.amount_cell hand c k d, Finset.sum_const, smul_eq_mul]

omit hst in
/-- What a wait on cell `k` brings. -/
theorem rest_cell (c : Dev nD) (k : κ) :
    bigSep ((M.sched (τ := τ) hand).duties (M.cell τ c k) 0 \ ∅) (fun d => (M.sched (τ := τ) hand).payload (M.cell τ c k) 0 d)
      = bigSep (M.duties k) fun d => hand c k d := by
  rw [Finset.sdiff_empty, duties_cell]
  exact bigSep_congr fun d _ => M.payload_cell hand c k d

/-! ## What a device owes, and the order of the waits -/

variable (τ) in
/-- What device `c` owes for the duties `S`. -/
def dues (S : Finset (κ × Bool)) (c : Dev nD) : CellTallies nD τ sig Unit :=
  ∑ x ∈ S, tallyAt (M.cell τ (M.toward x.1 x.2 c) x.1) () (M.amount x.1)

theorem dues_empty (c : Dev nD) : M.dues τ ∅ c = 0 := Finset.sum_empty

/-- Paying one duty leaves the rest. -/
theorem dues_pay {S S' : Finset (κ × Bool)} {x : κ × Bool} (h : S = insert x S') (hx : x ∉ S') (c : Dev nD) :
    M.dues τ S c = M.dues τ S' c + tallyAt (M.cell τ (M.toward x.1 x.2 c) x.1) () (M.amount x.1) := by
  subst h; unfold dues; rw [Finset.sum_insert hx, add_comm]

theorem dues_pos {S : Finset (κ × Bool)} {c : Dev nD} {g : GSem nD τ sig} {u : Unit} (h : 0 < M.dues τ S c g u) :
    ∃ x ∈ S, g = M.cell τ (M.toward x.1 x.2 c) x.1 := by
  unfold dues at h
  obtain ⟨x, hx, hp⟩ := Pipeline.sum_pos_exists h
  refine ⟨x, hx, ?_⟩
  rw [tallyAt_apply] at hp
  by_contra hn
  rw [if_neg fun h' => hn h'.1] at hp
  exact Nat.lt_irrefl 0 hp

def levels (g : GSem nD τ sig) : Finset Unit := if g.1.2 = .tc then {()} else ∅
def lev (g : GSem nD τ sig) (_ : Unit) : ℕ := (M.dec g.2).elim 0 M.level

theorem levels_of_ne (g : GSem nD τ sig) (h : g.1.2 ≠ .tc) : levels g = ∅ := if_neg h
theorem mem_levels (c : Dev nD) (s : SemLoc sig) (u : Unit) : u ∈ levels ((c : Thread nD τ), s) := by
  unfold levels; rw [if_pos rfl]; exact Finset.mem_singleton_self _

/-- A wait on semaphore `s` of level at most `b` while the duties still owed all lie above `b`. -/
theorem mayWait_of {s : SemLoc sig} (b : ℕ) (hs : ∀ k, M.sem k = s → M.level k ≤ b) {S : Finset (κ × Bool)}
    (hS : ∀ x ∈ S, b < M.level x.1) (c : Dev nD) :
    (levAts levels M.lev : sProp 𝕄) ⊢ MayWait (c : Thread nD τ) s () (M.dues τ S c) := by
  refine Pipeline.mayWait_of_levAts (L := levels) (lev := M.lev) (mem_levels c s ()) fun g u hg => ?_
  obtain ⟨x, hx, rfl⟩ := M.dues_pos hg
  refine ⟨mem_levels _ _ _, ?_⟩
  have h1 : M.lev ((c : Thread nD τ), s) () ≤ b := by
    unfold lev
    by_cases h : ∃ k, M.sem k = s
    · obtain ⟨k, rfl⟩ := h; dsimp only; rw [M.dec_sem]; exact hs k rfl
    · dsimp only; rw [M.dec_none fun k hk => h ⟨k, hk⟩]; exact Nat.zero_le _
  have h2 : M.lev (M.cell τ (M.toward x.1 x.2 c) x.1) u = M.level x.1 := by unfold lev; dsimp only; rw [M.dec_sem]; rfl
  rw [h2]; exact lt_of_le_of_lt h1 (hS x hx)

theorem mayWait {k : κ} {S : Finset (κ × Bool)} (hS : ∀ x ∈ S, M.level k < M.level x.1) (c : Dev nD) :
    (levAts levels M.lev : sProp 𝕄) ⊢ MayWait (c : Thread nD τ) (M.sem k) () (M.dues τ S c) :=
  M.mayWait_of (M.level k) (fun k' h => by rw [M.inj h]) hS c

/-! ## What a device starts from -/

/-- The invariants of all the cells of all the devices, at names `K`, and that each cell is at its round. -/
def records (K : Dev nD × κ → ℕ) : sProp 𝕄 :=
  iprop((bigSep Finset.univ fun ck : Dev nD × κ => cellInv ER (M.sched (τ := τ) hand) (K ck) (M.cell τ ck.1 ck.2))
    ∗ bigSep Finset.univ fun ck : Dev nD × κ => reached ER (M.cell τ ck.1 ck.2) 0)

instance records_persistent (K : Dev nD × κ → ℕ) : BI.Persistent (M.records (τ := τ) hand K) := by unfold records; infer_instance

omit hst in
theorem records_inv (K : Dev nD × κ → ℕ) (c : Dev nD) (k : κ) :
    M.records (τ := τ) hand K ⊢ cellInv ER (M.sched (τ := τ) hand) (K (c, k)) (M.cell τ c k) := by
  unfold records; iintro ⟨H, -⟩
  iapply (pick (fun ck : Dev nD × κ => cellInv ER (M.sched (τ := τ) hand) (K ck) (M.cell τ ck.1 ck.2)) (c, k)); iexact H
omit hst in
theorem records_reached (K : Dev nD × κ → ℕ) (c : Dev nD) (k : κ) :
    M.records (τ := τ) hand K ⊢ reached ER (M.cell τ c k) 0 := by
  unfold records; iintro ⟨-, H⟩
  iapply (pick (fun ck : Dev nD × κ => (reached ER (M.cell τ ck.1 ck.2) 0 : sProp 𝕄)) (c, k)); iexact H

variable (τ) in
/-- Device `c` at the start of the one round of each of its cells, -/
def places (c : Dev nD) : sProp 𝕄 := bigSep Finset.univ fun k : κ => atPos ER (M.cell τ c k) 0 ∅ 0
variable (τ) in
/-- the right to pay each duty it pays, -/
def rights (c : Dev nD) : sProp 𝕄 :=
  bigSep Finset.univ fun x : κ × Bool => dutyTok ER (M.cell τ (M.toward x.1 x.2 c) x.1) 0 x.2
variable (τ) in
/-- credit for the duties owed to it. -/
def credits (c : Dev nD) : sProp 𝕄 := bigSep M.owed fun x => cred (tallyAt (M.cell τ c x.1) () (M.amount x.1))

/-- What the launch's global step deals device `c`. -/
def dealt (c : Dev nD) : sProp 𝕄 := iprop(∃ K, M.records (τ := τ) hand K ∗ M.places τ c ∗ M.rights τ c)

/-- What device `c`'s kernel starts from. -/
def start (c : Dev nD) : sProp 𝕄 := iprop(M.dealt (τ := τ) hand c ∗ M.credits τ c ∗ levAts levels M.lev)

/-! ## The launch -/

theorem cell_injective : Function.Injective fun ck : Dev nD × κ => M.cell τ ck.1 ck.2 := by
  rintro ⟨c, k⟩ ⟨c', k'⟩ h
  have h1 : c = c' := congrArg (fun g : GSem nD τ sig => g.1.1) h
  have h2 : k = k' := M.inj (congrArg Prod.snd h)
  rw [h1, h2]

theorem tok_injective : Function.Injective fun x : Dev nD × (κ × Bool) => ((M.cell τ x.1 x.2.1, 0, x.2.2) : GSem nD τ sig × ℕ × Bool) := by
  rintro ⟨c, k, d⟩ ⟨c', k', d'⟩ h
  have h0 := M.cell_injective (τ := τ) (a₁ := (c, k)) (a₂ := (c', k')) (congrArg Prod.fst h)
  have h1 : d = d' := congrArg (fun x : GSem nD τ sig × ℕ × Bool => x.2.2) h
  cases h0; subst h1; rfl

variable (τ) in
def cells : Finset (GSem nD τ sig) := Finset.univ.map ⟨_, M.cell_injective (τ := τ)⟩
variable (τ) in
def toks : Finset (GSem nD τ sig × ℕ × Bool) := Finset.univ.map ⟨_, M.tok_injective (τ := τ)⟩

/-- What the launch element deals device `c`. -/
def minted (c : Dev nD) : sProp 𝕄 :=
  iprop((bigSep Finset.univ fun k : κ => roundState ER (M.sched (τ := τ) hand) (M.cell τ c k) 0)
    ∗ M.places τ c ∗ (bigSep Finset.univ fun k : κ => reached ER (M.cell τ c k) 0)
    ∗ bigSep Finset.univ fun x : κ × Bool => dutyTok ER (M.cell τ c x.1) 0 x.2)

omit hst in
theorem fund : BI.own (ER (initOf (M.cells τ) (M.toks τ))) ⊢ (|==> bigSep Finset.univ (M.minted (τ := τ) hand) : sProp 𝕄) := by
  have hX (Φ : GSem nD τ sig → sProp 𝕄) : bigSep (M.cells τ) Φ = bigSep Finset.univ fun c : Dev nD => bigSep Finset.univ fun k : κ => Φ (M.cell τ c k) := by
    unfold cells; rw [bigSep_map, bigSep_univ_prod]; rfl
  have hT : bigSep (M.toks τ) (fun x => (dutyTok ER x.1 x.2.1 x.2.2 : sProp 𝕄))
      = bigSep Finset.univ fun c : Dev nD => bigSep Finset.univ fun x : κ × Bool => dutyTok ER (M.cell τ c x.1) 0 x.2 := by
    unfold toks; rw [bigSep_map, bigSep_univ_prod]; rfl
  iintro HX
  imod (Rounds.fund ER (M.sched (τ := τ) hand) (M.cells τ) (M.toks τ)) $$ HX with ⟨Hst, Hr, Hat, Htok⟩
  imodintro
  ihave Hst' := (Entails.of_eq (hX fun g => roundState ER (M.sched (τ := τ) hand) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold minted places; simp only [bigSep_sep']
  isplitl [Hst']; · iexact Hst'
  isplitl [Hat']; · iexact Hat'
  isplitl [Hr']; · iexact Hr'
  iexact Htok'

omit hst in
/-- The rights dealt to the devices that use them. -/
theorem rights_around :
    (bigSep Finset.univ fun c : Dev nD => bigSep Finset.univ fun x : κ × Bool => (dutyTok ER (M.cell τ c x.1) 0 x.2 : sProp 𝕄))
      ⊢ bigSep Finset.univ fun c : Dev nD => M.rights τ c := by
  unfold rights
  rw [bigSep_univ_comm, bigSep_univ_comm (fun (c : Dev nD) (x : κ × Bool) => (dutyTok ER (M.cell τ (M.toward x.1 x.2 c) x.1) 0 x.2 : sProp 𝕄))]
  refine bigSep_mono fun x _ => ?_
  rw [bigSep_univ_equiv (M.toward x.1 x.2)]
  exact BI.Entails.refl _

/-- The global step: given, on every device, the meeting's counters at zero and the minted state, the cells' invariants are
    made and everything dealt. -/
theorem deal {V : Dev nD → sProp 𝕄} (hV : ∀ c, V c ⊢ bigSep Finset.univ fun k : κ => semVal (M.cell τ c k) 0) :
    (bigSep Finset.univ fun c => iprop(V c ∗ M.minted (τ := τ) hand c) : sProp 𝕄) ⊢ |={Set.univ}=> bigSep Finset.univ (M.dealt (τ := τ) hand) := by
  have one (c : Dev nD) : iprop(V c ∗ M.minted (τ := τ) hand c)
      ⊢ |={Set.univ}=> iprop((bigSep Finset.univ fun k => iprop(∃ n : ℕ, cellInv ER (M.sched (τ := τ) hand) n (M.cell τ c k)))
        ∗ M.places τ c ∗ (bigSep Finset.univ fun k : κ => reached ER (M.cell τ c k) 0)
        ∗ bigSep Finset.univ fun x : κ × Bool => dutyTok ER (M.cell τ c x.1) 0 x.2) := by
    unfold minted
    iintro ⟨Hv, Hst, Hat, Hr, Htok⟩
    ihave Hv := (hV c) $$ Hv
    imod (show iprop((bigSep Finset.univ fun k : κ => semVal (M.cell τ c k) 0) ∗ bigSep Finset.univ fun k : κ => roundState ER (M.sched (τ := τ) hand) (M.cell τ c k) 0)
        ⊢ (|={Set.univ}=> bigSep Finset.univ fun k => iprop(∃ n : ℕ, cellInv ER (M.sched (τ := τ) hand) n (M.cell τ c k)) : sProp 𝕄) from by
          rw [← bigSep_sep']
          exact (bigSep_mono fun k _ => (Rounds.body_intro ER (M.sched (τ := τ) hand) (M.cell τ c k)).trans inv_alloc).trans (bigSep_fupd _ _)) $$ [Hv Hst] with Hinv
    · isplitl [Hv] <;> iassumption
    imodintro
    isplitl [Hinv]; · iexact Hinv
    isplitl [Hat]; · iexact Hat
    isplitl [Hr] <;> iassumption
  have two : (bigSep Finset.univ fun c : Dev nD => iprop((bigSep Finset.univ fun k => iprop(∃ n : ℕ, cellInv ER (M.sched (τ := τ) hand) n (M.cell τ c k)))
        ∗ M.places τ c ∗ (bigSep Finset.univ fun k : κ => reached ER (M.cell τ c k) 0)
        ∗ bigSep Finset.univ fun x : κ × Bool => dutyTok ER (M.cell τ c x.1) 0 x.2) : sProp 𝕄) ⊢ bigSep Finset.univ (M.dealt (τ := τ) hand) := by
    rw [bigSep_sep', bigSep_sep', bigSep_sep', ← bigSep_univ_prod (fun ck : Dev nD × κ => iprop(∃ n : ℕ, cellInv ER (M.sched (τ := τ) hand) n (M.cell τ ck.1 ck.2))),
      ← bigSep_univ_prod (fun ck : Dev nD × κ => (reached ER (M.cell τ ck.1 ck.2) 0 : sProp 𝕄))]
    iintro ⟨HI, Hat, #HR, Htok⟩
    ihave HK := (BI.bigSep_exists_pi Finset.univ (fun (ck : Dev nD × κ) (n : ℕ) => (cellInv ER (M.sched (τ := τ) hand) n (M.cell τ ck.1 ck.2) : sProp 𝕄))) $$ HI
    icases HK with ⟨%K, #HI⟩
    ihave Htk := (M.rights_around) $$ Htok
    iapply (bigSep_with_persistent (R := M.records (τ := τ) hand K) (Φ := fun c => iprop(M.places τ c ∗ M.rights τ c)) fun c _ => by
      unfold dealt
      iintro ⟨#H1, H2, H3⟩
      iexists K
      isplitr; · iexact H1
      isplitl [H2] <;> iassumption)
    isplitr
    · unfold records; isplitl; · iexact HI
      iexact HR
    · rw [bigSep_sep']
      isplitl [Hat] <;> iassumption
  exact ((bigSep_mono fun c _ => one c).trans (bigSep_fupd _ _)).trans (BI.fupd_mono two)

omit hst in
/-- The credit the launch deals device `c` for the duties owed to it. -/
theorem launch_credits (c : Dev nD) : (Pipeline.launchCred (M.dues τ M.owed) c : sProp 𝕄) ⊢ M.credits τ c := by
  unfold credits dues
  rw [show (fun c : Dev nD => ∑ x ∈ M.owed, tallyAt (M.cell τ (M.toward x.1 x.2 c) x.1) () (M.amount x.1))
      = fun c => ∑ x ∈ M.owed, (fun (x : κ × Bool) c => (tallyAt (M.cell τ (M.toward x.1 x.2 c) x.1) () (M.amount x.1) : CellTallies nD τ sig Unit)) x c from rfl,
    Pipeline.launchCred_sum]
  refine bigSep_mono fun x _ => ?_
  refine (Pipeline.launchCred_elim _ c (M.sem x.1)).trans (Entails.of_eq (congrArg cred ?_))
  unfold tallyAt; refine congrArg _ (Finsupp.ext fun u => ?_); cases u
  rw [Pipeline.launchCredit_owing, Finsupp.single_eq_same,
    Finset.sum_eq_single ((M.toward x.1 x.2).symm c)]
  · rw [Equiv.apply_symm_apply]
    show tallyAt (M.cell τ c x.1) () (M.amount x.1) (M.cell τ c x.1) () = _
    rw [tallyAt_apply, if_pos ⟨rfl, rfl⟩]
  · intro d _ hd
    show tallyAt (M.cell τ (M.toward x.1 x.2 d) x.1) () (M.amount x.1) (M.cell τ c x.1) () = _
    rw [tallyAt_apply, if_neg]
    rintro ⟨h, -⟩
    apply hd
    have h1 : c = M.toward x.1 x.2 d := congrArg (fun g : GSem nD τ sig => g.1.1) h
    rw [h1, Equiv.symm_apply_apply]
  · intro h; exact absurd (Finset.mem_univ _) h

/-- At the end every cell is past its round, and its counter is zero. -/
theorem closeAll (K : Dev nD × κ → ℕ) (c : Dev nD) :
    iprop(M.records (τ := τ) hand K ∗ bigSep Finset.univ fun k : κ => atPos ER (M.cell τ c k) 1 ∅ 0)
      ⊢ |={Set.univ}=> bigSep Finset.univ fun k : κ => semVal (M.cell τ c k) 0 := by
  refine (bigSep_with_persistent (R := M.records (τ := τ) hand K) (Ψ := fun k => iprop(|={Set.univ}=> semVal (M.cell τ c k) 0)) fun k _ => ?_).trans (bigSep_fupd _ _)
  iintro ⟨#HR, Hat⟩
  iapply (Rounds.cell_close ER (M.sched (τ := τ) hand) (Set.mem_univ (K (c, k))) (fun h => h) (R := 1) (fun r hr => M.duties_later hand _ r hr))
  isplitr; · iapply (M.records_inv hand K c k); iexact HR
  iexact Hat

end Meet

end Cert.Meeting

end
-- ==== Proof.Steps.lean ====
/-
# The steps of a meeting, and buffers held piece by piece

The three effects a kernel of this problem talks with — a signal to another device, a wait on one of its own cells, a copy to
another device — stated over the plan of `Meet`. Then what one needs to work on a buffer piece by piece: a rectangle of
a buffer held on its own (`piece`), loaded, stored and copied. Then the run of several equal programs one after the other.
-/
module

public import proofs.«01_k».proof.Proof.Meet

@[expose] public section

noncomputable section

namespace Cert.Meeting

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {nD : ℕ} {τ : Topo} {sig : RefSig} {Val : EltTy → Type} {κ : Type} [Fintype κ] [DecidableEq κ]

local notation "𝕄" => MT nD τ sig Unit Val ℕ (UU nD τ sig) ℕ

namespace Meet

variable (M : Meet nD sig κ)
variable (hand : Dev nD → κ → Bool → sProp (MT nD τ sig Unit Val ℕ (UU nD τ sig) ℕ))
  [hst : ∀ c k d, BI.Storable (upEmb : UEmb _ (MT nD τ sig Unit Val ℕ (UU nD τ sig) ℕ)) (hand c k d)]
variable {Λ : Labels} {defs : Defs nD τ sig Val Λ} (𝒱 : Variants)
variable {α : Type} {Q : α → sProp (MT nD τ sig Unit Val ℕ (UU nD τ sig) ℕ)}

variable (τ Val) in
/-- Device `c` owes the duties `S`, having waited for something or other. -/
def owing (S : Finset (κ × Bool)) (c : Dev nD) : sProp 𝕄 := iprop(∃ W, owes (c : Thread nD τ) (M.dues τ S c) W)

omit hst in
/-- A signal to the device `n` that one of the duties goes to: the right to pay, and what is handed over. -/
theorem wp_tell (K : Dev nD × κ → ℕ) (c n : Dev nD) {k : κ} {d : Bool} (hn : n = M.toward k d c) {sem : Sem sig} (hs : M.sem k = .reg sem)
    {a : ℕ} (ha : M.amount k = a) (hd : d ∈ M.duties k) {S S' : Finset (κ × Bool)} (hS : S = insert (k, d) S') (hx : (k, d) ∉ S')
    {p : PUnit → Prog (TpuEff nD τ sig Val Λ .tc) α} :
    iprop(M.records (τ := τ) hand K ∗ M.owing τ Val S c ∗ dutyTok ER (M.cell τ (M.toward k d c) k) 0 d ∗ hand (M.toward k d c) k d)
      ⊢ iprop((M.owing τ Val S' c -∗ wp frame (wpE defs 𝒱 (c : Thread nD τ) none) Set.univ (p ⟨⟩) Q)
        -∗ wp frame (wpE defs 𝒱 (c : Thread nD τ) none) Set.univ (.op (.semSignal (n : Thread nD τ) sem a) p) Q) := by
  subst hn ha
  have e : (((M.toward k d c : Dev nD) : Thread nD τ), SemLoc.reg sem) = M.cell τ (M.toward k d c) k := by unfold cell; rw [hs]
  unfold owing
  iintro ⟨#HR, ⟨%W, HO⟩, Ht, Hh⟩ Hk
  iapply (Rounds.wp_signal 𝒱 ER (M.sched (τ := τ) hand) (c : Thread nD τ) none (dst := ((M.toward k d c : Dev nD) : Thread nD τ)) (sem := sem) (κ := K (M.toward k d c, k))
      (d := d) (r := 0) (k' := M.amount k) (by rw [e, duties_cell]; exact hd) (by rw [e, amount_cell]) () (O₀ := M.dues τ S c) (M.dues τ S' c)
      (by rw [e]; exact M.dues_pay hS hx c) (W := W)) $$ [HO Ht Hh]
  · rw [e]
    isplitr; · iapply (M.records_inv hand K _ k); iexact HR
    isplitl [HO]; · iexact HO
    isplitl [Ht]; · iexact Ht
    isplitl [Hh]; · rw [payload_cell]; iexact Hh
    iapply (M.records_reached hand K _ k); iexact HR
  iintro HO
  iapply Hk
  iexists W; iexact HO

omit hst in
/-- A wait for all the units of one of the device's own cells: what was handed over comes back. -/
theorem wp_meet (K : Dev nD × κ → ℕ) (c : Dev nD) {k : κ} {sm : SemLoc sig} (hs : M.sem k = sm)
    {w : TpuEff nD τ sig Val Λ .tc PUnit} {k' : ℕ}
    (hw : ∀ P : PUnit → sProp 𝕄, wpE' defs 𝒱 (c : Thread nD τ) none [] Set.univ w P = waitSpec (c : Thread nD τ) Set.univ sm k' P)
    (hk : (M.duties k).card * M.amount k = k') {S : Finset (κ × Bool)} (hS : ∀ x ∈ S, M.level k < M.level x.1)
    {p : PUnit → Prog (TpuEff nD τ sig Val Λ .tc) α} :
    iprop(M.records (τ := τ) hand K ∗ cred (tallyAt (M.cell τ c k) () k') ∗ M.owing τ Val S c ∗ levAts levels M.lev ∗ atPos ER (M.cell τ c k) 0 ∅ 0)
      ⊢ iprop(((M.owing τ Val S c ∗ atPos ER (M.cell τ c k) 1 ∅ 0 ∗ bigSep (M.duties k) fun d => hand c k d)
          -∗ wp frame (wpE defs 𝒱 (c : Thread nD τ) none) Set.univ (p ⟨⟩) Q)
        -∗ wp frame (wpE defs 𝒱 (c : Thread nD τ) none) Set.univ (.op w p) Q) := by
  subst hs hk
  unfold owing
  iintro ⟨#HR, Hc, ⟨%W, HO⟩, Hl, Hp⟩ Hk
  iapply (Rounds.wp_wait_rest_token 𝒱 ER (M.sched (τ := τ) hand) (c : Thread nD τ) none (κ := K (c, k)) (sm := M.sem k)
      hw (Set.mem_univ _) () (O := M.dues τ S c) (W := W) (R := 0) (m := 0) (T := ∅)
      (by rw [Nat.zero_add]; exact (M.expect_cell hand c k).symm)) $$ [Hc HO Hl Hp]
  · isplitr; · iapply (M.records_inv hand K c k); iexact HR
    isplitl [Hc]; · iexact Hc
    isplitl [HO]; · iexact HO
    isplitl [Hl]; · iapply (M.mayWait hS c); iexact Hl
    iexact Hp
  iintro ⟨HO, Hp, -, Hh⟩
  iapply Hk
  isplitl [HO]; · iexists (insert (M.sem k, ()) W); iexact HO
  isplitl [Hp]; · iexact Hp
  iapply (Entails.of_eq (M.rest_cell hand c k)); iexact Hh

omit hst in
/-- A wait for one copy, named by its destination: the copy's payload comes back. -/
theorem wp_meet_copy (K : Dev nD × κ → ℕ) (c : Dev nD) {k : κ} {d : Bool} {sm : DmaSem sig} (hs : M.sem k = .dma sm) (hd : M.duties k = {d})
    {sp sp' : Space} {s s' : Shape} {e e' : EltTy} {src : Memref sig .tc sp' s' e'} {dst : Memref sig .tc sp s e}
    {hsrc : src.view.WordExact} {hdst : dst.view.WordExact} {k' : ℕ} (hN : dst.view.dmaCredit = k') (hk : M.amount k = k')
    {S : Finset (κ × Bool)} (hS : ∀ x ∈ S, M.level k < M.level x.1)
    {p : PUnit → Prog (TpuEff nD τ sig Val Λ .tc) α} :
    iprop(M.records (τ := τ) hand K ∗ cred (tallyAt (M.cell τ c k) () k') ∗ M.owing τ Val S c ∗ levAts levels M.lev ∗ atPos ER (M.cell τ c k) 0 ∅ 0)
      ⊢ iprop(((M.owing τ Val S c ∗ atPos ER (M.cell τ c k) 1 ∅ 0 ∗ hand c k d)
          -∗ wp frame (wpE defs 𝒱 (c : Thread nD τ) none) Set.univ (p ⟨⟩) Q)
        -∗ wp frame (wpE defs 𝒱 (c : Thread nD τ) none) Set.univ (.op (.waitDma2 sm src dst hsrc hdst) p) Q) := by
  subst hN
  have h := M.wp_meet hand 𝒱 (defs := defs) (Q := Q) (p := p) K c hs (w := .waitDma2 sm src dst hsrc hdst) (k' := dst.view.dmaCredit)
    (fun P => rfl) (by rw [hd, Finset.card_singleton, one_mul, hk]) hS
  rw [hd, bigSep_singleton] at h
  exact h

omit hst in
/-- A copy to the device `n` that a receiving duty `kR` goes to, its sending side the device's own cell `kS`. -/
theorem wp_ship (K : Dev nD × κ → ℕ) (c n : Dev nD) {kS kR : κ} {dS dR : Bool} (hn : n = M.toward kR dR c) (hc : M.toward kS dS c = c)
    {sS sR : SemLoc sig} (hsS : M.sem kS = sS) (hsR : M.sem kR = sR)
    (hdS : dS ∈ M.duties kS) (hdR : dR ∈ M.duties kR) {S S' : Finset (κ × Bool)} (hS : S = insert (kR, dR) S') (hx : (kR, dR) ∉ S')
    {sp sp' : Space} {s : Shape} {e : EltTy} {src : Memref sig .tc sp s e} {dst : Memref sig .tc sp' s e}
    {hsc : (dst : Memref sig (n : Thread nD τ).2.kind sp' s e).view.ref.isScScratch = false}
    {hsrc : src.view.WordExact} {hdst : dst.view.WordExact} {hsem : DmaTarget.Typed sp sR (.remote (n : Thread nD τ) dst sS hsc)}
    (hN : dst.view.amount sR = M.amount kR) (hN' : M.amount kS = M.amount kR)
    {q : PosShare TreeShare} {fs : Buf Val (src.view.loc (c : Thread nD τ))} {fd : Buf Val (dst.view.loc (M.toward kR dR c : Thread nD τ))}
    (hpS : (src.view.loc (c : Thread nD τ) ↦[src.view.set]{q} fs : sProp 𝕄) ⊢ hand c kS dS)
    (hpR : (dst.view.loc (M.toward kR dR c : Thread nD τ) ↦[dst.view.set]{fullShare} (dst.view.write Val fd (src.view.read Val fs) Finset.univ) : sProp 𝕄)
      ⊢ hand (M.toward kR dR c) kR dR)
    {p : PUnit → Prog (TpuEff nD τ sig Val Λ .tc) α} :
    iprop(M.records (τ := τ) hand K ∗ (src.view.loc (c : Thread nD τ) ↦[src.view.set]{q} fs)
        ∗ (dst.view.loc (M.toward kR dR c : Thread nD τ) ↦[dst.view.set]{fullShare} fd) ∗ M.owing τ Val S c
        ∗ dutyTok ER (M.cell τ (M.toward kS dS c) kS) 0 dS ∗ dutyTok ER (M.cell τ (M.toward kR dR c) kR) 0 dR)
      ⊢ iprop(((cred (tallyAt (M.cell τ c kS) () (M.amount kS)) ∗ M.owing τ Val S' c)
          -∗ wp frame (wpE defs 𝒱 (c : Thread nD τ) none) Set.univ (p ⟨⟩) Q)
        -∗ wp frame (wpE defs 𝒱 (c : Thread nD τ) none) Set.univ
          (.op (.enqueueDma src (.remote (n : Thread nD τ) dst sS hsc) sR hsrc hdst hsem) p) Q) := by
  subst hn hsS hsR
  rw [hc]
  unfold owing
  iintro ⟨#HR, Hs, Hd, ⟨%W, HO⟩, HtS, HtR⟩ Hk
  iapply (Rounds.wp_send_pointsTo 𝒱 ER (M.sched (τ := τ) hand) (c : Thread nD τ) none (κ₁ := K (c, kS)) (κ₂ := K (M.toward kR dR c, kR))
      (c' := ((M.toward kR dR c : Dev nD) : Thread nD τ)) (sS := M.sem kS) (sem := M.sem kR) (q := q) (fs := fs)
      (r₁ := 0) (r₂ := 0) (d₁ := dS) (d₂ := dR) (fd := fd)
      (by rw [duties_cell]; exact hdS) (by rw [duties_cell]; exact hdR)
      () () (M.amount kR) hN (by rw [amount_cell]; exact hN') (by rw [amount_cell]) (M.dues τ S' c)
      (M.dues_pay hS hx c) (W := W)
      (by rw [payload_cell]; exact hpS) (by rw [payload_cell]; exact hpR)) $$ [Hs Hd HO HtS HtR]
  · isplitr; · iapply (M.records_inv hand K c kS); iexact HR
    isplitr; · iapply (M.records_inv hand K _ kR); iexact HR
    isplitl [Hs]; · iexact Hs
    isplitl [Hd]; · iexact Hd
    isplitl [HO]; · iexact HO
    isplitl [HtS]; · iexact HtS
    isplitr; · iapply (M.records_reached hand K c kS); iexact HR
    isplitl [HtR]; · iexact HtR
    iapply (M.records_reached hand K _ kR); iexact HR
  iintro ⟨Hc, HO⟩
  iapply Hk
  rw [hN']
  isplitl [Hc]; · iexact Hc
  iexists W; iexact HO

omit hst in
/-- The same for memrefs owned at what they read: the source goes to the sending cell, the destination to its owner. -/
theorem wp_ship_owned (K : Dev nD × κ → ℕ) (c n : Dev nD) {kS kR : κ} {dS dR : Bool} (hn : n = M.toward kR dR c) (hc : M.toward kS dS c = c)
    {sS sR : SemLoc sig} (hsS : M.sem kS = sS) (hsR : M.sem kR = sR)
    (hdS : dS ∈ M.duties kS) (hdR : dR ∈ M.duties kR) {S S' : Finset (κ × Bool)} (hS : S = insert (kR, dR) S') (hx : (kR, dR) ∉ S')
    {sp sp' : Space} {s : Shape} {e : EltTy} {src : Memref sig .tc sp s e} {dst : Memref sig .tc sp' s e}
    {hsc : (dst : Memref sig (n : Thread nD τ).2.kind sp' s e).view.ref.isScScratch = false}
    {hsrc : src.view.WordExact} {hdst : dst.view.WordExact} {hsem : DmaTarget.Typed sp sR (.remote (n : Thread nD τ) dst sS hsc)}
    (hN : dst.view.amount sR = M.amount kR) (hN' : M.amount kS = M.amount kR)
    {q : PosShare TreeShare} {X : s.Idx → Val e}
    (hpS : (owns (c : Thread nD τ) src q X : sProp 𝕄) ⊢ hand c kS dS)
    (hpR : (owns (M.toward kR dR c : Thread nD τ) dst fullShare X : sProp 𝕄) ⊢ hand (M.toward kR dR c) kR dR)
    {p : PUnit → Prog (TpuEff nD τ sig Val Λ .tc) α} :
    iprop(M.records (τ := τ) hand K ∗ owns (c : Thread nD τ) src q X
        ∗ (∃ Y, owns (M.toward kR dR c : Thread nD τ) dst fullShare Y) ∗ M.owing τ Val S c
        ∗ dutyTok ER (M.cell τ (M.toward kS dS c) kS) 0 dS ∗ dutyTok ER (M.cell τ (M.toward kR dR c) kR) 0 dR)
      ⊢ iprop(((cred (tallyAt (M.cell τ c kS) () (M.amount kS)) ∗ M.owing τ Val S' c)
          -∗ wp frame (wpE defs 𝒱 (c : Thread nD τ) none) Set.univ (p ⟨⟩) Q)
        -∗ wp frame (wpE defs 𝒱 (c : Thread nD τ) none) Set.univ
          (.op (.enqueueDma src (.remote (n : Thread nD τ) dst sS hsc) sR hsrc hdst hsem) p) Q) := by
  rw [show iprop(∃ Y, owns (M.toward kR dR c : Thread nD τ) dst fullShare Y)
    = (iprop(∃ Y, ∃ g, ⌜dst.view.read Val g = Y⌝ ∗ (dst.view.loc (M.toward kR dR c : Thread nD τ) ↦[dst.view.set]{fullShare} g)) : sProp 𝕄) from rfl]
  iintro ⟨#HR, Hs, ⟨%Y, %g, -, Hd⟩, HO, HtS, HtR⟩ Hk
  ihave Hs := (show (owns (c : Thread nD τ) src q X : sProp 𝕄) ⊢ iprop(∃ f, ⌜src.view.read Val f = X⌝ ∗ (src.view.loc (c : Thread nD τ) ↦[src.view.set]{q} f)) from BI.Entails.refl _) $$ Hs
  icases Hs with ⟨%f, %hf, Hs⟩
  subst hf
  iapply (M.wp_ship hand 𝒱 K c n hn hc hsS hsR hdS hdR hS hx hN hN' (q := q) (fs := f) (fd := g)
    ((owns_intro (c : Thread nD τ) src q f).trans hpS)
    ((owns_intro (M.toward kR dR c : Thread nD τ) dst fullShare _).trans (by rw [View.read_write_univ]; exact hpR))) $$ [Hs Hd HO HtS HtR]
  · isplitr; · iexact HR
    isplitl [Hs]; · iexact Hs
    isplitl [Hd]; · iexact Hd
    isplitl [HO]; · iexact HO
    isplitl [HtS] <;> iassumption
  iexact Hk

end Meet

/-! ## A rectangle of a buffer held on its own -/

section Pieces

variable {Λ : Labels} {defs : Defs nD τ sig Val Λ} (𝒱 : Variants)
variable {α : Type} {Q : α → sProp (MT nD τ sig Unit Val ℕ (UU nD τ sig) ℕ)}
variable {sp : CoreSpace} {s : Shape} {e : EltTy} (m : Memref sig .tc sp s e) (r : Rect s) (hr : ∀ a, r.stride a = 1) (c : Dev nD)

/-- Loading exactly the rectangle: what it holds. -/
theorem wp_peek {q : PosShare TreeShare} {X : r.shape.Idx → Val e} {hl : m.view.LoadsAt r.toLoadRect}
    {p : (r.shape.Idx → Val e) → Prog (TpuEff nD τ sig Val Λ .tc) α} :
    (owns (c : Thread nD τ) (m.slice r hr) q X : sProp 𝕄)
      ⊢ iprop((owns (c : Thread nD τ) (m.slice r hr) q X -∗ wp frame (wpE defs 𝒱 (c : Thread nD τ) none) Set.univ (p X) Q)
        -∗ wp frame (wpE defs 𝒱 (c : Thread nD τ) none) Set.univ (.op (.load m r.toLoadRect hl) p) Q) := by
  unfold owns
  iintro ⟨%f, %hf, H⟩ Hk
  subst hf
  iapply (wp_load 𝒱 (c : Thread nD τ) none Set.univ (m := m) (r := r.toLoadRect)
    (Memref.setOn_subset_of_access_subset (m := m) (c := (c : Thread nD τ)) (r := r) (Finset.Subset.refl _))) $$ H
  iintro H
  iapply Hk
  iexists f
  isplitr; · ipureintro; rfl
  iexact H

/-- Storing exactly the rectangle. -/
theorem wp_put {X w : r.shape.Idx → Val e} {hx : (m.access r).Stores Finset.univ} {hm : Finset.univ = Finset.univ ∨ ∀ a, r.stride a = 1}
    {p : PUnit → Prog (TpuEff nD τ sig Val Λ .tc) α} :
    (owns (c : Thread nD τ) (m.slice r hr) fullShare X : sProp 𝕄)
      ⊢ iprop((owns (c : Thread nD τ) (m.slice r hr) fullShare w -∗ wp frame (wpE defs 𝒱 (c : Thread nD τ) none) Set.univ (p ⟨⟩) Q)
        -∗ wp frame (wpE defs 𝒱 (c : Thread nD τ) none) Set.univ (.op (.store m r w Finset.univ hx hm) p) Q) := by
  unfold owns
  iintro ⟨%f, -, H⟩ Hk
  iapply (wp_store 𝒱 (c : Thread nD τ) none Set.univ (m := m) (r := r) (w := w) (Mk := Finset.univ)
    (S := (m.slice r hr).view.set) (f := f) (Finset.Subset.refl _)) $$ H
  iintro H
  iapply Hk
  iexists ((m.access r).write Val f w Finset.univ)
  isplitr; · ipureintro; exact View.read_write_univ f w
  iexact H

/-- Loading any part of a memref owned at any share. -/
theorem wp_look {q : PosShare TreeShare} {X : s.Idx → Val e} {hl : m.view.LoadsAt r.toLoadRect}
    {p : (r.shape.Idx → Val e) → Prog (TpuEff nD τ sig Val Λ .tc) α} :
    (owns (c : Thread nD τ) m q X : sProp 𝕄)
      ⊢ iprop((owns (c : Thread nD τ) m q X -∗ wp frame (wpE defs 𝒱 (c : Thread nD τ) none) Set.univ (p fun i => X (r.emb i)) Q)
        -∗ wp frame (wpE defs 𝒱 (c : Thread nD τ) none) Set.univ (.op (.load m r.toLoadRect hl) p) Q) := by
  unfold owns
  iintro ⟨%f, %hf, H⟩ Hk
  subst hf
  iapply (wp_load 𝒱 (c : Thread nD τ) none Set.univ (m := m) (r := r.toLoadRect) (S := m.view.set)
    (Memref.setOn_subset_of_access_subset (m := m) (c := (c : Thread nD τ)) (r := r) (View.set_slice_subset _ _))) $$ H
  iintro H
  iapply Hk
  iexists f
  isplitr; · ipureintro; rfl
  iexact H

section Family

variable {T : Type} [Fintype T] [DecidableEq T] (rs : T → Rect s) (hrs : ∀ t a, (rs t).stride a = 1)
  (hd : ∀ t t', t ≠ t' → Disjoint (rs t).set (rs t').set)
  (hcov : (Finset.univ : Finset T).biUnion (fun t => (rs t).set) = Finset.univ)
include hd

include hcov in
/-- A memref is the pieces of a family that tiles it, each at whatever it holds; -/
theorem apart {q : PosShare TreeShare} {X : s.Idx → Val e} :
    (owns (c : Thread nD τ) m q X : sProp 𝕄) ⊢ bigSep Finset.univ fun t => iprop(∃ Y, owns (c : Thread nD τ) (m.slice (rs t) (hrs t)) q Y) :=
  (owns_rects (c : Thread nD τ) m q rs hrs hd hcov X).trans (bigSep_mono fun t _ => by
    show (owns (c : Thread nD τ) (m.slice (rs t) (hrs t)) q (fun j => X ((rs t).emb j)) : sProp 𝕄)
      ⊢ iprop(∃ Y, owns (c : Thread nD τ) (m.slice (rs t) (hrs t)) q Y)
    iintro H; iexists (fun j => X ((rs t).emb j)); iexact H)

/-- and pieces at given contents are the memref at those contents put together. -/
theorem together [∀ e, Nonempty (Val e)] {q : PosShare TreeShare} (Y : (t : T) → (rs t).shape.Idx → Val e) :
    (bigSep Finset.univ fun t => owns (c : Thread nD τ) (m.slice (rs t) (hrs t)) q (Y t) : sProp 𝕄) ⊢ owns (c : Thread nD τ) m q (Rect.glue rs hcov Y) := by
  refine (Entails.of_eq (bigSep_congr fun t _ => ?_)).trans (owns_of_rects (c : Thread nD τ) m q rs hrs hd hcov (Rect.glue rs hcov Y))
  rw [show (fun j => Rect.glue rs hcov Y ((rs t).emb j)) = Y t from funext fun j => Rect.glue_emb rs hcov hd Y t j]

include hcov in
theorem together_any [∀ e, Nonempty (Val e)] {q : PosShare TreeShare} :
    (bigSep Finset.univ fun t => iprop(∃ Y, owns (c : Thread nD τ) (m.slice (rs t) (hrs t)) q Y) : sProp 𝕄) ⊢ iprop(∃ X, owns (c : Thread nD τ) m q X) := by
  iintro H
  ihave H := (BI.bigSep_exists_pi Finset.univ (fun (t : T) (Y : (rs t).shape.Idx → Val e) => (owns (c : Thread nD τ) (m.slice (rs t) (hrs t)) q Y : sProp 𝕄))) $$ H
  icases H with ⟨%Y, H⟩
  iexists (Rect.glue rs hcov Y)
  iapply (together m c rs hrs hd hcov Y); iexact H

end Family

end Pieces

/-! ## Equal programs one after the other -/

/-- The first conjunct of many. -/
theorem bigSep_first {n : ℕ} (Φ : Fin (n + 1) → sProp 𝕄) : bigSep Finset.univ Φ = iprop(Φ 0 ∗ bigSep Finset.univ fun i : Fin n => Φ i.succ) := by
  rw [Fin.univ_succ, Finset.cons_eq_insert, bigSep_insert (by simp), bigSep_map]; rfl

/-- `f 0`, then `f 1`, … -/
def inTurn {E : Type → Type} : (n : ℕ) → (Fin n → Prog E PUnit) → Prog E PUnit
  | 0, _ => .ret ⟨⟩
  | n + 1, f => f 0 >>= fun _ => inTurn n fun i => f i.succ

/-- Running them: each takes its own `P i` to `R i`, and what all of them use, `G`, one step further. -/
theorem wp_inTurn {Λ : Labels} {defs : Defs nD τ sig Val Λ} (𝒱 : Variants) (c : Dev nD) {n : ℕ}
    (f : Fin n → Prog (TpuEff nD τ sig Val Λ .tc) PUnit) (P R : Fin n → sProp 𝕄) (G : ℕ → sProp 𝕄)
    (h : ∀ (i : Fin n) (Q : PUnit → sProp 𝕄), iprop(P i ∗ G i.val ∗ ((R i ∗ G (i.val + 1)) -∗ Q ⟨⟩))
      ⊢ wp frame (wpE defs 𝒱 (c : Thread nD τ) none) Set.univ (f i) Q) (Q : PUnit → sProp 𝕄) :
    iprop(bigSep Finset.univ P ∗ G 0 ∗ ((bigSep Finset.univ R ∗ G n) -∗ Q ⟨⟩))
      ⊢ wp frame (wpE defs 𝒱 (c : Thread nD τ) none) Set.univ (inTurn n f) Q := by
  induction n generalizing G Q with
  | zero =>
    unfold inTurn
    rw [wp_ret, show P = R from funext fun i => i.elim0]
    iintro ⟨HP, HG, Hk⟩
    imodintro
    iapply Hk
    isplitl [HP] <;> iassumption
  | succ n ih =>
    unfold inTurn
    rw [wp_bind, bigSep_first P, bigSep_first R]
    iintro ⟨⟨HP0, HP⟩, HG, Hk⟩
    iapply (show iprop(P 0 ∗ G 0 ∗ ((R 0 ∗ G (0 + 1)) -∗ wp frame (wpE defs 𝒱 (c : Thread nD τ) none) Set.univ (inTurn n fun i => f i.succ) Q))
      ⊢ wp frame (wpE defs 𝒱 (c : Thread nD τ) none) Set.univ (f 0) (fun _ => wp frame (wpE defs 𝒱 (c : Thread nD τ) none) Set.univ (inTurn n fun i => f i.succ) Q)
      from h 0 fun _ => _)
    isplitl [HP0]; · iexact HP0
    isplitl [HG]; · iexact HG
    iintro ⟨HR0, HG⟩
    iapply (ih (fun i => f i.succ) (fun i => P i.succ) (fun i => R i.succ) (fun j => G (j + 1)) (fun i Q => h i.succ Q) Q)
    isplitl [HP]; · iexact HP
    isplitl [HG]; · iexact HG
    iintro ⟨HR, HG⟩
    iapply Hk
    isplitl [HR0 HR]
    · isplitl [HR0] <;> iassumption
    iexact HG

/-- Splitting families. -/
theorem bigSep_pair (Φ : Bool → sProp 𝕄) : bigSep Finset.univ Φ = iprop(Φ false ∗ Φ true) := by
  rw [show (Finset.univ : Finset Bool) = insert false {true} from by decide, bigSep_insert (by decide), bigSep_singleton]; rfl
theorem bigSep_maybe {β : Type} [Fintype β] [DecidableEq β] (Φ : Option β → sProp 𝕄) :
    bigSep Finset.univ Φ = iprop(Φ none ∗ bigSep Finset.univ fun b => Φ (some b)) := by
  rw [show (Finset.univ : Finset (Option β)) = insert none (Finset.univ.map Function.Embedding.some) from by
    ext x; cases x <;> simp, bigSep_insert (by simp), bigSep_map]; rfl

end Cert.Meeting

end
-- ==== Proof.Flow.lean ====
/-
# The combining kernel, written by columns

The printed kernel is one long list of operations. It does the same few things for each of eight groups of 128 columns: this
module writes those few things once, for a group `k`, and says that the printed kernel is the list of them.

A device first signals its two neighbours and waits for both. Then, group by group, it narrows the rows its neighbour
across `x` keeps and copies them there (`sendAcross`); adds what arrived from there to its own rows, narrows the sum and
copies it to its neighbour across `y` (`addAndPass`); adds what arrived from there (`addLast`); and waits for its own copies
to have left (`settle`).
-/
module

public import proofs.«01_k».proof.Proof.Steps
public import proofs.«01_k».proof.Proof.Gen.KernelIdeal.Skeleton
public import proofs.«01_k».proof.Proof.Gen.KernelIdeal.Points

@[expose] public section

noncomputable section

namespace Cert.Combine

open Idealize.ShloMosaic Idealize.SL.Sem
open Cert.KernelIdeal Cert.KernelIdeal.Gen Cert.Meeting

variable {F : FTy → Type} [FloatOps F]

/-! ## The buffers, the groups of columns, the semaphores -/

abbrev pM : Memref sig .tc .vmem S2048x1024 .f32 := Memref.whole cc0_stg0_0
abbrev oM : Memref sig .tc .vmem S1024x1024 .f32 := Memref.whole cc0_stg1_0
abbrev xsM : Memref sig .tc .vmem S1024x1024 .bf16 := Memref.whole cc0_scratch0
abbrev xrM : Memref sig .tc .vmem S1024x1024 .bf16 := Memref.whole cc0_scratch1
abbrev ysM : Memref sig .tc .vmem S1024x1024 .bf16 := Memref.whole cc0_scratch2
abbrev yrM : Memref sig .tc .vmem S1024x1024 .bf16 := Memref.whole cc0_scratch3

/-- The number of group `k`'s first column is within the buffer. -/
theorem colInb : ∀ k : Fin 8, ∀ a, (![0, 128 * k.val] : Fin 2 → Nat) a + S1024x128.size a ≤ S1024x1024.size a := by decide

/-- Group `k` of the columns. -/
abbrev col (k : Fin 8) : Rect S1024x1024 := Rect.unit (s := S1024x1024) ![0, 128 * k.val] S1024x128.size (colInb k)

theorem colWords : ∀ k : Fin 8, (col k).WholeWords (EltTy.packing .bf16) := by decide
theorem colPacked : ∀ k : Fin 8, (col k).PackedRows (EltTy.packing .bf16) := by decide

theorem semInb : ∀ k : Fin 8, ∀ a, (![k.val] : Fin 1 → Nat) a + S1.size a ≤ S8.size a := by decide

/-- Semaphore `k` of an array of eight. -/
abbrev semAt (s : DmaSems sig S8) (k : Fin 8) : DmaSem sig := ((s.slice (Rect.unit (s := S8) ![k.val] S1.size (semInb k))).squeeze S_ squeezes_S1_S_).sem

abbrev barS : Sem sig := (SemArray.scalar (sig.barrier 1 rfl) : Sems sig S_).sem

abbrev part (m : Memref sig .tc .vmem S1024x1024 .bf16) (k : Fin 8) : Memref sig .tc .vmem S1024x128 .bf16 := m.slice (col k) (fun _ => rfl)
abbrev oPart (k : Fin 8) : Memref sig .tc .vmem S1024x128 .f32 := oM.slice (col k) (fun _ => rfl)

/-- The rows a device sends across `x`, group `k`: where they start; -/
abbrev farOff (k : Fin 8) (c : Dev nD) : Fin 2 → ℕ := (![k0_off1, k0_off2, k0_off3, k0_off4, k0_off5, k0_off6, k0_off7, k0_off8] : Fin 8 → Dev nD → Fin 2 → ℕ) k c
/-- the rows it keeps. -/
abbrev nearOff (k : Fin 8) (c : Dev nD) : Fin 2 → ℕ := (![k0_off9, k0_off10, k0_off11, k0_off12, k0_off13, k0_off14, k0_off15, k0_off16] : Fin 8 → Dev nD → Fin 2 → ℕ) k c
/-- The device group `k` is copied to, across `x`, -/
abbrev devXNat (k : Fin 8) (c : Dev nD) : ℕ := (![k0_dev3, k0_dev4, k0_dev5, k0_dev6, k0_dev7, k0_dev8, k0_dev9, k0_dev10] : Fin 8 → Dev nD → ℕ) k c
/-- and across `y`. -/
abbrev devYNat (k : Fin 8) (c : Dev nD) : ℕ := (![k0_dev11, k0_dev12, k0_dev13, k0_dev14, k0_dev15, k0_dev16, k0_dev17, k0_dev18] : Fin 8 → Dev nD → ℕ) k c

theorem farOff_eq (k : Fin 8) (c : Dev nD) : farOff k c = ![1024 - 1024 * (c.val / 2), 128 * k.val] := by
  fin_cases k
  exacts [k0_off1_eq c, k0_off2_eq c, k0_off3_eq c, k0_off4_eq c, k0_off5_eq c, k0_off6_eq c, k0_off7_eq c, k0_off8_eq c]
theorem nearOff_eq (k : Fin 8) (c : Dev nD) : nearOff k c = ![1024 * (c.val / 2), 128 * k.val] := by
  fin_cases k
  exacts [k0_off9_eq c, k0_off10_eq c, k0_off11_eq c, k0_off12_eq c, k0_off13_eq c, k0_off14_eq c, k0_off15_eq c, k0_off16_eq c]
theorem devXNat_eq (k : Fin 8) (c : Dev nD) : devXNat k c = ((c.val % 2) + 2) - 2 * (c.val / 2) := by
  fin_cases k
  exacts [k0_dev3_eq c, k0_dev4_eq c, k0_dev5_eq c, k0_dev6_eq c, k0_dev7_eq c, k0_dev8_eq c, k0_dev9_eq c, k0_dev10_eq c]
theorem devYNat_eq (k : Fin 8) (c : Dev nD) : devYNat k c = (2 * (c.val / 2) + 1) - (c.val % 2) := by
  fin_cases k
  exacts [k0_dev11_eq c, k0_dev12_eq c, k0_dev13_eq c, k0_dev14_eq c, k0_dev15_eq c, k0_dev16_eq c, k0_dev17_eq c, k0_dev18_eq c]

theorem dev_small (c : Dev nD) : c.val < 4 := c.isLt

theorem farInb (k : Fin 8) (c : Dev nD) : ∀ a, farOff k c a + S1024x128.size a ≤ S2048x1024.size a := by
  rw [farOff_eq]; revert k c; decide
theorem nearInb (k : Fin 8) (c : Dev nD) : ∀ a, nearOff k c a + S1024x128.size a ≤ S2048x1024.size a := by
  rw [nearOff_eq]; revert k c; decide
theorem devXNat_lt (k : Fin 8) (c : Dev nD) : devXNat k c < nD := by rw [devXNat_eq]; revert c; decide
theorem devYNat_lt (k : Fin 8) (c : Dev nD) : devYNat k c < nD := by rw [devYNat_eq]; revert c; decide

abbrev far (k : Fin 8) (c : Dev nD) : Rect S2048x1024 := Rect.unit (s := S2048x1024) (farOff k c) S1024x128.size (farInb k c)
abbrev near (k : Fin 8) (c : Dev nD) : Rect S2048x1024 := Rect.unit (s := S2048x1024) (nearOff k c) S1024x128.size (nearInb k c)

/-! ## What is stored -/

/-- A group of columns narrowed, -/
abbrev narrow (v : Vec F S1024x128 .f32) : FVec F S1024x128 .bf16 :=
  shapeCast S1024x128 (truncf .bf16 (shapeCast S1024x128 v shapeCasts_S1024x128_S1024x128) bitsLt_bf16_f32) shapeCasts_S1024x128_S1024x128
/-- and one added to a narrow one. -/
abbrev plus (v : Vec F S1024x128 .f32) (w : Vec F S1024x128 .bf16) : FVec F S1024x128 .f32 :=
  addf (shapeCast S1024x128 v shapeCasts_S1024x128_S1024x128) (extf .f32 w bitsLt_bf16_f32)

abbrev EffT (F : FTy → Type) : Type → Type := TpuEff nD τ sig (Elt F) Λ₀ .tc

/-- Group `k` of the far rows, narrowed and copied across `x`. -/
def sendAcross (c : Dev nD) (k : Fin 8) : Prog (EffT F) PUnit :=
  .op (.load pM (far k c).toLoadRect (View.loadsAt_vmem h_S1024x128)) fun v =>
  .op (.load xsM (col k).toLoadRect (View.loadsAt_vmem h_S1024x128)) fun _ =>
  .op (.store xsM (col k) (narrow v) Finset.univ
    (View.stores_vmem h_S1024x128 ((Memref.isWhole_whole cc0_scratch0).storeExact_slice rfl _ (colPacked k)) (fun _ => rfl)) (.inl rfl)) fun _ =>
  .op (.enqueueDma (part xsM k) (.remote (Dev.tc (⟨devXNat k c, devXNat_lt k c⟩ : Dev nD)) (part xrM k) (.dma (semAt cc0_scratch4 k))) (.dma (semAt cc0_scratch5 k))
    ((Memref.isWhole_whole cc0_scratch0).wordExact_slice rfl _ (colWords k)) ((Memref.isWhole_whole cc0_scratch1).wordExact_slice rfl _ (colWords k))
    ⟨⟨rfl, Or.inl rfl⟩, trivial⟩) fun _ =>
  .ret ⟨⟩

/-- Group `k` arrived from across `x`, added to the near rows, narrowed and copied across `y`. -/
def addAndPass (c : Dev nD) (k : Fin 8) : Prog (EffT F) PUnit :=
  .op (.waitDma2 (semAt cc0_scratch5 k) (part xsM k) (part xrM k)
    ((Memref.isWhole_whole cc0_scratch0).wordExact_slice rfl _ (colWords k)) ((Memref.isWhole_whole cc0_scratch1).wordExact_slice rfl _ (colWords k))) fun _ =>
  .op (.load pM (near k c).toLoadRect (View.loadsAt_vmem h_S1024x128)) fun v =>
  .op (.load xrM (col k).toLoadRect (View.loadsAt_vmem h_S1024x128)) fun w =>
  .op (.load oM (col k).toLoadRect (View.loadsAt_vmem h_S1024x128)) fun _ =>
  .op (.store oM (col k) (plus v w) Finset.univ (View.stores_vmem_bits_univ h_S1024x128 rfl) (.inl rfl)) fun _ =>
  .op (.load oM (col k).toLoadRect (View.loadsAt_vmem h_S1024x128)) fun u =>
  .op (.load ysM (col k).toLoadRect (View.loadsAt_vmem h_S1024x128)) fun _ =>
  .op (.store ysM (col k) (narrow u) Finset.univ
    (View.stores_vmem h_S1024x128 ((Memref.isWhole_whole cc0_scratch2).storeExact_slice rfl _ (colPacked k)) (fun _ => rfl)) (.inl rfl)) fun _ =>
  .op (.enqueueDma (part ysM k) (.remote (Dev.tc (⟨devYNat k c, devYNat_lt k c⟩ : Dev nD)) (part yrM k) (.dma (semAt cc0_scratch6 k))) (.dma (semAt cc0_scratch7 k))
    ((Memref.isWhole_whole cc0_scratch2).wordExact_slice rfl _ (colWords k)) ((Memref.isWhole_whole cc0_scratch3).wordExact_slice rfl _ (colWords k))
    ⟨⟨rfl, Or.inl rfl⟩, trivial⟩) fun _ =>
  .ret ⟨⟩

/-- Group `k` arrived from across `y`, added. -/
def addLast (k : Fin 8) : Prog (EffT F) PUnit :=
  .op (.waitDma2 (semAt cc0_scratch7 k) (part ysM k) (part yrM k)
    ((Memref.isWhole_whole cc0_scratch2).wordExact_slice rfl _ (colWords k)) ((Memref.isWhole_whole cc0_scratch3).wordExact_slice rfl _ (colWords k))) fun _ =>
  .op (.load oM (col k).toLoadRect (View.loadsAt_vmem h_S1024x128)) fun v =>
  .op (.load yrM (col k).toLoadRect (View.loadsAt_vmem h_S1024x128)) fun w =>
  .op (.load oM (col k).toLoadRect (View.loadsAt_vmem h_S1024x128)) fun _ =>
  .op (.store oM (col k) (plus v w) Finset.univ (View.stores_vmem_bits_univ h_S1024x128 rfl) (.inl rfl)) fun _ =>
  .ret ⟨⟩

/-- Both copies of group `k` have left. -/
def settle (k : Fin 8) : Prog (EffT F) PUnit :=
  .op (.waitDma2 (semAt cc0_scratch4 k) (part xrM k) (part xsM k)
    ((Memref.isWhole_whole cc0_scratch1).wordExact_slice rfl _ (colWords k)) ((Memref.isWhole_whole cc0_scratch0).wordExact_slice rfl _ (colWords k))) fun _ =>
  .op (.waitDma2 (semAt cc0_scratch6 k) (part yrM k) (part ysM k)
    ((Memref.isWhole_whole cc0_scratch3).wordExact_slice rfl _ (colWords k)) ((Memref.isWhole_whole cc0_scratch2).wordExact_slice rfl _ (colWords k))) fun _ =>
  .ret ⟨⟩

/-- What one device does. -/
def flow (c : Dev nD) : Prog (EffT F) PUnit :=
  .op (.semSignal (Dev.tc (⟨k0_dev1 c, k0_dev1_lt c⟩ : Dev nD)) barS 1) fun _ =>
  .op (.semSignal (Dev.tc (⟨k0_dev2 c, k0_dev2_lt c⟩ : Dev nD)) barS 1) fun _ =>
  .op (.semWait barS 2) fun _ =>
  inTurn 8 (sendAcross c) >>= fun _ => inTurn 8 (addAndPass c) >>= fun _ => inTurn 8 addLast >>= fun _ => inTurn 8 settle

set_option maxRecDepth 65536 in
/-- The printed kernel is this. -/
theorem body_eq_flow : cc0__cb_xy_body (F := F) pM (Memref.isWhole_whole _) oM (Memref.isWhole_whole _) xsM (Memref.isWhole_whole _)
    xrM (Memref.isWhole_whole _) ysM (Memref.isWhole_whole _) yrM (Memref.isWhole_whole _) cc0_scratch4 cc0_scratch5 cc0_scratch6 cc0_scratch7
    = .op .deviceId flow := by
  rfl

end Cert.Combine

end
-- ==== Proof.Plan.lean ====
/-
# The combining kernel's plan

Four devices on a 2×2 grid, device `c` at row `c / 2` (its `x`) and column `c % 2` (its `y`). Each talks to two others: its
neighbour across `x` (`acrossX`) and its neighbour across `y` (`acrossY`).

A device's cells: the barrier, and for each group of columns `k` the sending and the receiving semaphore of the copy
across `x` and of the copy across `y`. Signalling the barrier of a neighbour hands that neighbour the buffer it will copy
into; a copy's arrival hands the receiver that part of the buffer at what was sent.
-/
module

public import proofs.«01_k».proof.Proof.Flow

@[expose] public section

noncomputable section

namespace Cert.Combine

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen Cert.Meeting

variable {F : FTy → Type} [FloatOps F]

local notation "𝕄" => MT nD τ sig Unit (Elt F) ℕ (UU nD τ sig) ℕ

/-! ## The neighbours -/

theorem acrossX_lt : ∀ c : Dev nD, ((c.val % 2) + 2) - 2 * (c.val / 2) < nD := by decide
theorem acrossY_lt : ∀ c : Dev nD, (2 * (c.val / 2) + 1) - (c.val % 2) < nD := by decide

/-- The neighbour across `x`, -/
def acrossX : Dev nD ≃ Dev nD :=
  Function.Involutive.toPerm (fun c => (⟨((c.val % 2) + 2) - 2 * (c.val / 2), acrossX_lt c⟩ : Dev nD)) (by unfold Function.Involutive; decide)
/-- and across `y`. -/
def acrossY : Dev nD ≃ Dev nD :=
  Function.Involutive.toPerm (fun c => (⟨(2 * (c.val / 2) + 1) - (c.val % 2), acrossY_lt c⟩ : Dev nD)) (by unfold Function.Involutive; decide)

theorem acrossX_twice (c : Dev nD) : acrossX (acrossX c) = c := by revert c; decide
theorem acrossY_twice (c : Dev nD) : acrossY (acrossY c) = c := by revert c; decide
theorem acrossX_val (c : Dev nD) : (acrossX c).val = ((c.val % 2) + 2) - 2 * (c.val / 2) := rfl
theorem acrossY_val (c : Dev nD) : (acrossY c).val = (2 * (c.val / 2) + 1) - (c.val % 2) := rfl

theorem devX_eq (k : Fin 8) (c : Dev nD) : (⟨devXNat k c, devXNat_lt k c⟩ : Dev nD) = acrossX c := Fin.ext (devXNat_eq k c)
theorem devY_eq (k : Fin 8) (c : Dev nD) : (⟨devYNat k c, devYNat_lt k c⟩ : Dev nD) = acrossY c := Fin.ext (devYNat_eq k c)
theorem dev1_eq (c : Dev nD) : (⟨k0_dev1 c, k0_dev1_lt c⟩ : Dev nD) = acrossX c := Fin.ext (k0_dev1_eq c)
theorem dev2_eq (c : Dev nD) : (⟨k0_dev2 c, k0_dev2_lt c⟩ : Dev nD) = acrossY c := Fin.ext (k0_dev2_eq c)

/-! ## The groups of columns tile a buffer -/

theorem col_apart (k k' : Fin 8) (h : k ≠ k') : Disjoint (col k).set (col k').set := by
  have : k.val ≠ k'.val := fun e => h (Fin.ext e)
  refine Rect.unit_disjoint (1 : Fin 2) ?_
  show 128 * k.val + 128 ≤ 128 * k'.val ∨ 128 * k'.val + 128 ≤ 128 * k.val
  omega

theorem col_cover : (Finset.univ : Finset (Fin 8)).biUnion (fun k => (col k).set) = Finset.univ := by
  ext i
  simp only [Finset.mem_biUnion, Finset.mem_univ, true_and, iff_true]
  have h0 : (i (0 : Fin 2)).val < 1024 := (i (0 : Fin 2)).isLt
  have h1 : (i (1 : Fin 2)).val < 1024 := (i (1 : Fin 2)).isLt
  refine ⟨⟨(i (1 : Fin 2)).val / 128, by omega⟩, Rect.mem_set_unit.mpr fun a => ?_⟩
  fin_cases a
  · show 0 ≤ (i (0 : Fin 2)).val ∧ (i (0 : Fin 2)).val < 0 + 1024; omega
  · show 128 * ((i (1 : Fin 2)).val / 128) ≤ (i (1 : Fin 2)).val ∧ (i (1 : Fin 2)).val < 128 * ((i (1 : Fin 2)).val / 128) + 128; omega

/-! ## What each device computes -/

section Values

variable (P : Dev nD → Vec F S2048x1024 .f32)

/-- What device `c` sends across `x`, group `k`: its far rows, narrowed. -/
def sentX (c : Dev nD) (k : Fin 8) : FVec F S1024x128 .bf16 := narrow fun i => P c ((far k c).emb i)
/-- Its near rows with what its neighbour across `x` sent; -/
def half (c : Dev nD) (k : Fin 8) : FVec F S1024x128 .f32 := plus (fun i => P c ((near k c).emb i)) (sentX P (acrossX c) k)
/-- that narrowed, sent across `y`; -/
def sentY (c : Dev nD) (k : Fin 8) : FVec F S1024x128 .bf16 := narrow (half P c k)
/-- and with what its neighbour across `y` sent. -/
def total (c : Dev nD) (k : Fin 8) : FVec F S1024x128 .f32 := plus (half P c k) (sentY P (acrossY c) k)

/-- A device's result: the totals put together. -/
def result (c : Dev nD) : Vec F S1024x1024 .f32 := Rect.glue col col_cover (total P c)

end Values

/-! ## The plan -/

/-- The arrays of semaphores: `x` send, `x` receive, `y` send, `y` receive. -/
abbrev semArr : Fin 4 → DmaSems sig S8 := ![cc0_scratch4, cc0_scratch5, cc0_scratch6, cc0_scratch7]
def dmaAt (g : Fin 4) (k : Fin 8) : DmaSem sig := semAt (semArr g) k

theorem dmaAt_val : ∀ (g : Fin 4) (k : Fin 8), (dmaAt g k).val = 2 + 8 * g.val + k.val := by decide

/-- The cells: the barrier (`none`), and semaphore `k` of array `g`. -/
abbrev Key : Type := Option (Fin 4 × Fin 8)

def semOf : Key → SemLoc sig
  | none => .reg barS
  | some (g, k) => .dma (dmaAt g k)

theorem semOf_inj : Function.Injective semOf := by
  rintro (_ | ⟨g, k⟩) (_ | ⟨g', k'⟩) h
  · rfl
  · exact absurd h (by unfold semOf; simp)
  · exact absurd h (by unfold semOf; simp)
  · have h1 : dmaAt g k = dmaAt g' k' := by unfold semOf at h; simpa using h
    have h2 := congrArg Fin.val h1
    rw [dmaAt_val, dmaAt_val] at h2
    have := k.isLt; have := k'.isLt
    have hg : g = g' := Fin.ext (by omega)
    have hk : k = k' := Fin.ext (by omega)
    rw [hg, hk]

/-- The units one copy brings. -/
def unit : ℕ := (part xrM 0).view.dmaCredit
theorem unit_pos : 0 < unit := View.dmaCredit_pos _ (by decide)

/-- The duties a device owes from the start: the signals, and the arrivals of its copies. -/
def owedFrom (a b : ℕ) : Finset (Key × Bool) :=
  (Finset.univ.filter fun k : Fin 8 => a ≤ k.val).image (fun k => (some (1, k), false))
    ∪ (Finset.univ.filter fun k : Fin 8 => b ≤ k.val).image (fun k => (some (3, k), false))

def plan : Meet nD sig Key where
  sem := semOf
  inj := semOf_inj
  duties k := match k with | none => Finset.univ | some _ => {false}
  amount k := match k with | none => 1 | some _ => unit
  pos k := match k with | none => Nat.one_pos | some _ => unit_pos
  level k := match k with | none => 1 | some (g, _) => if g = 1 then 2 else if g = 3 then 3 else 0
  toward k d := match k with
    | none => if d then acrossY else acrossX
    | some (g, _) => if g = 1 then acrossX else if g = 3 then acrossY else Equiv.refl _
  owed := insert (none, false) (insert (none, true) (owedFrom 0 0))

theorem mem_owedFrom {a b : ℕ} {x : Key × Bool} : x ∈ owedFrom a b ↔ (∃ k : Fin 8, a ≤ k.val ∧ x = (some (1, k), false)) ∨ (∃ k : Fin 8, b ≤ k.val ∧ x = (some (3, k), false)) := by
  unfold owedFrom
  simp only [Finset.mem_union, Finset.mem_image, Finset.mem_filter, Finset.mem_univ, true_and]
  constructor
  · rintro (⟨k, h, rfl⟩ | ⟨k, h, rfl⟩)
    exacts [Or.inl ⟨k, h, rfl⟩, Or.inr ⟨k, h, rfl⟩]
  · rintro (⟨k, h, rfl⟩ | ⟨k, h, rfl⟩)
    exacts [Or.inl ⟨k, h, rfl⟩, Or.inr ⟨k, h, rfl⟩]

theorem owedFrom_stepX (k : Fin 8) (b : ℕ) : owedFrom k.val b = insert (some (1, k), false) (owedFrom (k.val + 1) b) := by
  ext x
  rw [Finset.mem_insert, mem_owedFrom, mem_owedFrom]
  constructor
  · rintro (⟨j, h, rfl⟩ | h)
    · by_cases e : j = k
      · exact Or.inl (by rw [e])
      · exact Or.inr (Or.inl ⟨j, Nat.lt_of_le_of_ne h fun h' => e (Fin.ext h'.symm), rfl⟩)
    · exact Or.inr (Or.inr h)
  · rintro (rfl | ⟨j, h, rfl⟩ | h)
    exacts [Or.inl ⟨k, le_refl _, rfl⟩, Or.inl ⟨j, by omega, rfl⟩, Or.inr h]
theorem owedFrom_stepY (k : Fin 8) (a : ℕ) : owedFrom a k.val = insert (some (3, k), false) (owedFrom a (k.val + 1)) := by
  ext x
  rw [Finset.mem_insert, mem_owedFrom, mem_owedFrom]
  constructor
  · rintro (h | ⟨j, h, rfl⟩)
    · exact Or.inr (Or.inl h)
    · by_cases e : j = k
      · exact Or.inl (by rw [e])
      · exact Or.inr (Or.inr ⟨j, Nat.lt_of_le_of_ne h fun h' => e (Fin.ext h'.symm), rfl⟩)
  · rintro (rfl | h | ⟨j, h, rfl⟩)
    exacts [Or.inr ⟨k, le_refl _, rfl⟩, Or.inl h, Or.inr ⟨j, by omega, rfl⟩]
theorem owedFrom_freshX (k : Fin 8) (b : ℕ) : ((some (1, k), false) : Key × Bool) ∉ owedFrom (k.val + 1) b := by
  rw [mem_owedFrom]
  rintro (⟨j, h, e⟩ | ⟨j, h, e⟩)
  · have : k = j := by simpa using e
    subst this; omega
  · exact absurd e (by simp)
theorem owedFrom_freshY (k : Fin 8) (a : ℕ) : ((some (3, k), false) : Key × Bool) ∉ owedFrom a (k.val + 1) := by
  rw [mem_owedFrom]
  rintro (⟨j, h, e⟩ | ⟨j, h, e⟩)
  · exact absurd e (by simp)
  · have : k = j := by simpa using e
    subst this; omega
theorem owedFrom_none (a b : ℕ) (d : Bool) : ((none, d) : Key × Bool) ∉ owedFrom a b := by
  rw [mem_owedFrom]; rintro (⟨j, h, e⟩ | ⟨j, h, e⟩) <;> exact absurd e (by simp)
theorem owedFrom_all : owedFrom 8 8 = ∅ := by
  ext x; rw [mem_owedFrom]
  constructor
  · rintro (⟨j, h, e⟩ | ⟨j, h, e⟩) <;> exact absurd j.isLt (by omega)
  · intro h; exact absurd h (Finset.notMem_empty _)

/-- While only arrivals are owed, the barrier may be waited for; -/
theorem above_bar : ∀ x ∈ owedFrom 0 0, plan.level none < plan.level x.1 := by
  intro x hx; rcases mem_owedFrom.mp hx with ⟨k, -, rfl⟩ | ⟨k, -, rfl⟩
  · show 1 < 2; decide
  · show 1 < 3; decide
/-- while only arrivals across `y` are owed, those across `x`; -/
theorem above_x (k : Fin 8) (b : ℕ) : ∀ x ∈ owedFrom 8 b, plan.level (some (1, k)) < plan.level x.1 := by
  intro x hx; rcases mem_owedFrom.mp hx with ⟨j, h, rfl⟩ | ⟨j, -, rfl⟩
  · exact absurd j.isLt (by omega)
  · show 2 < 3; decide
/-- while nothing is owed, anything. -/
theorem above_all (k : Key) : ∀ x ∈ owedFrom 8 8, plan.level k < plan.level x.1 := by
  rw [owedFrom_all]; intro x hx; exact absurd hx (Finset.notMem_empty _)

variable (P : Dev nD → Vec F S2048x1024 .f32)

/-- What paying each duty hands the cell's owner `c`. -/
def hand (c : Dev nD) (k : Key) (d : Bool) : sProp 𝕄 := match k with
  | none => if d then bigSep Finset.univ fun k : Fin 8 => iprop(∃ Y, owns (acrossY c : Thread nD τ) (part yrM k) fullShare Y)
    else bigSep Finset.univ fun k : Fin 8 => iprop(∃ Y, owns (acrossX c : Thread nD τ) (part xrM k) fullShare Y)
  | some (g, k) =>
    if g = 0 then owns (c : Thread nD τ) (part xsM k) fullShare (sentX P c k)
    else if g = 1 then owns (c : Thread nD τ) (part xrM k) fullShare (sentX P (acrossX c) k)
    else if g = 2 then owns (c : Thread nD τ) (part ysM k) fullShare (sentY P c k)
    else owns (c : Thread nD τ) (part yrM k) fullShare (sentY P (acrossY c) k)

instance hand_storable (c : Dev nD) (k : Key) (d : Bool) : BI.Storable (upEmb : UEmb _ 𝕄) (hand P c k d) := by
  unfold hand
  rcases k with _ | ⟨g, k⟩
  · cases d <;> (dsimp only; simp only [Bool.false_eq_true, if_true, if_false]; infer_instance)
  · dsimp only
    split_ifs <;> infer_instance

/-- All the copies bring the same number of units. -/
theorem amountX (k : Fin 8) (sm : DmaSem sig) : (part xrM k).view.amount (.dma sm) = unit := rfl
theorem amountY (k : Fin 8) (sm : DmaSem sig) : (part yrM k).view.amount (.dma sm) = unit := rfl
theorem creditXr (k : Fin 8) : (part xrM k).view.dmaCredit = unit := rfl
theorem creditXs (k : Fin 8) : (part xsM k).view.dmaCredit = unit := rfl
theorem creditYr (k : Fin 8) : (part yrM k).view.dmaCredit = unit := rfl
theorem creditYs (k : Fin 8) : (part ysM k).view.dmaCredit = unit := rfl

end Cert.Combine

end
-- ==== Proof.Body.lean ====
/-
# One device's run of the combining kernel

Each of the four things done to a group of columns, and then all of them: from the buffers, the plan's rights and credits
to the output at the total over the four devices.
-/
module

public import proofs.«01_k».proof.Proof.Plan

@[expose] public section

noncomputable section

namespace Cert.Combine

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen Cert.Meeting

variable {F : FTy → Type} [FloatOps F]

local notation "𝕄" => MT nD τ sig Unit (Elt F) ℕ (UU nD τ sig) ℕ

variable {defs : Defs nD τ sig (Elt F) Λ₀} (𝒱 : Variants)
variable (P : Dev nD → Vec F S2048x1024 .f32) (K : Dev nD × Key → ℕ)

/-- What every step uses: the cells' records, the order of the waits, what is still owed, the device's partial. -/
def around (S : Finset (Key × Bool)) (c : Dev nD) : sProp 𝕄 :=
  iprop(plan.records (τ := τ) (hand P) K ∗ levAts Meet.levels plan.lev ∗ plan.owing τ (Elt F) S c ∗ owns (c : Thread nD τ) pM fullShare (P c))

/-- A part of a buffer, at whatever it holds. -/
def held (c : Dev nD) (m : Memref sig .tc .vmem S1024x1024 .bf16) (k : Fin 8) : sProp 𝕄 := iprop(∃ Y, owns (c : Thread nD τ) (part m k) fullShare Y)

/-- The right to pay a duty; the place at a cell before and after its wait; the credit of a copy. -/
abbrev right (c : Dev nD) (k : Key) (d : Bool) : sProp 𝕄 := dutyTok ER (plan.cell τ c k) 0 d
abbrev before (c : Dev nD) (k : Key) : sProp 𝕄 := atPos ER (plan.cell τ c k) 0 ∅ 0
abbrev after (c : Dev nD) (k : Key) : sProp 𝕄 := atPos ER (plan.cell τ c k) 1 ∅ 0
abbrev due (c : Dev nD) (k : Key) : sProp 𝕄 := cred (tallyAt (plan.cell τ c k) () unit)

/-- What one step needs of its own, and what it leaves. -/
def sendPre (c : Dev nD) (k : Fin 8) : sProp 𝕄 :=
  iprop(held c xsM k ∗ held (acrossX c) xrM k ∗ right c (some (0, k)) false ∗ right (acrossX c) (some (1, k)) false)
def sendPost (c : Dev nD) (k : Fin 8) : sProp 𝕄 := due c (some (0, k))

theorem wp_sendAcross (c : Dev nD) (k : Fin 8) (Q : PUnit → sProp 𝕄) :
    iprop(sendPre c k ∗ around P K (owedFrom k.val 0) c ∗ ((sendPost c k ∗ around P K (owedFrom (k.val + 1) 0) c) -∗ Q ⟨⟩))
      ⊢ wp frame (wpE defs 𝒱 (c : Thread nD τ) none) Set.univ (sendAcross c k) Q := by
  unfold sendPre sendPost around held sendAcross
  iintro ⟨⟨⟨%Y, Hs⟩, Hd, HtS, HtR⟩, ⟨#HR, #Hl, HO, Hp⟩, Hk⟩
  iapply (wp_look 𝒱 pM (far k c) c) $$ Hp; iintro Hp
  iapply (wp_peek 𝒱 xsM (col k) (fun _ => rfl) c) $$ Hs; iintro Hs
  iapply (wp_put 𝒱 xsM (col k) (fun _ => rfl) c) $$ Hs; iintro Hs
  iapply (plan.wp_ship_owned (hand P) 𝒱 K c _ (kS := some (0, k)) (kR := some (1, k)) (dS := false) (dR := false) (devX_eq k c) rfl rfl rfl
    (Finset.mem_singleton_self _) (Finset.mem_singleton_self _) (owedFrom_stepX k 0) (owedFrom_freshX k 0) (amountX k _) rfl
    (q := fullShare) (X := sentX P c k) (BI.Entails.refl _)
    (by rw [show hand P (plan.toward (some (1, k)) false c) (some (1, k)) false
          = owns (acrossX c : Thread nD τ) (part xrM k) fullShare (sentX P (acrossX (acrossX c)) k) from rfl, acrossX_twice]
        exact BI.Entails.refl _)) $$ [HO Hs Hd HtS HtR]
  · isplitr; · iexact HR
    isplitl [Hs]; · iexact Hs
    isplitl [Hd]; · iexact Hd
    isplitl [HO]; · iexact HO
    isplitl [HtS]; · iexact HtS
    iexact HtR
  iintro ⟨Hc, HO⟩
  rw [wp_ret]
  imodintro
  iapply Hk
  isplitl [Hc]; · iexact Hc
  isplitr; · iexact HR
  isplitr; · iexact Hl
  isplitl [HO] <;> iassumption

def passPre (c : Dev nD) (k : Fin 8) : sProp 𝕄 :=
  iprop(before c (some (1, k)) ∗ due c (some (1, k)) ∗ (∃ Y, owns (c : Thread nD τ) (oPart k) fullShare Y) ∗ held c ysM k
    ∗ held (acrossY c) yrM k ∗ right c (some (2, k)) false ∗ right (acrossY c) (some (3, k)) false)
def passPost (c : Dev nD) (k : Fin 8) : sProp 𝕄 :=
  iprop(after c (some (1, k)) ∗ held c xrM k ∗ owns (c : Thread nD τ) (oPart k) fullShare (half P c k) ∗ due c (some (2, k)))

theorem wp_addAndPass (c : Dev nD) (k : Fin 8) (Q : PUnit → sProp 𝕄) :
    iprop(passPre c k ∗ around P K (owedFrom 8 k.val) c ∗ ((passPost P c k ∗ around P K (owedFrom 8 (k.val + 1)) c) -∗ Q ⟨⟩))
      ⊢ wp frame (wpE defs 𝒱 (c : Thread nD τ) none) Set.univ (addAndPass c k) Q := by
  unfold passPre passPost around held addAndPass
  iintro ⟨⟨Hat, Hc, ⟨%Y, Ho⟩, ⟨%Y', Hs⟩, Hd, HtS, HtR⟩, ⟨#HR, #Hl, HO, Hp⟩, Hk⟩
  iapply (plan.wp_meet_copy (hand P) 𝒱 K c (k := some (1, k)) (d := false) rfl rfl (creditXr k) rfl (above_x k k.val)) $$ [Hat Hc HO]
  · isplitr; · iexact HR
    isplitl [Hc]; · iexact Hc
    isplitl [HO]; · iexact HO
    isplitr; · iexact Hl
    iexact Hat
  iintro ⟨HO, Hat, Hh⟩
  ihave Hx := (show hand P c (some (1, k)) false ⊢ owns (c : Thread nD τ) (part xrM k) fullShare (sentX P (acrossX c) k) from BI.Entails.refl _) $$ Hh
  iapply (wp_look 𝒱 pM (near k c) c) $$ Hp; iintro Hp
  iapply (wp_peek 𝒱 xrM (col k) (fun _ => rfl) c) $$ Hx; iintro Hx
  iapply (wp_peek 𝒱 oM (col k) (fun _ => rfl) c) $$ Ho; iintro Ho
  iapply (wp_put 𝒱 oM (col k) (fun _ => rfl) c) $$ Ho; iintro Ho
  iapply (wp_peek 𝒱 oM (col k) (fun _ => rfl) c) $$ Ho; iintro Ho
  iapply (wp_peek 𝒱 ysM (col k) (fun _ => rfl) c) $$ Hs; iintro Hs
  iapply (wp_put 𝒱 ysM (col k) (fun _ => rfl) c) $$ Hs; iintro Hs
  iapply (plan.wp_ship_owned (hand P) 𝒱 K c _ (kS := some (2, k)) (kR := some (3, k)) (dS := false) (dR := false) (devY_eq k c) rfl rfl rfl
    (Finset.mem_singleton_self _) (Finset.mem_singleton_self _) (owedFrom_stepY k 8) (owedFrom_freshY k 8) (amountY k _) rfl
    (q := fullShare) (X := sentY P c k) (BI.Entails.refl _)
    (by rw [show hand P (plan.toward (some (3, k)) false c) (some (3, k)) false
          = owns (acrossY c : Thread nD τ) (part yrM k) fullShare (sentY P (acrossY (acrossY c)) k) from rfl, acrossY_twice]
        exact BI.Entails.refl _)) $$ [HO Hs Hd HtS HtR]
  · isplitr; · iexact HR
    isplitl [Hs]; · iexact Hs
    isplitl [Hd]; · iexact Hd
    isplitl [HO]; · iexact HO
    isplitl [HtS]; · iexact HtS
    iexact HtR
  iintro ⟨Hc, HO⟩
  rw [wp_ret]
  imodintro
  iapply Hk
  isplitl [Hat Hx Ho Hc]
  · isplitl [Hat]; · iexact Hat
    isplitl [Hx]; · iexists _; iexact Hx
    isplitl [Ho]; · iexact Ho
    iexact Hc
  isplitr; · iexact HR
  isplitr; · iexact Hl
  isplitl [HO] <;> iassumption

def lastPre (c : Dev nD) (k : Fin 8) : sProp 𝕄 :=
  iprop(before c (some (3, k)) ∗ due c (some (3, k)) ∗ owns (c : Thread nD τ) (oPart k) fullShare (half P c k))
def lastPost (c : Dev nD) (k : Fin 8) : sProp 𝕄 :=
  iprop(after c (some (3, k)) ∗ held c yrM k ∗ owns (c : Thread nD τ) (oPart k) fullShare (total P c k))

theorem wp_addLast (c : Dev nD) (k : Fin 8) (Q : PUnit → sProp 𝕄) :
    iprop(lastPre P c k ∗ around P K (owedFrom 8 8) c ∗ ((lastPost P c k ∗ around P K (owedFrom 8 8) c) -∗ Q ⟨⟩))
      ⊢ wp frame (wpE defs 𝒱 (c : Thread nD τ) none) Set.univ (addLast k) Q := by
  unfold lastPre lastPost around held addLast
  iintro ⟨⟨Hat, Hc, Ho⟩, ⟨#HR, #Hl, HO, Hp⟩, Hk⟩
  iapply (plan.wp_meet_copy (hand P) 𝒱 K c (k := some (3, k)) (d := false) rfl rfl (creditYr k) rfl (above_all _)) $$ [Hat Hc HO]
  · isplitr; · iexact HR
    isplitl [Hc]; · iexact Hc
    isplitl [HO]; · iexact HO
    isplitr; · iexact Hl
    iexact Hat
  iintro ⟨HO, Hat, Hh⟩
  ihave Hx := (show hand P c (some (3, k)) false ⊢ owns (c : Thread nD τ) (part yrM k) fullShare (sentY P (acrossY c) k) from BI.Entails.refl _) $$ Hh
  iapply (wp_peek 𝒱 oM (col k) (fun _ => rfl) c) $$ Ho; iintro Ho
  iapply (wp_peek 𝒱 yrM (col k) (fun _ => rfl) c) $$ Hx; iintro Hx
  iapply (wp_peek 𝒱 oM (col k) (fun _ => rfl) c) $$ Ho; iintro Ho
  iapply (wp_put 𝒱 oM (col k) (fun _ => rfl) c) $$ Ho; iintro Ho
  rw [wp_ret]
  imodintro
  iapply Hk
  isplitl [Hat Hx Ho]
  · isplitl [Hat]; · iexact Hat
    isplitl [Hx]; · iexists _; iexact Hx
    iexact Ho
  isplitr; · iexact HR
  isplitr; · iexact Hl
  isplitl [HO] <;> iassumption

def settlePre (c : Dev nD) (k : Fin 8) : sProp 𝕄 :=
  iprop(before c (some (0, k)) ∗ due c (some (0, k)) ∗ before c (some (2, k)) ∗ due c (some (2, k)))
def settlePost (c : Dev nD) (k : Fin 8) : sProp 𝕄 :=
  iprop(after c (some (0, k)) ∗ held c xsM k ∗ after c (some (2, k)) ∗ held c ysM k)

theorem wp_settle (c : Dev nD) (k : Fin 8) (Q : PUnit → sProp 𝕄) :
    iprop(settlePre c k ∗ around P K (owedFrom 8 8) c ∗ ((settlePost c k ∗ around P K (owedFrom 8 8) c) -∗ Q ⟨⟩))
      ⊢ wp frame (wpE defs 𝒱 (c : Thread nD τ) none) Set.univ (settle k) Q := by
  unfold settlePre settlePost around held settle
  iintro ⟨⟨HatX, HcX, HatY, HcY⟩, ⟨#HR, #Hl, HO, Hp⟩, Hk⟩
  iapply (plan.wp_meet_copy (hand P) 𝒱 K c (k := some (0, k)) (d := false) rfl rfl (creditXs k) rfl (above_all _)) $$ [HatX HcX HO]
  · isplitr; · iexact HR
    isplitl [HcX]; · iexact HcX
    isplitl [HO]; · iexact HO
    isplitr; · iexact Hl
    iexact HatX
  iintro ⟨HO, HatX, Hh⟩
  ihave Hx := (show hand P c (some (0, k)) false ⊢ owns (c : Thread nD τ) (part xsM k) fullShare (sentX P c k) from BI.Entails.refl _) $$ Hh
  iapply (plan.wp_meet_copy (hand P) 𝒱 K c (k := some (2, k)) (d := false) rfl rfl (creditYs k) rfl (above_all _)) $$ [HatY HcY HO]
  · isplitr; · iexact HR
    isplitl [HcY]; · iexact HcY
    isplitl [HO]; · iexact HO
    isplitr; · iexact Hl
    iexact HatY
  iintro ⟨HO, HatY, Hh⟩
  ihave Hy := (show hand P c (some (2, k)) false ⊢ owns (c : Thread nD τ) (part ysM k) fullShare (sentY P c k) from BI.Entails.refl _) $$ Hh
  rw [wp_ret]
  imodintro
  iapply Hk
  isplitl [HatX Hx HatY Hy]
  · isplitl [HatX]; · iexact HatX
    isplitl [Hx]; · iexists _; iexact Hx
    isplitl [HatY]; · iexact HatY
    iexists _; iexact Hy
  isplitr; · iexact HR
  isplitr; · iexact Hl
  isplitl [HO] <;> iassumption

/-! ## All of it -/

/-- Families over the cells, cell by cell; -/
theorem over_keys (Φ : Key → sProp 𝕄) : bigSep Finset.univ Φ
    = iprop(Φ none ∗ (bigSep Finset.univ fun k : Fin 8 => Φ (some (0, k))) ∗ (bigSep Finset.univ fun k : Fin 8 => Φ (some (1, k)))
      ∗ (bigSep Finset.univ fun k : Fin 8 => Φ (some (2, k))) ∗ bigSep Finset.univ fun k : Fin 8 => Φ (some (3, k))) := by
  rw [bigSep_maybe, bigSep_univ_prod (fun gk : Fin 4 × Fin 8 => Φ (some gk)),
    bigSep_univ_eq_bigSepL [(0 : Fin 4), 1, 2, 3] (by decide) (by decide)]
  rfl

/-- over what is owed from the start; -/
theorem over_owed (Φ : Key × Bool → sProp 𝕄) : bigSep plan.owed Φ
    = iprop(Φ (none, false) ∗ Φ (none, true) ∗ (bigSep Finset.univ fun k : Fin 8 => Φ (some (1, k), false))
      ∗ bigSep Finset.univ fun k : Fin 8 => Φ (some (3, k), false)) := by
  have e : owedFrom 0 0 = (Finset.univ.map ⟨fun k : Fin 8 => ((some (1, k), false) : Key × Bool), fun a b h => by simpa using h⟩)
      ∪ (Finset.univ.map ⟨fun k : Fin 8 => ((some (3, k), false) : Key × Bool), fun a b h => by simpa using h⟩) := by decide
  rw [show plan.owed = insert (none, false) (insert (none, true) (owedFrom 0 0)) from rfl, bigSep_insert (by decide), bigSep_insert (by decide), e,
    bigSep_union (by decide), bigSep_map, bigSep_map]
  rfl

/-- the rights a device uses. -/
theorem rights_used (c : Dev nD) : (plan.rights τ c : sProp 𝕄)
    ⊢ iprop(right (acrossX c) none false ∗ right (acrossY c) none true
      ∗ (bigSep Finset.univ fun k : Fin 8 => right c (some (0, k)) false) ∗ (bigSep Finset.univ fun k : Fin 8 => right (acrossX c) (some (1, k)) false)
      ∗ (bigSep Finset.univ fun k : Fin 8 => right c (some (2, k)) false) ∗ bigSep Finset.univ fun k : Fin 8 => right (acrossY c) (some (3, k)) false) := by
  unfold Meet.rights
  rw [bigSep_univ_prod (fun x : Key × Bool => (dutyTok ER (plan.cell τ (plan.toward x.1 x.2 c) x.1) 0 x.2 : sProp 𝕄)), over_keys]
  simp only [bigSep_pair, bigSep_sep']
  iintro ⟨⟨H1, H2⟩, ⟨H3, -⟩, ⟨H4, -⟩, ⟨H5, -⟩, ⟨H6, -⟩⟩
  isplitl [H1]; · iexact H1
  isplitl [H2]; · iexact H2
  isplitl [H3]; · iexact H3
  isplitl [H4]; · iexact H4
  isplitl [H5]; · iexact H5
  iexact H6

/-- A buffer at whatever it holds, whole. -/
def some16 (c : Dev nD) (m : Memref sig .tc .vmem S1024x1024 .bf16) : sProp 𝕄 := iprop(∃ X, owns (c : Thread nD τ) m fullShare X)

theorem some16_apart (c : Dev nD) (m : Memref sig .tc .vmem S1024x1024 .bf16) : (some16 c m : sProp 𝕄) ⊢ bigSep Finset.univ fun k => held c m k := by
  unfold some16 held
  iintro ⟨%X, H⟩
  iapply (apart m c col (fun _ _ => rfl) col_apart col_cover (X := X)); iexact H

theorem some16_together (c : Dev nD) (m : Memref sig .tc .vmem S1024x1024 .bf16) : (bigSep Finset.univ fun k => held c m k : sProp 𝕄) ⊢ some16 c m := by
  unfold some16 held
  exact together_any m c col (fun _ _ => rfl) col_apart col_cover

theorem result_together (c : Dev nD) :
    (bigSep Finset.univ fun k => owns (c : Thread nD τ) (oPart k) fullShare (total P c k) : sProp 𝕄) ⊢ owns (c : Thread nD τ) oM fullShare (result P c) := by
  unfold result
  exact together (Val := Elt F) (e := .f32) (s := S1024x1024) oM c col (fun _ _ => rfl) col_apart col_cover (q := fullShare) (fun k => total P c k)

/-- What a device starts with, and what it ends with. -/
def runPre (c : Dev nD) : sProp 𝕄 :=
  iprop(plan.start (τ := τ) (hand P) c ∗ plan.owing τ (Elt F) plan.owed c ∗ owns (c : Thread nD τ) pM fullShare (P c)
    ∗ (∃ X, owns (c : Thread nD τ) oM fullShare X) ∗ some16 c xsM ∗ some16 c xrM ∗ some16 c ysM ∗ some16 c yrM)
def runPost (c : Dev nD) : sProp 𝕄 :=
  iprop((bigSep Finset.univ fun k : Key => semVal (plan.cell τ c k) 0) ∗ plan.owing τ (Elt F) ∅ c ∗ owns (c : Thread nD τ) pM fullShare (P c)
    ∗ owns (c : Thread nD τ) oM fullShare (result P c) ∗ some16 c xsM ∗ some16 c xrM ∗ some16 c ysM ∗ some16 c yrM)

/-- The two signals and the wait for both. -/
theorem wp_hello (c : Dev nD) {p : Prog (EffT F) PUnit} (Q : PUnit → sProp 𝕄) :
    iprop(around P K plan.owed c ∗ right (acrossX c) none false ∗ right (acrossY c) none true ∗ before c none
        ∗ cred (tallyAt (plan.cell τ c none) () 1) ∗ cred (tallyAt (plan.cell τ c none) () 1)
        ∗ (bigSep Finset.univ fun k => held c xrM k) ∗ bigSep Finset.univ fun k => held c yrM k)
      ⊢ iprop(((around P K (owedFrom 0 0) c ∗ after c none ∗ (bigSep Finset.univ fun k => held (acrossX c) xrM k) ∗ (bigSep Finset.univ fun k => held (acrossY c) yrM k))
          -∗ wp frame (wpE defs 𝒱 (c : Thread nD τ) none) Set.univ p Q)
        -∗ wp frame (wpE defs 𝒱 (c : Thread nD τ) none) Set.univ
          (.op (.semSignal (Dev.tc (⟨k0_dev1 c, k0_dev1_lt c⟩ : Dev nD)) barS 1) fun _ =>
           .op (.semSignal (Dev.tc (⟨k0_dev2 c, k0_dev2_lt c⟩ : Dev nD)) barS 1) fun _ => .op (.semWait barS 2) fun _ => p) Q) := by
  unfold around
  iintro ⟨⟨#HR, #Hl, HO, Hp⟩, Ht1, Ht2, Hat, Hc1, Hc2, Hxr, Hyr⟩ Hk
  iapply (plan.wp_tell (hand P) 𝒱 K c _ (k := none) (d := false) (dev1_eq c) rfl rfl (Finset.mem_univ _)
    (S' := insert (none, true) (owedFrom 0 0)) rfl (by decide)) $$ [HO Ht1 Hxr]
  · isplitr; · iexact HR
    isplitl [HO]; · iexact HO
    isplitl [Ht1]; · iexact Ht1
    rw [show hand P (plan.toward none false c) none false = bigSep Finset.univ fun k => held (acrossX (acrossX c)) xrM k from rfl, acrossX_twice]
    iexact Hxr
  iintro HO
  iapply (plan.wp_tell (hand P) 𝒱 K c _ (k := none) (d := true) (dev2_eq c) rfl rfl (Finset.mem_univ _)
    (S' := owedFrom 0 0) rfl (by decide)) $$ [HO Ht2 Hyr]
  · isplitr; · iexact HR
    isplitl [HO]; · iexact HO
    isplitl [Ht2]; · iexact Ht2
    rw [show hand P (plan.toward none true c) none true = bigSep Finset.univ fun k => held (acrossY (acrossY c)) yrM k from rfl, acrossY_twice]
    iexact Hyr
  iintro HO
  iapply (plan.wp_meet (hand P) 𝒱 K c (k := none) (sm := .reg barS) rfl (k' := 2) (fun _ => rfl) rfl above_bar) $$ [Hat Hc1 Hc2 HO]
  · isplitr; · iexact HR
    isplitl [Hc1 Hc2]
    · rw [← tallyAt_add (plan.cell τ c none) () 1 1]
      iapply (cred_add _ _).2
      isplitl [Hc1] <;> iassumption
    isplitl [HO]; · iexact HO
    isplitr; · iexact Hl
    iexact Hat
  iintro ⟨HO, Hat, Hh⟩
  ihave Hh := (show (bigSep (plan.duties none) fun d => hand P c none d)
    ⊢ iprop((bigSep Finset.univ fun k => held (acrossX c) xrM k) ∗ bigSep Finset.univ fun k => held (acrossY c) yrM k) from Entails.of_eq (bigSep_pair _)) $$ Hh
  icases Hh with ⟨H1, H2⟩
  iapply Hk
  isplitl [HO Hp]
  · isplitr; · iexact HR
    isplitr; · iexact Hl
    isplitl [HO] <;> iassumption
  isplitl [Hat]; · iexact Hat
  isplitl [H1] <;> iassumption

set_option maxHeartbeats 1600000 in
/-- The run of one device. -/
theorem wp_flow (c : Dev nD) (Q : PUnit → sProp 𝕄) :
    iprop(runPre P c ∗ (runPost P c -∗ Q ⟨⟩)) ⊢ wp frame (wpE defs 𝒱 (c : Thread nD τ) none) Set.univ (flow c) Q := by
  unfold runPre Meet.start Meet.dealt Meet.places Meet.credits flow
  rw [over_keys, over_owed]
  iintro ⟨⟨⟨⟨%K, #HR, ⟨HatB, HatXs, HatXr, HatYs, HatYr⟩, Hrt⟩, ⟨HcB1, HcB2, HcX, HcY⟩, #Hl⟩, HO, Hp, ⟨%Xo, Ho⟩, Hxs, Hxr, Hys, Hyr⟩, Hk⟩
  ihave Hrt := (rights_used c) $$ Hrt
  icases Hrt with ⟨HtB1, HtB2, HtXs, HtXr, HtYs, HtYr⟩
  ihave Hxs := (some16_apart c xsM) $$ Hxs
  ihave Hxr := (some16_apart c xrM) $$ Hxr
  ihave Hys := (some16_apart c ysM) $$ Hys
  ihave Hyr := (some16_apart c yrM) $$ Hyr
  ihave Ho := (apart oM c col (fun _ _ => rfl) col_apart col_cover (X := Xo)) $$ Ho
  iapply (wp_hello 𝒱 P K c Q) $$ [HO Hp HtB1 HtB2 HatB HcB1 HcB2 Hxr Hyr]
  · unfold around
    isplitl [HO Hp]
    · isplitr; · iexact HR
      isplitr; · iexact Hl
      isplitl [HO] <;> iassumption
    isplitl [HtB1]; · iexact HtB1
    isplitl [HtB2]; · iexact HtB2
    isplitl [HatB]; · iexact HatB
    isplitl [HcB1]; · iexact HcB1
    isplitl [HcB2]; · iexact HcB2
    isplitl [Hxr] <;> iassumption
  iintro ⟨HG, HatB, Hxr, Hyr⟩
  rw [wp_bind]
  iapply (wp_inTurn 𝒱 c (sendAcross c) (sendPre c) (sendPost c) (fun i => around P K (owedFrom i 0) c) (fun k Q => wp_sendAcross 𝒱 P K c k Q) _)
  isplitl [Hxs Hxr HtXs HtXr]
  · unfold sendPre; simp only [bigSep_sep']
    isplitl [Hxs]; · iexact Hxs
    isplitl [Hxr]; · iexact Hxr
    isplitl [HtXs] <;> iassumption
  isplitl [HG]; · iexact HG
  iintro ⟨HcXs, HG⟩
  rw [wp_bind]
  iapply (wp_inTurn 𝒱 c (addAndPass c) (passPre c) (passPost P c) (fun i => around P K (owedFrom 8 i) c) (fun k Q => wp_addAndPass 𝒱 P K c k Q) _)
  isplitl [HatXr HcX Ho Hys Hyr HtYs HtYr]
  · unfold passPre; simp only [bigSep_sep']
    isplitl [HatXr]; · iexact HatXr
    isplitl [HcX]; · iexact HcX
    isplitl [Ho]; · iexact Ho
    isplitl [Hys]; · iexact Hys
    isplitl [Hyr]; · iexact Hyr
    isplitl [HtYs] <;> iassumption
  isplitl [HG]; · iexact HG
  unfold passPost; simp only [bigSep_sep']
  iintro ⟨⟨HatXr, Hxr, Ho, HcYs⟩, HG⟩
  rw [wp_bind]
  iapply (wp_inTurn 𝒱 c addLast (lastPre P c) (lastPost P c) (fun _ => around P K (owedFrom 8 8) c) (fun k Q => wp_addLast 𝒱 P K c k Q) _)
  isplitl [HatYr HcY Ho]
  · unfold lastPre; simp only [bigSep_sep']
    isplitl [HatYr]; · iexact HatYr
    isplitl [HcY]; · iexact HcY
    iexact Ho
  isplitl [HG]; · iexact HG
  unfold lastPost; simp only [bigSep_sep']
  iintro ⟨⟨HatYr, Hyr, Ho⟩, HG⟩
  iapply (wp_fupd frame _ Set.univ)
  iapply (wp_inTurn 𝒱 c settle (settlePre c) (settlePost c) (fun _ => around P K (owedFrom 8 8) c) (fun k Q => wp_settle 𝒱 P K c k Q) _)
  isplitl [HatXs HcXs HatYs HcYs]
  · unfold settlePre; simp only [bigSep_sep']
    isplitl [HatXs]; · iexact HatXs
    isplitl [HcXs]; · iexact HcXs
    isplitl [HatYs] <;> iassumption
  isplitl [HG]; · iexact HG
  unfold settlePost around; simp only [bigSep_sep']
  iintro ⟨⟨HatXs, Hxs, HatYs, Hys⟩, ⟨-, -, HO, Hp⟩⟩
  imod (plan.closeAll (hand P) K c) $$ [HatB HatXs HatXr HatYs HatYr] with Hz
  · isplitr; · iexact HR
    rw [over_keys]
    isplitl [HatB]; · iexact HatB
    isplitl [HatXs]; · iexact HatXs
    isplitl [HatXr]; · iexact HatXr
    isplitl [HatYs]; · iexact HatYs
    iexact HatYr
  imodintro
  iapply Hk
  unfold runPost
  rw [owedFrom_all]
  isplitl [Hz]; · iexact Hz
  isplitl [HO]; · iexact HO
  isplitl [Hp]; · iexact Hp
  isplitl [Ho]; · iapply (result_together P c); iexact Ho
  isplitl [Hxs]; · iapply (some16_together c xsM); iexact Hxs
  isplitl [Hxr]; · iapply (some16_together c xrM); iexact Hxr
  isplitl [Hys]; · iapply (some16_together c ysM); iexact Hys
  iapply (some16_together c yrM); iexact Hyr

end Cert.Combine

end
-- ==== Proof.Run.lean ====
/-
# The combining kernel's launch

From any memory with zero counters, every device runs its part to the end: its result array holds `result`, its argument
is as it was, and every counter is zero again. For any float values.
-/
module

public import proofs.«01_k».proof.Proof.Body
public import proofs.«01_k».proof.Proof.Gen.KernelIdeal.Launch
public import Idealize.ShloMosaic.Lib.Pipeline.CollectiveSegs

@[expose] public section

noncomputable section

namespace Cert.Combine

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pipeline
open Cert.KernelIdeal Cert.KernelIdeal.Gen Cert.Meeting

variable {F : FTy → Type} [FloatOps F]

local notation "𝕄" => MT nD τ sig Unit (Elt F) ℕ (UU nD τ sig) ℕ

variable (m : (ℓ : Loc nD τ sig) → Buf (Elt F) ℓ) (ρ : Dev nD → PrngReg)

/-- The memory at the start; -/
abbrev s₀ : MemSt nD τ sig (Elt F) := ⟨m, fun _ => 0, ρ⟩
/-- each device's partial, as its kernel is given it. -/
def partials (c : Dev nD) : Vec F S2048x1024 .f32 := (win0_0.blk t0_0).view.read (Elt F) (m ((c : Thread nD τ).loc main_arg0))

/-- What a device holds between the launch and its kernel, and after it. -/
def scratch (c : Dev nD) : sProp 𝕄 := iprop(some16 c xsM ∗ some16 c xrM ∗ some16 c ysM ∗ some16 c yrM)
def zeros (c : Dev nD) : sProp 𝕄 := bigSep Finset.univ fun k : Key => semVal (plan.cell τ c k) 0

def dats (_ : Fin 1) (c : Dev nD) : Dat τ (Elt F) Unit ℕ (UU nD τ sig) ℕ cfg0 c where
  A w := (s₀ m ρ).mem ((cfg0.win w).arr.view.loc (c : Thread nD τ))
  after w _ := match w with
    | ⟨0, _⟩ => partials m c
    | ⟨1, _⟩ => result (partials m) c
  Φ t := match t with
    | ⟨0, _⟩ => iprop(plan.start (τ := τ) (hand (partials m)) c ∗ scratch c)
    | ⟨_ + 1, _⟩ => iprop(zeros c ∗ scratch c)
  q _ := fullShare
  owed t := match t with
    | ⟨0, _⟩ => plan.dues τ plan.owed c
    | ⟨_ + 1, _⟩ => plan.dues τ ∅ c

/-! ## The kernel's obligation -/

abbrev 𝒱₀ : Variants := Variants.none

/-- What the launch hands the kernel, and what it takes back. -/
def bodyPre (c : Dev nD) : sProp 𝕄 :=
  iprop((plan.start (τ := τ) (hand (partials m)) c ∗ scratch c) ∗ (dats m ρ 0 c).owesAt () t0_0.castSucc
    ∗ (∃ d, owns (c : Thread nD τ) pM fullShare ((dats m ρ 0 c).before (0 : Fin 2) t0_0 d))
    ∗ (∃ d, owns (c : Thread nD τ) oM fullShare ((dats m ρ 0 c).before (1 : Fin 2) t0_0 d)))
def bodyPost (c : Dev nD) : sProp 𝕄 :=
  iprop((zeros c ∗ scratch c) ∗ (dats m ρ 0 c).owesAt () t0_0.succ
    ∗ owns (c : Thread nD τ) pM fullShare (partials m c) ∗ owns (c : Thread nD τ) oM fullShare (result (partials m) c))

theorem fetch_0 : (cfg0.win (0 : Fin 2)).fetch t0_0 = true := rfl

theorem body_run (c : Dev nD) : bodyPre m ρ c ⊢ wp frame (wpE (defs₀ (F := F)) 𝒱₀ (c : Thread nD τ) none) Set.univ (flow c) (fun _ => bodyPost m ρ c) := by
  have hx (d) : (dats m ρ 0 c).before (0 : Fin 2) t0_0 d = partials m c := by unfold Dat.before; rw [if_pos fetch_0]; rfl
  unfold bodyPre bodyPost scratch zeros Dat.owesAt Pipeline.owesWithin
  rw [show (dats m ρ 0 c).owed t0_0.castSucc = plan.dues τ plan.owed c from rfl, show (dats m ρ 0 c).owed t0_0.succ = plan.dues τ ∅ c from rfl]
  simp only [hx]
  iintro ⟨⟨Hst, H1, H2, H3, H4⟩, ⟨%W, -, HO⟩, ⟨%d0, Hp⟩, ⟨%d1, Ho⟩⟩
  iapply (wp_flow 𝒱₀ (partials m) c (fun _ => _))
  unfold runPre runPost Meet.owing
  isplitl [Hst H1 H2 H3 H4 HO Hp Ho]
  · isplitl [Hst]; · iexact Hst
    isplitl [HO]; · iexists W; iexact HO
    isplitl [Hp]; · iexact Hp
    isplitl [Ho]; · iexists _; iexact Ho
    isplitl [H1]; · iexact H1
    isplitl [H2]; · iexact H2
    isplitl [H3] <;> iassumption
  iintro ⟨Hz, ⟨%W', HO⟩, Hp, Ho, H1, H2, H3, H4⟩
  isplitl [Hz H1 H2 H3 H4]
  · isplitl [Hz]; · iexact Hz
    isplitl [H1]; · iexact H1
    isplitl [H2]; · iexact H2
    isplitl [H3] <;> iassumption
  isplitl [HO]
  · iexists W'
    isplitr; · ipureintro; exact fun _ _ => Or.inl trivial
    iexact HO
  isplitl [Hp] <;> iassumption

set_option maxRecDepth 65536 in
theorem body_obligation (c : Dev nD) : BodyObligation (dats (F := F) m ρ 0 c) (defs₀ (F := F)) 𝒱₀ () Set.univ := fun t => by
  rw [fin_N0 t]
  rw [bigSep_W0, bigSep_W0]
  show bodyPre m ρ c ⊢ wp frame (wpE (defs₀ (F := F)) 𝒱₀ (c : Thread nD τ) none) Set.univ
    (cc0__cb_xy_body (F := F) pM (Memref.isWhole_whole _) oM (Memref.isWhole_whole _) xsM (Memref.isWhole_whole _)
      xrM (Memref.isWhole_whole _) ysM (Memref.isWhole_whole _) yrM (Memref.isWhole_whole _) cc0_scratch4 cc0_scratch5 cc0_scratch6 cc0_scratch7)
    (fun _ => bodyPost m ρ c)
  rw [body_eq_flow, wp_deviceId]
  exact body_run m ρ c

/-! ## The launch -/

/-- The kernel's own semaphores. -/
abbrev osem : Fin 4 × Fin 8 → SemLoc sig := fun gk => semOf (some gk)

theorem stage_lt : ∀ (w : Fin cfg0.W) (s : Fin (cfg0.spec w).nbuf), ((cfg0.spec w).sem s).val < 2 := by decide

theorem ownSemFacts : Pipeline.OwnSemFacts cfg0.spec osem where
  isScoped gk := by revert gk; decide
  inj a b h := Option.some.inj (semOf_inj h)
  disj gk w s h := by
    have h1 : dmaAt gk.1 gk.2 = (cfg0.spec w).sem s := by unfold osem semOf at h; simpa using h
    have h2 := congrArg Fin.val h1
    rw [dmaAt_val] at h2
    have h3 := stage_lt w s
    omega

theorem share_eq (c : Dev nD) (w : Fin cfg0.W) : (dats m ρ 0 c).share w = fullShare := by unfold Dat.share; split <;> rfl

theorem unscopedSems0_eq (c : Dev nD) : (unscopedSems0 c : sProp 𝕄) = semVal (plan.cell τ c none) 0 := by
  unfold unscopedSems0; rw [bigSep_eq_bigSepL_of_eq [SemLoc.reg barS] (by decide) (by decide)]; rfl

/-- All the counters of the plan: the barrier's and the kernel's own. -/
theorem zeros_eq (c : Dev nD) : (zeros c : sProp 𝕄)
    = iprop(unscopedSems0 c ∗ Pipeline.ownSems0 (Ix := Unit) (Name := ℕ) (U := UU nD τ sig) (Lvl := ℕ) (Val := Elt F) (τ := τ) osem c) := by
  unfold zeros Pipeline.ownSems0; rw [bigSep_maybe, unscopedSems0_eq]; rfl

def u₀ : UU nD τ sig :=
  (initOf (Pipeline.cells cfgs cellOf_inj) (Pipeline.launchToks cfgs cellOf_inj), initOf (plan.cells τ) (plan.toks τ))

theorem glob : (bigSep Finset.univ fun c => iprop(Pipeline.ownSems0 (Ix := Unit) (Name := ℕ) (U := UU nD τ sig) (Lvl := ℕ) (Val := Elt F) (τ := τ) osem c
        ∗ unscopedSems0 c ∗ plan.minted (τ := τ) (hand (partials m)) c) : sProp 𝕄)
    ⊢ |={Set.univ}=> bigSep Finset.univ (plan.dealt (τ := τ) (hand (partials m))) := by
  refine (bigSep_mono fun c _ => ?_).trans (plan.deal (hand (partials m)) (V := zeros) fun c => BI.Entails.refl _)
  show iprop(Pipeline.ownSems0 osem c ∗ unscopedSems0 c ∗ plan.minted (τ := τ) (hand (partials m)) c) ⊢ iprop(zeros c ∗ plan.minted (τ := τ) (hand (partials m)) c)
  rw [zeros_eq]
  iintro ⟨H1, H2, H3⟩
  isplitl [H1 H2]
  · isplitl [H2] <;> iassumption
  iexact H3

theorem start_intro (c : Dev nD) :
    iprop(Pipeline.unscopedRestP Pipeline.Prefetch.none cfg0.spec c (fun b => m ((c : Thread nD τ).loc b)) ∗ levAts Meet.levels plan.lev
        ∗ Pipeline.launchCred (plan.dues τ plan.owed) c ∗ prngReg c (ρ c) ∗ plan.dealt (τ := τ) (hand (partials m)) c)
      ⊢ |={Set.univ}=> iprop(plan.start (τ := τ) (hand (partials m)) c ∗ emp) := by
  iintro ⟨-, Hlev, Hcr, -, HG⟩
  ihave Hc := (plan.launch_credits c) $$ Hcr
  imodintro
  unfold Meet.start
  isplitl
  · isplitl [HG]; · iexact HG
    isplitl [Hc] <;> iassumption
  · iempintro

theorem scratch_eq (c : Dev nD) : (Pipeline.scopedRest cfg0.spec c : sProp 𝕄) = scratch c := by
  rw [scopedRest0_eq]
  unfold scratch some16
  simp only [owns_whole]
  rfl

theorem phi0_intro (c : Dev nD) :
    iprop(plan.start (τ := τ) (hand (partials m)) c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = iprop(plan.start (τ := τ) (hand (partials m)) c ∗ scratch c) from rfl, scratch_eq]
  iintro ⟨Hs, -, Hr⟩
  isplitl [Hs] <;> iassumption

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = iprop(zeros c ∗ scratch c) from rfl, scratch_eq, zeros_eq]
  iintro ⟨⟨H1, H2⟩, H3⟩
  isplitl [H1]; · iexact H1
  isplitl [H2] <;> iassumption

theorem above_stage : ∀ x ∈ plan.owed, 0 < plan.level x.1 := by
  intro x hx
  rw [show plan.owed = insert (none, false) (insert (none, true) (owedFrom 0 0)) from rfl, Finset.mem_insert, Finset.mem_insert] at hx
  rcases hx with rfl | rfl | hx
  · exact Nat.one_pos
  · exact Nat.one_pos
  · exact lt_trans Nat.one_pos (above_bar x hx)

theorem waits (c : Dev nD) : (levAts Meet.levels plan.lev : sProp 𝕄) ⊢ Pipeline.cellsWaits cfgs (dats m ρ) () 0 c :=
  Pipeline.cellsWaits_intro cfgs (dats m ρ) () 0 c fun w s t => by
    have hs : ∀ k, plan.sem k = .dma ((cfg0.win w).sem s) → plan.level k ≤ 0 := by
      rintro (_ | gk) h
      · exact absurd h (by show SemLoc.reg barS ≠ _; simp)
      · exact absurd h (ownSemFacts.disj gk w s)
    rcases t with ⟨_ | _, ht⟩
    · exact plan.mayWait_of 0 hs above_stage c
    · exact plan.mayWait_of 0 hs (fun x hx => absurd hx (Finset.notMem_empty x)) c

/-! ## The run -/

def finalA (c : Dev nD) (w : Fin cfg0.W) : Buf (Elt F) ((cfg0.win w).arr.view.loc (c : Thread nD τ)) := (dats m ρ 0 c).arrAt w cfg0.N

theorem finalA_arg (c : Dev nD) : finalA m ρ c (0 : Fin 2) = m ((c : Thread nD τ).loc main_arg0) := (dats (F := F) m ρ 0 c).arrAt_in (0 : Fin 2) rfl _

theorem finalA_read (c : Dev nD) : (win0_1.blk t0_0).view.read (Elt F) (finalA m ρ c (1 : Fin 2)) = result (partials m) c := by
  unfold finalA
  rw [show cfg0.N = (t0_0 : Fin cfg0.N).val + 1 from rfl, (dats m ρ 0 c).arrAt_succ (1 : Fin 2) t0_0]
  rw [show (cfg0.win (1 : Fin 2)).flush t0_0 = true from by decide, if_pos rfl]
  exact View.read_write_univ _ _

theorem partials_eq (c : Dev nD) : partials m c = m ((c : Thread nD τ).loc main_arg0) :=
  Memref.read_access_unit_zero (Elt F) main_arg0 (by decide) _ _
theorem finalA_res (c : Dev nD) : finalA m ρ c (1 : Fin 2) = result (partials m) c :=
  (Memref.read_access_unit_zero (Elt F) main_v1 (by decide) _ _).symm.trans (finalA_read m ρ c)

set_option maxRecDepth 8000 in
/-- The run, for any float values. -/
theorem run_main : θ_run (defs (F := F)) (onTc (τ := τ) (main (F := F))) (s₀ m ρ) (fun r =>
    (∀ c : Dev nD, r.2.mem ((c : Thread nD τ).loc main_v1) = result (partials m) c
      ∧ r.2.mem ((c : Thread nD τ).loc main_arg0) = m ((c : Thread nD τ).loc main_arg0)) ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := fun c => (body_obligation m ρ c).loose) (hne := block_pos0) (harr := arr_whole0) (hstage := stage_whole0) (hshare := share_eq m ρ)
    (hdistinct := winFacts0.arr_inj)
    (O₀ := plan.dues τ plan.owed) (howed₀ := fun _ => rfl) (howedN := fun c => plan.dues_empty c)
    (L := Meet.levels) (lv := plan.lev) (hL := Meet.levels_of_ne) (hwaits := waits m ρ)
    (G := plan.minted (τ := τ) (hand (partials m))) (G' := plan.dealt (τ := τ) (hand (partials m))) (u₀ := u₀)
    (hu₀ := by
      unfold u₀
      iintro Hu
      ihave H := (ownU_pair _ _) $$ Hu
      icases H with ⟨HP, HX⟩
      imod (plan.fund (hand (partials m))) $$ HX with HG
      imodintro
      isplitl [HP] <;> iassumption)
    (hglob := glob m)
    (hA := fun _ _ => rfl) (hpf := fun _ k => k.elim0)
    (X := plan.start (τ := τ) (hand (partials m))) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c => ⟨((h c).1 (1 : Fin 2)).trans (finalA_res m ρ c), ((h c).1 (0 : Fin 2)).trans (finalA_arg m ρ c)⟩,
      sem_eq_zero hs fun c => (h c).2.2⟩)

end Cert.Combine

end
-- ==== Proof.Value.lean ====
/-
# What the four partials add up to

With exact arithmetic, each device's result is its block of rows of the four partials' sum: two partials added by the
copies across `x`, and the two halves so obtained by the copies across `y`. The reference adds the same four numbers.
-/
module

public import proofs.«01_k».proof.Proof.Run
public import proofs.«01_k».proof.Proof.Gen.ReferenceIdeal.Run
public import Idealize.ShloMosaic.Lib.Pipeline.Value
public import Idealize.ShloMosaic.Lib.IdealHost
public import Idealize.ShloMosaic.Lib.Layout

@[expose] public section

noncomputable section

namespace Cert.Combine

open Idealize.ShloMosaic
open Idealize.ShloMosaic.TcCoe
open Idealize.ShloMosaic.ValueIdx
open Cert.KernelIdeal Cert.KernelIdeal.Gen Cert.Meeting

/-! ## Both sides as the same four numbers -/

abbrev SW : Shape := ⟨2, ![4096, 2048]⟩

/-- Entry `(r, j)` of the partial in block `(a, b)` of the whole array. -/
def place (a b : Fin 2) (r : Fin 2048) (j : Fin 1024) : SW.Idx :=
  ix2 (n0 := 4096) (n1 := 2048) ⟨2048 * a.val + r.val, by omega⟩ ⟨1024 * b.val + j.val, by omega⟩

theorem place_rows (a b r j) : (place a b r j (0 : Fin 2)).val = 2048 * a.val + r.val := rfl
theorem place_cols (a b r j) : (place a b r j (1 : Fin 2)).val = 1024 * b.val + j.val := rfl

/-- The sum of the four partials at `(r, j)`. -/
def four (W : SW.Idx → Ideal .f32) (r : Fin 2048) (j : Fin 1024) : Ideal .f32 := ∑ ab : Fin 2 × Fin 2, W (place ab.1 ab.2 r j)

theorem four_eq (W : SW.Idx → Ideal .f32) (r j) : four W r j
    = (W (place 0 0 r j) + W (place 0 1 r j) + (W (place 1 0 r j) + W (place 1 1 r j)) : EReal) := by
  unfold four
  rw [Fintype.sum_prod_type, Fin.sum_univ_two, Fin.sum_univ_two, Fin.sum_univ_two]

/-! ## The reference -/

/-- Entry `(r, j)` of the partial in block `(a, b)`, in the array cut into blocks. -/
def cut (a b : Fin 2) (r : Fin 2048) (j : Fin 1024) : Cert.ReferenceIdeal.S2x2048x2x1024.Idx :=
  ix4 (n0 := 2) (n1 := 2048) (n2 := 2) (n3 := 1024) a r b j

theorem cast_cut (W : SW.Idx → Ideal .f32) (h : SW.ShapeCasts Cert.ReferenceIdeal.S2x2048x2x1024) (a b r j) :
    shapeCast Cert.ReferenceIdeal.S2x2048x2x1024 W h (cut a b r j) = W (place a b r j) := by
  refine shapeCast_apply W h _ _ ?_
  rw [Shape.rowMajor_val_two, Shape.rowMajor_val_four]
  show (2048 * a.val + r.val) * 2048 + (1024 * b.val + j.val) = ((a.val * 2048 + r.val) * 2 + b.val) * 1024 + j.val
  omega

theorem reference_sum (W : SW.Idx → Ideal .f32) (r : Fin 2048) (j : Fin 1024) :
    Host.reduceAdd (shapeCast Cert.ReferenceIdeal.S2x2048x2x1024 W Cert.ReferenceIdeal.Gen.shapeCasts_S4096x2048_S2x2048x2x1024)
      (constant (F := Ideal) Cert.ReferenceIdeal.S_ .f32 0x00000000#32) Cert.ReferenceIdeal.Gen.reducesTo_S2x2048x2x1024_S2048x1024_d0_2 Cert.ReferenceIdeal.Gen.h_S_
      (ix2 (n0 := 2048) (n1 := 1024) r j) = four W r j := by
  rw [hostReduceAdd_apply]
  unfold Ideal.hostReduceAdd
  rw [show (constant (F := Ideal) Cert.ReferenceIdeal.S_ .f32 0x00000000#32) (Shape.Idx.first Cert.ReferenceIdeal.Gen.h_S_) = (0 : EReal) from Ideal.ofBits_zero_f32]
  rw [zero_add]
  unfold four
  symm
  refine Finset.sum_nbij (fun ab : Fin 2 × Fin 2 => cut ab.1 ab.2 r j) ?_ ?_ ?_ ?_
  · intro ab _
    refine Finset.mem_filter.mpr ⟨Finset.mem_univ _, funext fun b => Fin.ext ?_⟩
    fin_cases b <;> rfl
  · rintro ⟨a, b⟩ _ ⟨a', b'⟩ _ h
    exact Prod.ext (congrFun h (0 : Fin 4)) (congrFun h (2 : Fin 4))
  · intro i hi
    have h := (Finset.mem_filter.mp hi).2
    have h0 : (i (1 : Fin 4)).val = r.val := congrArg Fin.val (congrFun h (0 : Fin 2))
    have h1 : (i (3 : Fin 4)).val = j.val := congrArg Fin.val (congrFun h (1 : Fin 2))
    refine ⟨(i (0 : Fin 4), i (2 : Fin 4)), Finset.mem_coe.mpr (Finset.mem_univ _), funext fun b => Fin.ext ?_⟩
    fin_cases b
    · rfl
    · exact h0.symm
    · rfl
    · exact h1.symm
  · intro ab _
    exact (cast_cut W _ ab.1 ab.2 r j).symm

/-! ## The kernel -/

section Kernel

/-- The whole array in blocks, by rows and columns; and the result, by rows. -/
theorem tiles_in : Layout.TilesN ⟨2, ![2048, 1024]⟩ ⟨2, ![4096, 2048]⟩ (fun b => Layout.cutSize [2, 2] ((![[0], [1]] : Fin 2 → List ℕ) b)) := by decide
theorem tiles_out : Layout.TilesN ⟨2, ![1024, 1024]⟩ ⟨2, ![2048, 1024]⟩ (fun b => Layout.cutSize [2, 2] ((![[0], []] : Fin 2 → List ℕ) b)) := by decide
theorem axes_in : ∀ b, ∀ i ∈ (![[0], [1]] : Fin 2 → List ℕ) b, 0 < ([2, 2] : List ℕ).getD i 0 := by decide
theorem axes_out : ∀ b, ∀ i ∈ (![[0], []] : Fin 2 → List ℕ) b, 0 < ([2, 2] : List ℕ).getD i 0 := by decide

variable (W : SW.Idx → Ideal .f32) (P : Dev nD → Vec Ideal S2048x1024 .f32)
  (hP : ∀ c, P c = Layout.blockN ⟨2, ![2048, 1024]⟩ ⟨2, ![4096, 2048]⟩ (Layout.meshBlock [2, 2] ![[0], [1]] c axes_in) W tiles_in)

abbrev gridRow (c : Dev nD) : Fin 2 := ⟨c.val / 2, by have : c.val < 4 := c.isLt; omega⟩
abbrev gridCol (c : Dev nD) : Fin 2 := ⟨c.val % 2, by omega⟩

theorem mesh_row : ∀ c : Dev nD, ((Layout.meshBlock [2, 2] ![[0], [1]] c axes_in : (b : Fin 2) → _) (0 : Fin 2)).val = c.val / 2 := by decide
theorem mesh_col : ∀ c : Dev nD, ((Layout.meshBlock [2, 2] ![[0], [1]] c axes_in : (b : Fin 2) → _) (1 : Fin 2)).val = c.val % 2 := by decide

include hP in
/-- A device's partial, in the whole array. -/
theorem partial_at (c : Dev nD) (x : S2048x1024.Idx) (r : Fin 2048) (j : Fin 1024) (hr : (x (0 : Fin 2)).val = r.val) (hj : (x (1 : Fin 2)).val = j.val) :
    P c x = W (place (gridRow c) (gridCol c) r j) := by
  rw [hP c, Layout.blockN_apply]
  refine congrArg W (funext fun b => Fin.ext ?_)
  rw [Layout.TilesN.idx_val]
  fin_cases b
  · show ((Layout.meshBlock [2, 2] ![[0], [1]] c axes_in : (b : Fin 2) → _) (0 : Fin 2)).val * 2048 + (x (0 : Fin 2)).val = 2048 * (c.val / 2) + r.val
    rw [mesh_row, hr]; omega
  · show ((Layout.meshBlock [2, 2] ![[0], [1]] c axes_in : (b : Fin 2) → _) (1 : Fin 2)).val * 1024 + (x (1 : Fin 2)).val = 1024 * (c.val % 2) + j.val
    rw [mesh_col, hj]; omega

theorem narrow_at (v : Vec Ideal S1024x128 .f32) (y : S1024x128.Idx) : (narrow v y : EReal) = v y := by
  unfold narrow; rw [shapeCast_self, shapeCast_self]; rfl
theorem plus_at (v : Vec Ideal S1024x128 .f32) (w : Vec Ideal S1024x128 .bf16) (y : S1024x128.Idx) : (plus v w y : EReal) = v y + w y := by
  unfold plus; rw [shapeCast_self]; rfl

/-- With exact arithmetic a total is four numbers added. -/
theorem total_at (c : Dev nD) (k : Fin 8) (y : S1024x128.Idx) : (total P c k y : EReal)
    = P c ((near k c).emb y) + P (acrossX c) ((far k (acrossX c)).emb y)
      + (P (acrossY c) ((near k (acrossY c)).emb y) + P (acrossX (acrossY c)) ((far k (acrossX (acrossY c))).emb y)) := by
  unfold total
  rw [plus_at]
  unfold sentY
  rw [narrow_at]
  unfold half
  rw [plus_at, plus_at]
  unfold sentX
  rw [narrow_at, narrow_at]

theorem near_rows (k : Fin 8) (c : Dev nD) (y : S1024x128.Idx) : ((near k c).emb y (0 : Fin 2)).val = 1024 * (c.val / 2) + (y (0 : Fin 2)).val := by
  rw [Rect.emb_apply]; show nearOff k c 0 + 1 * _ = _; rw [nearOff_eq, one_mul]; rfl
theorem near_cols (k : Fin 8) (c : Dev nD) (y : S1024x128.Idx) : ((near k c).emb y (1 : Fin 2)).val = 128 * k.val + (y (1 : Fin 2)).val := by
  rw [Rect.emb_apply]; show nearOff k c 1 + 1 * _ = _; rw [nearOff_eq, one_mul]; rfl
theorem far_rows (k : Fin 8) (c : Dev nD) (y : S1024x128.Idx) : ((far k c).emb y (0 : Fin 2)).val = 1024 - 1024 * (c.val / 2) + (y (0 : Fin 2)).val := by
  rw [Rect.emb_apply]; show farOff k c 0 + 1 * _ = _; rw [farOff_eq, one_mul]; rfl
theorem far_cols (k : Fin 8) (c : Dev nD) (y : S1024x128.Idx) : ((far k c).emb y (1 : Fin 2)).val = 128 * k.val + (y (1 : Fin 2)).val := by
  rw [Rect.emb_apply]; show farOff k c 1 + 1 * _ = _; rw [farOff_eq, one_mul]; rfl

theorem acrossY_row : ∀ c : Dev nD, (acrossY c).val / 2 = c.val / 2 := by decide
theorem acrossX_row : ∀ c : Dev nD, 1024 - 1024 * ((acrossX c).val / 2) = 1024 * (c.val / 2) := by decide

/-- The four devices, from any one of them. -/
theorem round_trip (g : Fin 2 → Fin 2 → EReal) (c : Dev nD) :
    g (gridRow c) (gridCol c) + g (gridRow (acrossX c)) (gridCol (acrossX c))
      + (g (gridRow (acrossY c)) (gridCol (acrossY c)) + g (gridRow (acrossX (acrossY c))) (gridCol (acrossX (acrossY c))))
      = g 0 0 + g 0 1 + (g 1 0 + g 1 1) := by
  fin_cases c
  · show g 0 0 + g 1 0 + (g 0 1 + g 1 1) = _; exact add_add_add_comm _ _ _ _
  · show g 0 1 + g 1 1 + (g 0 0 + g 1 0) = _; rw [add_add_add_comm, add_comm (g 0 1), add_comm (g 1 1)]
  · show g 1 0 + g 0 0 + (g 1 1 + g 0 1) = _; rw [add_add_add_comm, add_comm]
  · show g 1 1 + g 0 1 + (g 1 0 + g 0 0) = _; rw [add_add_add_comm, add_comm, add_comm (g 0 1), add_comm (g 1 1)]

include hP in
theorem result_at (c : Dev nD) (i : S1024x1024.Idx) (r : Fin 2048) (j : Fin 1024)
    (hr : r.val = 1024 * (c.val / 2) + (i (0 : Fin 2)).val) (hj : j.val = (i (1 : Fin 2)).val) : result P c i = four W r j := by
  have h1 : (i (1 : Fin 2)).val < 1024 := (i (1 : Fin 2)).isLt
  let k : Fin 8 := ⟨(i (1 : Fin 2)).val / 128, by omega⟩
  let y : S1024x128.Idx := ix2 (n0 := 1024) (n1 := 128) (i (0 : Fin 2)) ⟨(i (1 : Fin 2)).val % 128, Nat.mod_lt _ (by decide)⟩
  have hy0 : (y (0 : Fin 2)).val = (i (0 : Fin 2)).val := rfl
  have hy1 : 128 * k.val + (y (1 : Fin 2)).val = (i (1 : Fin 2)).val := by
    show 128 * ((i (1 : Fin 2)).val / 128) + (i (1 : Fin 2)).val % 128 = _; omega
  have hi : (col k).emb y = i := funext fun b => Fin.ext (by
    rw [Rect.emb_apply]
    fin_cases b
    · show 0 + 1 * (y (0 : Fin 2)).val = (i (0 : Fin 2)).val; omega
    · show 128 * k.val + 1 * (y (1 : Fin 2)).val = (i (1 : Fin 2)).val; rw [one_mul]; exact hy1)
  have hg : result P c ((col k).emb y) = total P c k y := Rect.glue_emb col col_cover col_apart (total P c) k y
  rw [← hi, hg, total_at,
    partial_at W P hP c _ r j (by rw [near_rows]; omega) (by rw [near_cols]; omega),
    partial_at W P hP (acrossX c) _ r j (by rw [far_rows, acrossX_row]; omega) (by rw [far_cols]; omega),
    partial_at W P hP (acrossY c) _ r j (by rw [near_rows, acrossY_row]; omega) (by rw [near_cols]; omega),
    partial_at W P hP (acrossX (acrossY c)) _ r j (by rw [far_rows, acrossX_row, acrossY_row]; omega) (by rw [far_cols]; omega),
    four_eq]
  exact round_trip (fun a b => W (place a b r j)) c

theorem mesh_rows : ∀ c : Dev nD, ((Layout.meshBlock [2, 2] ![[0], []] c axes_out : (b : Fin 2) → _) (0 : Fin 2)).val = c.val / 2 := by decide
theorem mesh_cols : ∀ c : Dev nD, ((Layout.meshBlock [2, 2] ![[0], []] c axes_out : (b : Fin 2) → _) (1 : Fin 2)).val = 0 := by decide

include hP in
/-- Each device's result is its rows of the reference's. -/
theorem result_eq (c : Dev nD) : result P c = Layout.blockN ⟨2, ![1024, 1024]⟩ ⟨2, ![2048, 1024]⟩ (Layout.meshBlock [2, 2] ![[0], []] c axes_out)
    (Host.reduceAdd (shapeCast Cert.ReferenceIdeal.S2x2048x2x1024 W Cert.ReferenceIdeal.Gen.shapeCasts_S4096x2048_S2x2048x2x1024)
      (constant (F := Ideal) Cert.ReferenceIdeal.S_ .f32 0x00000000#32) Cert.ReferenceIdeal.Gen.reducesTo_S2x2048x2x1024_S2048x1024_d0_2 Cert.ReferenceIdeal.Gen.h_S_) tiles_out := by
  funext i
  have h0 : (i (0 : Fin 2)).val < 1024 := (i (0 : Fin 2)).isLt
  have hc : c.val < 4 := c.isLt
  let r : Fin 2048 := ⟨1024 * (c.val / 2) + (i (0 : Fin 2)).val, by omega⟩
  let j : Fin 1024 := i (1 : Fin 2)
  rw [result_at W P hP c i r j rfl rfl, ← reference_sum W r j, Layout.blockN_apply]
  refine congrArg _ (funext fun b => Fin.ext ?_)
  rw [Layout.TilesN.idx_val]
  fin_cases b
  · show 1024 * (c.val / 2) + (i (0 : Fin 2)).val = ((Layout.meshBlock [2, 2] ![[0], []] c axes_out : (b : Fin 2) → _) (0 : Fin 2)).val * 1024 + (i (0 : Fin 2)).val
    rw [mesh_rows]; omega
  · show (i (1 : Fin 2)).val = ((Layout.meshBlock [2, 2] ![[0], []] c axes_out : (b : Fin 2) → _) (1 : Fin 2)).val * 1024 + (i (1 : Fin 2)).val
    rw [mesh_cols]; omega

end Kernel

end Cert.Combine

end
-- ==== Proof.ExchangeFlow.lean ====
/-
# The exchanging kernel, written short

The printed kernel is one long list of operations. This module writes it shorter — the eight stores as two times four, the
two destinations of a token as one definition taken twice — and says that the printed kernel is the same.

A device signals its neighbour across `x` and waits for that neighbour's signal. It then copies its routing table and its
narrowed tokens to the neighbour. While they travel, it multiplies its own selection with its own tokens and stores the
product in the first half of every expert's buffer. From the table that arrived it works out which of the neighbour's
tokens go to which row, multiplies that selection with the tokens that arrived, and stores the product in the second half.
Last it waits for its own copies to have left.
-/
module

public import proofs.«01_k».proof.Proof.Steps
public import proofs.«01_k».proof.Proof.Gen.ExchangeIdeal.Skeleton

@[expose] public section

noncomputable section

namespace Cert.Swap

open Idealize.ShloMosaic Idealize.SL.Sem
open Cert.ExchangeIdeal Cert.ExchangeIdeal.Gen Cert.Meeting

variable {F : FTy → Type} [FloatOps F]

/-! ## The buffers, their parts, the semaphores -/

/-- The device's routing table, narrowed tokens, selection and tokens; -/
abbrev tabM : Memref sig .tc .vmem S8x1024 .f32 := Memref.whole cc0_stg0_0
abbrev narM : Memref sig .tc .vmem S1024x1024 .bf16 := Memref.whole cc0_stg1_0
abbrev selM : Memref sig .tc .vmem S672x1024 .f32 := Memref.whole cc0_stg2_0
abbrev tokM : Memref sig .tc .vmem S1024x1024 .f32 := Memref.whole cc0_stg3_0
/-- the table that arrives and the experts' buffers; -/
abbrev inM : Memref sig .tc .vmem S8x1024 .f32 := Memref.whole cc0_stg4_0
abbrev bufM : Memref sig .tc .vmem S4x336x1024 .f32 := Memref.whole cc0_stg5_0
/-- the tokens that arrive. -/
abbrev comM : Memref sig .tc .vmem S1024x1024 .bf16 := Memref.whole cc0_scratch0

abbrev allTab : Rect S8x1024 := Rect.unit (s := S8x1024) ![0, 0] S8x1024.size inb_S8x1024_S8x1024_0_0
abbrev allSel : Rect S672x1024 := Rect.unit (s := S672x1024) ![0, 0] S672x1024.size inb_S672x1024_S672x1024_0_0
abbrev allTok : Rect S1024x1024 := Rect.unit (s := S1024x1024) ![0, 0] S1024x1024.size inb_S1024x1024_S1024x1024_0_0

theorem slotInb : ∀ (h : Bool) (e : Fin 4), ∀ a, (![e.val, 168 * h.toNat, 0] : Fin 3 → Nat) a + S1x168x1024.size a ≤ S4x336x1024.size a := by decide
/-- The first (`h = false`) or second half of the buffer of expert `e`. -/
abbrev slot (h : Bool) (e : Fin 4) : Rect S4x336x1024 := Rect.unit (s := S4x336x1024) ![e.val, 168 * h.toNat, 0] S1x168x1024.size (slotInb h e)

theorem semInb : ∀ k : Bool, ∀ a, (![k.toNat] : Fin 1 → Nat) a + S1.size a ≤ S2.size a := by decide
/-- The semaphore of the table (`k = false`) or of the tokens, of an array of two. -/
abbrev semAt (s : DmaSems sig S2) (k : Bool) : DmaSem sig := ((s.slice (Rect.unit (s := S2) ![k.toNat] S1.size (semInb k))).squeeze S_ squeezes_S1_S_).sem

abbrev barS : Sem sig := (SemArray.scalar (sig.barrier 2 rfl) : Sems sig S_).sem

/-! ## What is computed -/

/-- A selection times tokens. -/
abbrev product (s : FVec F S672x1024 .f32) (x : FVec F S1024x1024 .f32) : FVec F S672x1024 .f32 :=
  matmul dot_S672x1024_S1024x1024_S672x1024_1_0_0_1_n_n none s x (constant S672x1024 .f32 0x00000000#32)

theorem rowsSlice : ∀ e : Fin 4, S672x1024.Slices ![168 * e.val, 0] S168x1024 := by decide
/-- The rows of expert `e`. -/
abbrev rowsOf (v : FVec F S672x1024 .f32) (e : Fin 4) : FVec F S1x168x1024 .f32 :=
  shapeCast S1x168x1024 (extractStridedSlice S168x1024 ![168 * e.val, 0] v (rowsSlice e)) shapeCasts_S168x1024_S1x168x1024

/-- The device's first expert. -/
abbrev base (c : Dev nD) : BitVec 32 :=
  Scalar.addi (Scalar.muli (Scalar.remsi (Scalar.divsi (Dev.word c) 2#32) 2#32) 8#32) (Scalar.muli (Scalar.remsi (Scalar.divsi (Dev.word c) 1#32) 2#32) 4#32)

theorem rowSlice : ∀ r : Fin 4, S8x1024.Slices ![r.val, 0] S1x1024 := by decide
/-- Row `r` of a table, as whole numbers. -/
abbrev tableRow (t : FVec F S8x1024 .f32) (r : Fin 4) : IVec S1x1024 32 := fptosi 32 (extractStridedSlice S1x1024 ![r.val, 0] t (rowSlice r))

/-- The row each token goes to, from its expert `e` and its place `p` there (672, past the last row, if it does not come here); -/
abbrev goesTo (b : BitVec 32) (e p : IVec S1x1024 32) : IVec S1x1024 32 :=
  select (andi (andi (cmpi .sge (subi e (broadcast S1x1024 b)) (broadcast S1x1024 0#32)) (cmpi .slt (subi e (broadcast S1x1024 b)) (broadcast S1x1024 4#32)))
      (cmpi .slt p (broadcast S1x1024 168#32)))
    (addi (muli (subi e (broadcast S1x1024 b)) (broadcast S1x1024 168#32)) p) (broadcast S1x1024 672#32)
/-- as a selection: one where row and token meet. -/
abbrev marks (w : IVec S1x1024 32) : FVec F S672x1024 .f32 :=
  sitofp .f32 (extui 32 (cmpi .eq (iota .tc S672x1024 32 [0] iota_S672x1024_d0_w32) (broadcastTo S672x1024 w broadcasts_S1x1024_S672x1024)) natLt_1_32)
/-- The selection a table describes. -/
abbrev selection (b : BitVec 32) (t : FVec F S8x1024 .f32) : FVec F S672x1024 .f32 :=
  addf (addf (broadcast S672x1024 (Scalar.ofBits .f32 0x00000000#32 : F .f32)) (marks (goesTo b (tableRow t 0) (tableRow t 2))))
    (marks (goesTo b (tableRow t 1) (tableRow t 3)))

/-- The product of the device's own selection and tokens, as loaded; -/
abbrev ownOf (s : Vec F S672x1024 .f32) (x : Vec F S1024x1024 .f32) : FVec F S672x1024 .f32 :=
  product (shapeCast S672x1024 s shapeCasts_S672x1024_S672x1024) (shapeCast S1024x1024 x shapeCasts_S1024x1024_S1024x1024)
/-- and that of the selection a table describes and the tokens that came. -/
abbrev comeOf (c : Dev nD) (t : Vec F S8x1024 .f32) (x : Vec F S1024x1024 .bf16) : FVec F S672x1024 .f32 :=
  product (selection (base c) (shapeCast S8x1024 t shapeCasts_S8x1024_S8x1024)) (extf .f32 x bitsLt_bf16_f32)

/-! ## The program -/

abbrev EffT (F : FTy → Type) : Type → Type := TpuEff nD τ sig (Elt F) Λ₀ .tc

/-- One half of expert `e`'s buffer stored. -/
def fill (h : Bool) (v : FVec F S672x1024 .f32) (e : Fin 4) : Prog (EffT F) PUnit :=
  .op (.load bufM (slot h e).toLoadRect (View.loadsAt_vmem h_S1x168x1024)) fun _ =>
  .op (.store bufM (slot h e) (rowsOf v e) Finset.univ (View.stores_vmem_bits_univ h_S1x168x1024 rfl) (.inl rfl)) fun _ =>
  .ret ⟨⟩

/-- The second part, once the first products are stored. -/
def flowLate (c : Dev nD) : Prog (EffT F) PUnit :=
  .op (.waitDma2 (semAt cc0_scratch2 false) tabM inM (Memref.isWhole_whole cc0_stg0_0).wordExact (Memref.isWhole_whole cc0_stg4_0).wordExact) fun _ =>
  .op (.load inM allTab.toLoadRect (View.loadsAt_vmem h_S8x1024)) fun t =>
  .op (.waitDma2 (semAt cc0_scratch2 true) narM comM (Memref.isWhole_whole cc0_stg1_0).wordExact (Memref.isWhole_whole cc0_scratch0).wordExact) fun _ =>
  .op (.load comM allTok.toLoadRect (View.loadsAt_vmem h_S1024x1024)) fun x =>
  inTurn 4 (fill true (comeOf c t x)) >>= fun _ =>
  .op (.waitDma2 (semAt cc0_scratch1 false) inM tabM (Memref.isWhole_whole cc0_stg4_0).wordExact (Memref.isWhole_whole cc0_stg0_0).wordExact) fun _ =>
  .op (.waitDma2 (semAt cc0_scratch1 true) comM narM (Memref.isWhole_whole cc0_scratch0).wordExact (Memref.isWhole_whole cc0_stg1_0).wordExact) fun _ =>
  .ret ⟨⟩

/-- What one device does. -/
def flow (c : Dev nD) : Prog (EffT F) PUnit :=
  .op (.semSignal (Dev.tc (⟨k0_dev1 c, k0_dev1_lt c⟩ : Dev nD)) barS 1) fun _ =>
  .op (.semWait barS 1) fun _ =>
  .op (.enqueueDma tabM (.remote (Dev.tc (⟨k0_dev2 c, k0_dev2_lt c⟩ : Dev nD)) inM (.dma (semAt cc0_scratch1 false))) (.dma (semAt cc0_scratch2 false))
    (Memref.isWhole_whole cc0_stg0_0).wordExact (Memref.isWhole_whole cc0_stg4_0).wordExact ⟨⟨rfl, Or.inl rfl⟩, trivial⟩) fun _ =>
  .op (.enqueueDma narM (.remote (Dev.tc (⟨k0_dev3 c, k0_dev3_lt c⟩ : Dev nD)) comM (.dma (semAt cc0_scratch1 true))) (.dma (semAt cc0_scratch2 true))
    (Memref.isWhole_whole cc0_stg1_0).wordExact (Memref.isWhole_whole cc0_scratch0).wordExact ⟨⟨rfl, Or.inl rfl⟩, trivial⟩) fun _ =>
  .op (.load selM allSel.toLoadRect (View.loadsAt_vmem h_S672x1024)) fun s =>
  .op (.load tokM allTok.toLoadRect (View.loadsAt_vmem h_S1024x1024)) fun x =>
  inTurn 4 (fill false (ownOf s x)) >>= fun _ => flowLate c

set_option maxRecDepth 65536 in
/-- The printed kernel is this. -/
theorem body_eq_flow : cc0__xmeta_body (F := F) tabM (Memref.isWhole_whole _) narM (Memref.isWhole_whole _) selM (Memref.isWhole_whole _)
    tokM (Memref.isWhole_whole _) inM (Memref.isWhole_whole _) bufM (Memref.isWhole_whole _) comM (Memref.isWhole_whole _) cc0_scratch1 cc0_scratch2
    = .op .deviceId flow := by
  rfl

end Cert.Swap

end
-- ==== Proof.ExchangePlan.lean ====
/-
# The exchanging kernel's plan

A device's cells: the barrier, and for the table and the tokens each the sending and the receiving semaphore. Everything
goes between a device and its neighbour across `x`. Signalling the neighbour's barrier hands the neighbour the two buffers
it will copy into; a copy's arrival hands the receiver its buffer at what was sent, and a copy's leaving gives the sender
its own back.
-/
module

public import proofs.«01_k».proof.Proof.ExchangeFlow

@[expose] public section

noncomputable section

namespace Cert.Swap

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.ExchangeIdeal Cert.ExchangeIdeal.Gen Cert.Meeting

variable {F : FTy → Type} [FloatOps F]

local notation "𝕄" => MT nD τ sig Unit (Elt F) ℕ (UU nD τ sig) ℕ

/-! ## The neighbour -/

theorem across_lt : ∀ c : Dev nD, ((c.val % 2) + 2) - 2 * (c.val / 2) < nD := by decide
/-- The neighbour across `x`. -/
def across : Dev nD ≃ Dev nD :=
  Function.Involutive.toPerm (fun c => (⟨((c.val % 2) + 2) - 2 * (c.val / 2), across_lt c⟩ : Dev nD)) (by unfold Function.Involutive; decide)

theorem across_twice (c : Dev nD) : across (across c) = c := by revert c; decide
theorem across_val (c : Dev nD) : (across c).val = ((c.val % 2) + 2) - 2 * (c.val / 2) := rfl

theorem dev1_eq (c : Dev nD) : (⟨k0_dev1 c, k0_dev1_lt c⟩ : Dev nD) = across c := Fin.ext (k0_dev1_eq c)
theorem dev2_eq (c : Dev nD) : (⟨k0_dev2 c, k0_dev2_lt c⟩ : Dev nD) = across c := Fin.ext (k0_dev2_eq c)
theorem dev3_eq (c : Dev nD) : (⟨k0_dev3 c, k0_dev3_lt c⟩ : Dev nD) = across c := Fin.ext (k0_dev3_eq c)

/-! ## The halves of the experts' buffers tile the array -/

abbrev slots : Bool × Fin 4 → Rect S4x336x1024 := fun t => slot t.1 t.2

theorem slots_apart (t t' : Bool × Fin 4) (h : t ≠ t') : Disjoint (slots t).set (slots t').set := by
  obtain ⟨b, e⟩ := t; obtain ⟨b', e'⟩ := t'
  by_cases he : e = e'
  · subst he
    refine Rect.unit_disjoint (1 : Fin 3) ?_
    show 168 * b.toNat + 168 ≤ 168 * b'.toNat ∨ 168 * b'.toNat + 168 ≤ 168 * b.toNat
    cases b <;> cases b'
    · exact absurd rfl h
    · left; decide
    · right; decide
    · exact absurd rfl h
  · have : e.val ≠ e'.val := fun q => he (Fin.ext q)
    refine Rect.unit_disjoint (0 : Fin 3) ?_
    show e.val + 1 ≤ e'.val ∨ e'.val + 1 ≤ e.val
    omega

theorem slots_cover : (Finset.univ : Finset (Bool × Fin 4)).biUnion (fun t => (slots t).set) = Finset.univ := by
  ext i
  simp only [Finset.mem_biUnion, Finset.mem_univ, true_and, iff_true]
  have h0 : (i (0 : Fin 3)).val < 4 := (i (0 : Fin 3)).isLt
  have h1 : (i (1 : Fin 3)).val < 336 := (i (1 : Fin 3)).isLt
  have h2 : (i (2 : Fin 3)).val < 1024 := (i (2 : Fin 3)).isLt
  by_cases hb : (i (1 : Fin 3)).val < 168
  · refine ⟨(false, ⟨(i (0 : Fin 3)).val, h0⟩), Rect.mem_set_unit.mpr fun a => ?_⟩
    fin_cases a
    · show (i (0 : Fin 3)).val ≤ (i (0 : Fin 3)).val ∧ (i (0 : Fin 3)).val < (i (0 : Fin 3)).val + 1; omega
    · show 0 ≤ (i (1 : Fin 3)).val ∧ (i (1 : Fin 3)).val < 0 + 168; omega
    · show 0 ≤ (i (2 : Fin 3)).val ∧ (i (2 : Fin 3)).val < 0 + 1024; omega
  · refine ⟨(true, ⟨(i (0 : Fin 3)).val, h0⟩), Rect.mem_set_unit.mpr fun a => ?_⟩
    fin_cases a
    · show (i (0 : Fin 3)).val ≤ (i (0 : Fin 3)).val ∧ (i (0 : Fin 3)).val < (i (0 : Fin 3)).val + 1; omega
    · show 168 ≤ (i (1 : Fin 3)).val ∧ (i (1 : Fin 3)).val < 168 + 168; omega
    · show 0 ≤ (i (2 : Fin 3)).val ∧ (i (2 : Fin 3)).val < 0 + 1024; omega

/-! ## What each device is given and computes -/

/-- What the devices are given. -/
structure Given (F : FTy → Type) where
  table : Dev nD → Vec F S8x1024 .f32
  narrow : Dev nD → Vec F S1024x1024 .bf16
  select : Dev nD → Vec F S672x1024 .f32
  tokens : Dev nD → Vec F S1024x1024 .f32

section Values

variable (A : Given F)

/-- The product of a device's own; -/
def own (c : Dev nD) : FVec F S672x1024 .f32 := ownOf (fun i => A.select c (allSel.emb i)) (fun i => A.tokens c (allTok.emb i))
/-- that of what its neighbour sent; -/
def come (c : Dev nD) : FVec F S672x1024 .f32 := comeOf c (fun i => A.table (across c) (allTab.emb i)) (fun i => A.narrow (across c) (allTok.emb i))
def filled (c : Dev nD) (t : Bool × Fin 4) : FVec F S1x168x1024 .f32 := if t.1 then rowsOf (come A c) t.2 else rowsOf (own A c) t.2
/-- and the experts' buffers at the end. -/
def result (c : Dev nD) : Vec F S4x336x1024 .f32 := Rect.glue slots slots_cover (filled A c)

end Values

/-! ## The plan -/

/-- The arrays of semaphores: send (`false`), receive (`true`). -/
abbrev semArr (g : Bool) : DmaSems sig S2 := if g then cc0_scratch2 else cc0_scratch1
def dmaAt (g k : Bool) : DmaSem sig := semAt (semArr g) k

theorem dmaAt_val : ∀ g k : Bool, (dmaAt g k).val = 6 + 2 * g.toNat + k.toNat := by decide

/-- The cells: the barrier (`none`), and of the sending (`g = false`) or receiving array the semaphore of the table
    (`k = false`) or of the tokens. -/
abbrev Key : Type := Option (Bool × Bool)

def semOf : Key → SemLoc sig
  | none => .reg barS
  | some (g, k) => .dma (dmaAt g k)

theorem dmaAt_inj : ∀ a b : Bool × Bool, dmaAt a.1 a.2 = dmaAt b.1 b.2 → a = b := by decide

theorem semOf_inj : Function.Injective semOf := by
  rintro (_ | ⟨g, k⟩) (_ | ⟨g', k'⟩) h
  · rfl
  · exact absurd h (by unfold semOf; simp)
  · exact absurd h (by unfold semOf; simp)
  · have h1 : dmaAt g k = dmaAt g' k' := by unfold semOf at h; simpa using h
    exact congrArg some (dmaAt_inj (g, k) (g', k') h1)

/-- The units a copy of the table or of the tokens brings. -/
def unit (k : Bool) : ℕ := if k then comM.view.dmaCredit else inM.view.dmaCredit
theorem unit_pos : ∀ k, 0 < unit k
  | true => View.dmaCredit_pos _ (by decide)
  | false => View.dmaCredit_pos _ (by decide)

/-- What is owed before the copies, with the first under way, and with both. -/
abbrev arrive (k : Bool) : Key × Bool := (some (true, k), false)
def owed2 : Finset (Key × Bool) := {arrive false, arrive true}
def owed1 : Finset (Key × Bool) := {arrive true}

def plan : Meet nD sig Key where
  sem := semOf
  inj := semOf_inj
  duties _ := {false}
  amount k := match k with | none => 1 | some (_, k) => unit k
  pos k := match k with | none => Nat.one_pos | some (_, k) => unit_pos k
  level k := match k with | none => 1 | some (g, _) => if g then 2 else 0
  toward k _ := match k with
    | none => across
    | some (g, _) => if g then across else Equiv.refl _
  owed := insert (none, false) owed2

theorem owed2_eq : owed2 = insert (arrive false) owed1 := rfl
theorem owed1_eq : owed1 = insert (arrive true) ∅ := rfl

/-- While only arrivals are owed, the barrier may be waited for; -/
theorem above_bar : ∀ x ∈ owed2, plan.level none < plan.level x.1 := by decide
/-- while nothing is owed, anything. -/
theorem above_all (k : Key) : ∀ x ∈ (∅ : Finset (Key × Bool)), plan.level k < plan.level x.1 := fun x hx => absurd hx (Finset.notMem_empty _)

variable (A : Given F)

/-- What paying each duty hands the cell's owner `c`. -/
def hand (c : Dev nD) (k : Key) (_ : Bool) : sProp 𝕄 := match k with
  | none => iprop((∃ Y, owns (across c : Thread nD τ) inM fullShare Y) ∗ ∃ Y, owns (across c : Thread nD τ) comM fullShare Y)
  | some (false, false) => owns (c : Thread nD τ) tabM fullShare (A.table c)
  | some (false, true) => owns (c : Thread nD τ) narM fullShare (A.narrow c)
  | some (true, false) => owns (c : Thread nD τ) inM fullShare (A.table (across c))
  | some (true, true) => owns (c : Thread nD τ) comM fullShare (A.narrow (across c))

instance hand_storable (c : Dev nD) (k : Key) (d : Bool) : BI.Storable (upEmb : UEmb _ 𝕄) (hand A c k d) := by
  unfold hand
  rcases k with _ | ⟨_ | _, _ | _⟩ <;> (dsimp only; infer_instance)

end Cert.Swap

end
-- ==== Proof.ExchangeBody.lean ====
/-
# The exchanging kernel on one device

Its steps one by one, each from what it needs to what it leaves, and then all of it: from the start of the meeting a device
ends with every counter zero, the neighbour's table and the experts' buffers in its results, and its arguments as they were.
-/
module

public import proofs.«01_k».proof.Proof.ExchangePlan

@[expose] public section

noncomputable section

namespace Cert.Swap

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.ExchangeIdeal Cert.ExchangeIdeal.Gen Cert.Meeting

variable {F : FTy → Type} [FloatOps F]

local notation "𝕄" => MT nD τ sig Unit (Elt F) ℕ (UU nD τ sig) ℕ

variable {defs : Defs nD τ sig (Elt F) Λ₀} (𝒱 : Variants)
variable (A : Given F) (K : Dev nD × Key → ℕ)

/-- What every step uses: the cells' records, the order of the waits, what is still owed. -/
def around (S : Finset (Key × Bool)) (c : Dev nD) : sProp 𝕄 :=
  iprop(plan.records (τ := τ) (hand A) K ∗ levAts Meet.levels plan.lev ∗ plan.owing τ (Elt F) S c)

/-- The right to pay a duty; the place at a cell before and after its wait; the credit of a copy. -/
abbrev right (c : Dev nD) (k : Key) : sProp 𝕄 := dutyTok ER (plan.cell τ c k) 0 false
abbrev before (c : Dev nD) (k : Key) : sProp 𝕄 := atPos ER (plan.cell τ c k) 0 ∅ 0
abbrev after (c : Dev nD) (k : Key) : sProp 𝕄 := atPos ER (plan.cell τ c k) 1 ∅ 0
abbrev due (c : Dev nD) (g k : Bool) : sProp 𝕄 := cred (tallyAt (plan.cell τ c (some (g, k))) () (unit k))

/-- The two buffers a neighbour copies into, at whatever they hold. -/
def someIn (c : Dev nD) : sProp 𝕄 := iprop(∃ Y, owns (c : Thread nD τ) inM fullShare Y)
def someCom (c : Dev nD) : sProp 𝕄 := iprop(∃ Y, owns (c : Thread nD τ) comM fullShare Y)

/-! ## The steps -/

/-- The signal and the wait. -/
theorem wp_hello (c : Dev nD) {p : Prog (EffT F) PUnit} (Q : PUnit → sProp 𝕄) :
    iprop(around A K plan.owed c ∗ right (across c) none ∗ before c none ∗ cred (tallyAt (plan.cell τ c none) () 1) ∗ someIn c ∗ someCom c)
      ⊢ iprop(((around A K owed2 c ∗ after c none ∗ someIn (across c) ∗ someCom (across c))
          -∗ wp frame (wpE defs 𝒱 (c : Thread nD τ) none) Set.univ p Q)
        -∗ wp frame (wpE defs 𝒱 (c : Thread nD τ) none) Set.univ
          (.op (.semSignal (Dev.tc (⟨k0_dev1 c, k0_dev1_lt c⟩ : Dev nD)) barS 1) fun _ => .op (.semWait barS 1) fun _ => p) Q) := by
  unfold around
  iintro ⟨⟨#HR, #Hl, HO⟩, Ht, Hat, Hc, Hi, Hm⟩ Hk
  iapply (plan.wp_tell (hand A) 𝒱 K c _ (k := none) (d := false) (dev1_eq c) rfl rfl (Finset.mem_singleton_self _)
    (S' := owed2) rfl (by decide)) $$ [HO Ht Hi Hm]
  · isplitr; · iexact HR
    isplitl [HO]; · iexact HO
    isplitl [Ht]; · iexact Ht
    rw [show hand A (plan.toward none false c) none false = iprop(someIn (across (across c)) ∗ someCom (across (across c))) from rfl, across_twice]
    isplitl [Hi] <;> iassumption
  iintro HO
  iapply (plan.wp_meet (hand A) 𝒱 K c (k := none) (sm := .reg barS) rfl (k' := 1) (fun _ => rfl) rfl above_bar) $$ [Hat Hc HO]
  · isplitr; · iexact HR
    isplitl [Hc]; · iexact Hc
    isplitl [HO]; · iexact HO
    isplitr; · iexact Hl
    iexact Hat
  iintro ⟨HO, Hat, Hh⟩
  ihave Hh := (show (bigSep (plan.duties none) fun d => hand A c none d) ⊢ iprop(someIn (across c) ∗ someCom (across c)) from
    Entails.of_eq (bigSep_singleton)) $$ Hh
  icases Hh with ⟨H1, H2⟩
  iapply Hk
  isplitl [HO]
  · isplitr; · iexact HR
    isplitr; · iexact Hl
    iexact HO
  isplitl [Hat]; · iexact Hat
  isplitl [H1] <;> iassumption

/-- The two copies. -/
theorem wp_copies (c : Dev nD) {p : Prog (EffT F) PUnit} (Q : PUnit → sProp 𝕄) :
    iprop(around A K owed2 c ∗ owns (c : Thread nD τ) tabM fullShare (A.table c) ∗ owns (c : Thread nD τ) narM fullShare (A.narrow c)
        ∗ someIn (across c) ∗ someCom (across c)
        ∗ right c (some (false, false)) ∗ right (across c) (some (true, false)) ∗ right c (some (false, true)) ∗ right (across c) (some (true, true)))
      ⊢ iprop(((around A K ∅ c ∗ due c false false ∗ due c false true)
          -∗ wp frame (wpE defs 𝒱 (c : Thread nD τ) none) Set.univ p Q)
        -∗ wp frame (wpE defs 𝒱 (c : Thread nD τ) none) Set.univ
          (.op (.enqueueDma tabM (.remote (Dev.tc (⟨k0_dev2 c, k0_dev2_lt c⟩ : Dev nD)) inM (.dma (semAt cc0_scratch1 false))) (.dma (semAt cc0_scratch2 false))
            (Memref.isWhole_whole cc0_stg0_0).wordExact (Memref.isWhole_whole cc0_stg4_0).wordExact ⟨⟨rfl, Or.inl rfl⟩, trivial⟩) fun _ =>
           .op (.enqueueDma narM (.remote (Dev.tc (⟨k0_dev3 c, k0_dev3_lt c⟩ : Dev nD)) comM (.dma (semAt cc0_scratch1 true))) (.dma (semAt cc0_scratch2 true))
            (Memref.isWhole_whole cc0_stg1_0).wordExact (Memref.isWhole_whole cc0_scratch0).wordExact ⟨⟨rfl, Or.inl rfl⟩, trivial⟩) fun _ => p) Q) := by
  unfold around someIn someCom
  iintro ⟨⟨#HR, #Hl, HO⟩, Ht, Hn, Hi, Hm, HtS, HtR, HnS, HnR⟩ Hk
  iapply (plan.wp_ship_owned (hand A) 𝒱 K c _ (kS := some (false, false)) (kR := some (true, false)) (dS := false) (dR := false) (dev2_eq c) rfl rfl rfl
    (Finset.mem_singleton_self _) (Finset.mem_singleton_self _) owed2_eq (by decide) rfl rfl
    (q := fullShare) (X := A.table c) (BI.Entails.refl _)
    (by rw [show hand A (plan.toward (some (true, false)) false c) (some (true, false)) false
          = owns (across c : Thread nD τ) inM fullShare (A.table (across (across c))) from rfl, across_twice]
        exact BI.Entails.refl _)) $$ [HO Ht Hi HtS HtR]
  · isplitr; · iexact HR
    isplitl [Ht]; · iexact Ht
    isplitl [Hi]; · iexact Hi
    isplitl [HO]; · iexact HO
    isplitl [HtS]; · iexact HtS
    iexact HtR
  iintro ⟨Hc1, HO⟩
  iapply (plan.wp_ship_owned (hand A) 𝒱 K c _ (kS := some (false, true)) (kR := some (true, true)) (dS := false) (dR := false) (dev3_eq c) rfl rfl rfl
    (Finset.mem_singleton_self _) (Finset.mem_singleton_self _) owed1_eq (by decide) rfl rfl
    (q := fullShare) (X := A.narrow c) (BI.Entails.refl _)
    (by rw [show hand A (plan.toward (some (true, true)) false c) (some (true, true)) false
          = owns (across c : Thread nD τ) comM fullShare (A.narrow (across (across c))) from rfl, across_twice]
        exact BI.Entails.refl _)) $$ [HO Hn Hm HnS HnR]
  · isplitr; · iexact HR
    isplitl [Hn]; · iexact Hn
    isplitl [Hm]; · iexact Hm
    isplitl [HO]; · iexact HO
    isplitl [HnS]; · iexact HnS
    iexact HnR
  iintro ⟨Hc2, HO⟩
  iapply Hk
  isplitl [HO]
  · isplitr; · iexact HR
    isplitr; · iexact Hl
    iexact HO
  isplitl [Hc1]; · iexact Hc1
  iexact Hc2

/-- One half of one expert's buffer. -/
theorem wp_fill (c : Dev nD) (h : Bool) (v : FVec F S672x1024 .f32) (e : Fin 4) (Q : PUnit → sProp 𝕄) :
    iprop((∃ Y, owns (c : Thread nD τ) (bufM.slice (slot h e) (fun _ => rfl)) fullShare Y) ∗ emp
        ∗ ((owns (c : Thread nD τ) (bufM.slice (slot h e) (fun _ => rfl)) fullShare (rowsOf v e) ∗ emp) -∗ Q ⟨⟩))
      ⊢ wp frame (wpE defs 𝒱 (c : Thread nD τ) none) Set.univ (fill h v e) Q := by
  unfold fill
  iintro ⟨⟨%Y, H⟩, -, Hk⟩
  iapply (wp_peek 𝒱 bufM (slot h e) (fun _ => rfl) c) $$ H; iintro H
  iapply (wp_put 𝒱 bufM (slot h e) (fun _ => rfl) c) $$ H; iintro H
  rw [wp_ret]
  imodintro
  iapply Hk
  isplitl [H]; · iexact H
  iempintro

/-- The four halves. -/
theorem wp_fills (c : Dev nD) (h : Bool) (v : FVec F S672x1024 .f32) (Q : PUnit → sProp 𝕄) :
    iprop((bigSep Finset.univ fun e : Fin 4 => iprop(∃ Y, owns (c : Thread nD τ) (bufM.slice (slot h e) (fun _ => rfl)) fullShare Y))
        ∗ ((bigSep Finset.univ fun e : Fin 4 => owns (c : Thread nD τ) (bufM.slice (slot h e) (fun _ => rfl)) fullShare (rowsOf v e)) -∗ Q ⟨⟩))
      ⊢ wp frame (wpE defs 𝒱 (c : Thread nD τ) none) Set.univ (inTurn 4 (fill h v)) Q := by
  iintro ⟨H, Hk⟩
  iapply (wp_inTurn 𝒱 c (fill h v) _ (fun e => owns (c : Thread nD τ) (bufM.slice (slot h e) (fun _ => rfl)) fullShare (rowsOf v e)) (fun _ => iprop(emp))
    (fun e Q => wp_fill 𝒱 c h v e Q) Q)
  isplitl [H]; · iexact H
  isplitr; · iempintro
  iintro ⟨H, -⟩
  iapply Hk; iexact H

theorem credit_in : inM.view.dmaCredit = unit false := rfl
theorem credit_com : comM.view.dmaCredit = unit true := rfl
theorem credit_tab : tabM.view.dmaCredit = unit false := rfl
theorem credit_nar : narM.view.dmaCredit = unit true := rfl

/-- The wait for one of the copies, arriving or leaving. -/
theorem wp_copied (c : Dev nD) (g k : Bool) {sm : DmaSem sig} (hs : plan.sem (some (g, k)) = .dma sm)
    {sp sp' : Space} {s s' : Shape} {e e' : EltTy} {src : Memref sig .tc sp' s' e'} {dst : Memref sig .tc sp s e}
    {hsrc : src.view.WordExact} {hdst : dst.view.WordExact} (hN : dst.view.dmaCredit = unit k)
    {p : PUnit → Prog (EffT F) PUnit} (Q : PUnit → sProp 𝕄) :
    iprop(around A K ∅ c ∗ due c g k ∗ before c (some (g, k)))
      ⊢ iprop(((around A K ∅ c ∗ after c (some (g, k)) ∗ hand A c (some (g, k)) false)
          -∗ wp frame (wpE defs 𝒱 (c : Thread nD τ) none) Set.univ (p ⟨⟩) Q)
        -∗ wp frame (wpE defs 𝒱 (c : Thread nD τ) none) Set.univ (.op (.waitDma2 sm src dst hsrc hdst) p) Q) := by
  unfold around
  iintro ⟨⟨#HR, #Hl, HO⟩, Hc, Hat⟩ Hk
  iapply (plan.wp_meet_copy (hand A) 𝒱 K c (k := some (g, k)) (d := false) hs rfl hN rfl (above_all _)) $$ [Hat Hc HO]
  · isplitr; · iexact HR
    isplitl [Hc]; · iexact Hc
    isplitl [HO]; · iexact HO
    isplitr; · iexact Hl
    iexact Hat
  iintro ⟨HO, Hat, Hh⟩
  iapply Hk
  isplitl [HO]
  · isplitr; · iexact HR
    isplitr; · iexact Hl
    iexact HO
  isplitl [Hat] <;> iassumption

/-- The second part. -/
def latePre (c : Dev nD) : sProp 𝕄 :=
  iprop(around A K ∅ c ∗ (due c true false ∗ before c (some (true, false))) ∗ (due c true true ∗ before c (some (true, true)))
    ∗ (due c false false ∗ before c (some (false, false))) ∗ (due c false true ∗ before c (some (false, true)))
    ∗ bigSep Finset.univ fun e : Fin 4 => iprop(∃ Y, owns (c : Thread nD τ) (bufM.slice (slot true e) (fun _ => rfl)) fullShare Y))
def latePost (c : Dev nD) : sProp 𝕄 :=
  iprop(around A K ∅ c ∗ after c (some (true, false)) ∗ after c (some (true, true)) ∗ after c (some (false, false)) ∗ after c (some (false, true))
    ∗ owns (c : Thread nD τ) inM fullShare (A.table (across c)) ∗ someCom c
    ∗ owns (c : Thread nD τ) tabM fullShare (A.table c) ∗ owns (c : Thread nD τ) narM fullShare (A.narrow c)
    ∗ bigSep Finset.univ fun e : Fin 4 => owns (c : Thread nD τ) (bufM.slice (slot true e) (fun _ => rfl)) fullShare (rowsOf (come A c) e))

theorem wp_late (c : Dev nD) (Q : PUnit → sProp 𝕄) :
    iprop(latePre A K c ∗ (latePost A K c -∗ Q ⟨⟩)) ⊢ wp frame (wpE defs 𝒱 (c : Thread nD τ) none) Set.univ (flowLate c) Q := by
  unfold latePre latePost someCom flowLate
  iintro ⟨⟨HG, ⟨Hc1, Ha1⟩, ⟨Hc2, Ha2⟩, ⟨Hc3, Ha3⟩, ⟨Hc4, Ha4⟩, Hb⟩, Hk⟩
  iapply (wp_copied 𝒱 A K c true false rfl credit_in Q) $$ [HG Hc1 Ha1]
  · isplitl [HG]; · iexact HG
    isplitl [Hc1] <;> iassumption
  iintro ⟨HG, Ha1, Hi⟩
  ihave Hi := (show hand A c (some (true, false)) false ⊢ owns (c : Thread nD τ) inM fullShare (A.table (across c)) from BI.Entails.refl _) $$ Hi
  iapply (wp_look 𝒱 inM allTab c) $$ Hi; iintro Hi
  iapply (wp_copied 𝒱 A K c true true rfl credit_com Q) $$ [HG Hc2 Ha2]
  · isplitl [HG]; · iexact HG
    isplitl [Hc2] <;> iassumption
  iintro ⟨HG, Ha2, Hm⟩
  ihave Hm := (show hand A c (some (true, true)) false ⊢ owns (c : Thread nD τ) comM fullShare (A.narrow (across c)) from BI.Entails.refl _) $$ Hm
  iapply (wp_look 𝒱 comM allTok c) $$ Hm; iintro Hm
  rw [wp_bind]
  iapply (wp_fills 𝒱 c true (come A c) _)
  isplitl [Hb]; · iexact Hb
  iintro Hb
  iapply (wp_copied 𝒱 A K c false false rfl credit_tab Q) $$ [HG Hc3 Ha3]
  · isplitl [HG]; · iexact HG
    isplitl [Hc3] <;> iassumption
  iintro ⟨HG, Ha3, Ht⟩
  ihave Ht := (show hand A c (some (false, false)) false ⊢ owns (c : Thread nD τ) tabM fullShare (A.table c) from BI.Entails.refl _) $$ Ht
  iapply (wp_copied 𝒱 A K c false true rfl credit_nar Q) $$ [HG Hc4 Ha4]
  · isplitl [HG]; · iexact HG
    isplitl [Hc4] <;> iassumption
  iintro ⟨HG, Ha4, Hn⟩
  ihave Hn := (show hand A c (some (false, true)) false ⊢ owns (c : Thread nD τ) narM fullShare (A.narrow c) from BI.Entails.refl _) $$ Hn
  rw [wp_ret]
  imodintro
  iapply Hk
  isplitl [HG]; · iexact HG
  isplitl [Ha1]; · iexact Ha1
  isplitl [Ha2]; · iexact Ha2
  isplitl [Ha3]; · iexact Ha3
  isplitl [Ha4]; · iexact Ha4
  isplitl [Hi]; · iexact Hi
  isplitl [Hm]; · iexists _; iexact Hm
  isplitl [Ht]; · iexact Ht
  isplitl [Hn] <;> iassumption

/-! ## All of it -/

/-- Families over the cells, cell by cell; -/
theorem over_keys (Φ : Key → sProp 𝕄) : bigSep Finset.univ Φ
    = iprop(Φ none ∗ (Φ (some (false, false)) ∗ Φ (some (false, true))) ∗ Φ (some (true, false)) ∗ Φ (some (true, true))) := by
  rw [bigSep_maybe, bigSep_univ_prod (fun gk : Bool × Bool => Φ (some gk)), bigSep_pair, bigSep_pair, bigSep_pair]

/-- over what is owed from the start; -/
theorem over_owed (Φ : Key × Bool → sProp 𝕄) : bigSep plan.owed Φ = iprop(Φ (none, false) ∗ Φ (arrive false) ∗ Φ (arrive true)) := by
  rw [show plan.owed = insert (none, false) owed2 from rfl, bigSep_insert (by decide), owed2_eq, bigSep_insert (by decide)]
  unfold owed1
  rw [bigSep_singleton]
  rfl

/-- the rights a device uses. -/
theorem rights_used (c : Dev nD) : (plan.rights τ c : sProp 𝕄)
    ⊢ iprop(right (across c) none ∗ right c (some (false, false)) ∗ right c (some (false, true))
      ∗ right (across c) (some (true, false)) ∗ right (across c) (some (true, true))) := by
  unfold Meet.rights
  rw [bigSep_univ_prod (fun x : Key × Bool => (dutyTok ER (plan.cell τ (plan.toward x.1 x.2 c) x.1) 0 x.2 : sProp 𝕄)), over_keys]
  simp only [bigSep_pair]
  iintro ⟨⟨H1, -⟩, ⟨⟨H2, -⟩, ⟨H3, -⟩⟩, ⟨H4, -⟩, ⟨H5, -⟩⟩
  isplitl [H1]; · iexact H1
  isplitl [H2]; · iexact H2
  isplitl [H3]; · iexact H3
  isplitl [H4]; · iexact H4
  iexact H5

/-- The experts' buffers, half by half; -/
theorem buf_apart (c : Dev nD) : (iprop(∃ X, owns (c : Thread nD τ) bufM fullShare X) : sProp 𝕄)
    ⊢ iprop((bigSep Finset.univ fun e : Fin 4 => iprop(∃ Y, owns (c : Thread nD τ) (bufM.slice (slot false e) (fun _ => rfl)) fullShare Y))
      ∗ bigSep Finset.univ fun e : Fin 4 => iprop(∃ Y, owns (c : Thread nD τ) (bufM.slice (slot true e) (fun _ => rfl)) fullShare Y)) := by
  iintro ⟨%X, H⟩
  ihave H := (apart bufM c slots (fun _ _ => rfl) slots_apart slots_cover (X := X)) $$ H
  iapply (Entails.of_eq ((bigSep_univ_prod (fun t : Bool × Fin 4 =>
    (iprop(∃ Y, owns (c : Thread nD τ) (bufM.slice (slots t) (fun _ => rfl)) fullShare Y) : sProp 𝕄))).trans (bigSep_pair _)))
  iexact H

/-- and together again. -/
theorem buf_together (c : Dev nD) :
    (iprop((bigSep Finset.univ fun e : Fin 4 => owns (c : Thread nD τ) (bufM.slice (slot false e) (fun _ => rfl)) fullShare (rowsOf (own A c) e))
      ∗ bigSep Finset.univ fun e : Fin 4 => owns (c : Thread nD τ) (bufM.slice (slot true e) (fun _ => rfl)) fullShare (rowsOf (come A c) e)) : sProp 𝕄)
    ⊢ owns (c : Thread nD τ) bufM fullShare (result A c) := by
  unfold result
  refine (Entails.of_eq ?_).trans (together (Val := Elt F) (e := .f32) (s := S4x336x1024) bufM c slots (fun _ _ => rfl) slots_apart slots_cover
    (q := fullShare) (filled A c))
  rw [bigSep_univ_prod (fun t : Bool × Fin 4 => (owns (c : Thread nD τ) (bufM.slice (slots t) (fun _ => rfl)) fullShare (filled A c t) : sProp 𝕄)), bigSep_pair]
  rfl

/-- What a device starts with, and what it ends with. -/
def runPre (c : Dev nD) : sProp 𝕄 :=
  iprop(plan.start (τ := τ) (hand A) c ∗ plan.owing τ (Elt F) plan.owed c
    ∗ owns (c : Thread nD τ) tabM fullShare (A.table c) ∗ owns (c : Thread nD τ) narM fullShare (A.narrow c)
    ∗ owns (c : Thread nD τ) selM fullShare (A.select c) ∗ owns (c : Thread nD τ) tokM fullShare (A.tokens c)
    ∗ someIn c ∗ (∃ X, owns (c : Thread nD τ) bufM fullShare X) ∗ someCom c)
def runPost (c : Dev nD) : sProp 𝕄 :=
  iprop((bigSep Finset.univ fun k : Key => semVal (plan.cell τ c k) 0) ∗ plan.owing τ (Elt F) ∅ c
    ∗ owns (c : Thread nD τ) tabM fullShare (A.table c) ∗ owns (c : Thread nD τ) narM fullShare (A.narrow c)
    ∗ owns (c : Thread nD τ) selM fullShare (A.select c) ∗ owns (c : Thread nD τ) tokM fullShare (A.tokens c)
    ∗ owns (c : Thread nD τ) inM fullShare (A.table (across c)) ∗ owns (c : Thread nD τ) bufM fullShare (result A c) ∗ someCom c)

set_option maxHeartbeats 1600000 in
/-- The run of one device. -/
theorem wp_flow (c : Dev nD) (Q : PUnit → sProp 𝕄) :
    iprop(runPre A c ∗ (runPost A c -∗ Q ⟨⟩)) ⊢ wp frame (wpE defs 𝒱 (c : Thread nD τ) none) Set.univ (flow c) Q := by
  unfold runPre Meet.start Meet.dealt Meet.places Meet.credits flow
  rw [over_keys, over_owed]
  iintro ⟨⟨⟨⟨%K, #HR, ⟨HaB, ⟨Ha3, Ha4⟩, Ha1, Ha2⟩, Hrt⟩, ⟨HcB, Hc1, Hc2⟩, #Hl⟩, HO, Ht, Hn, Hs, Hx, Hi, Hb, Hm⟩, Hk⟩
  ihave Hrt := (rights_used c) $$ Hrt
  icases Hrt with ⟨HtB, Ht1, Ht2, Ht3, Ht4⟩
  ihave Hb := (buf_apart c) $$ Hb
  icases Hb with ⟨Hb0, Hb1⟩
  iapply (wp_hello 𝒱 A K c Q) $$ [HO HtB HaB HcB Hi Hm]
  · unfold around
    isplitl [HO]
    · isplitr; · iexact HR
      isplitr; · iexact Hl
      iexact HO
    isplitl [HtB]; · iexact HtB
    isplitl [HaB]; · iexact HaB
    isplitl [HcB]; · iexact HcB
    isplitl [Hi] <;> iassumption
  iintro ⟨HG, HaB, Hi, Hm⟩
  iapply (wp_copies 𝒱 A K c Q) $$ [HG Ht Hn Hi Hm Ht1 Ht2 Ht3 Ht4]
  · isplitl [HG]; · iexact HG
    isplitl [Ht]; · iexact Ht
    isplitl [Hn]; · iexact Hn
    isplitl [Hi]; · iexact Hi
    isplitl [Hm]; · iexact Hm
    isplitl [Ht1]; · iexact Ht1
    isplitl [Ht3]; · iexact Ht3
    isplitl [Ht2] <;> iassumption
  iintro ⟨HG, Hc3, Hc4⟩
  iapply (wp_look 𝒱 selM allSel c) $$ Hs; iintro Hs
  iapply (wp_look 𝒱 tokM allTok c) $$ Hx; iintro Hx
  rw [wp_bind]
  iapply (wp_fills 𝒱 c false (own A c) _)
  isplitl [Hb0]; · iexact Hb0
  iintro Hb0
  iapply (wp_fupd frame _ Set.univ)
  iapply (wp_late 𝒱 A K c _)
  isplitl [HG Hc1 Ha1 Hc2 Ha2 Hc3 Ha3 Hc4 Ha4 Hb1]
  · unfold latePre
    isplitl [HG]; · iexact HG
    isplitl [Hc1 Ha1]
    · isplitl [Hc1]; · iexact Hc1
      iexact Ha1
    isplitl [Hc2 Ha2]
    · isplitl [Hc2]; · iexact Hc2
      iexact Ha2
    isplitl [Hc3 Ha3]; · isplitl [Hc3] <;> iassumption
    isplitl [Hc4 Ha4]; · isplitl [Hc4] <;> iassumption
    iexact Hb1
  unfold latePost around
  iintro ⟨⟨-, -, HO⟩, Ha1, Ha2, Ha3, Ha4, Hi, Hm, Ht, Hn, Hb1⟩
  imod (plan.closeAll (hand A) K c) $$ [HaB Ha1 Ha2 Ha3 Ha4] with Hz
  · isplitr; · iexact HR
    rw [over_keys]
    isplitl [HaB]; · iexact HaB
    isplitl [Ha3 Ha4]; · isplitl [Ha3] <;> iassumption
    isplitl [Ha1] <;> iassumption
  imodintro
  iapply Hk
  unfold runPost
  isplitl [Hz]; · iexact Hz
  isplitl [HO]; · iexact HO
  isplitl [Ht]; · iexact Ht
  isplitl [Hn]; · iexact Hn
  isplitl [Hs]; · iexact Hs
  isplitl [Hx]; · iexact Hx
  isplitl [Hi]; · iexact Hi
  isplitl [Hb0 Hb1]
  · iapply (buf_together A c)
    isplitl [Hb0] <;> iassumption
  iexact Hm

end Cert.Swap

end
-- ==== Proof.ExchangeRun.lean ====
/-
# The exchanging kernel's launch

From any memory with zero counters, every device runs its part to the end: its result arrays hold the neighbour's table and
the experts' buffers (`result`), its arguments are as they were, and every counter is zero again. For any float values.
-/
module

public import proofs.«01_k».proof.Proof.ExchangeBody
public import proofs.«01_k».proof.Proof.Gen.ExchangeIdeal.Launch
public import Idealize.ShloMosaic.Lib.Pipeline.CollectiveSegs

@[expose] public section

noncomputable section

namespace Cert.Swap

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pipeline
open Cert.ExchangeIdeal Cert.ExchangeIdeal.Gen Cert.Meeting

variable {F : FTy → Type} [FloatOps F]

local notation "𝕄" => MT nD τ sig Unit (Elt F) ℕ (UU nD τ sig) ℕ

variable (m : (ℓ : Loc nD τ sig) → Buf (Elt F) ℓ) (ρ : Dev nD → PrngReg)

/-- The memory at the start; -/
abbrev s₀ : MemSt nD τ sig (Elt F) := ⟨m, fun _ => 0, ρ⟩
/-- each device's arguments, as its kernel is given them. -/
def given : Given F where
  table c := (win0_0.blk t0_0).view.read (Elt F) (m ((c : Thread nD τ).loc main_arg0))
  narrow c := (win0_1.blk t0_0).view.read (Elt F) (m ((c : Thread nD τ).loc main_arg1))
  select c := (win0_2.blk t0_0).view.read (Elt F) (m ((c : Thread nD τ).loc main_arg2))
  tokens c := (win0_3.blk t0_0).view.read (Elt F) (m ((c : Thread nD τ).loc main_arg3))

/-- The plan's counters. -/
def zeros (c : Dev nD) : sProp 𝕄 := bigSep Finset.univ fun k : Key => semVal (plan.cell τ c k) 0

/-- What the launch keeps of each device, before its kernel and after it. -/
def dats (_ : Fin 1) (c : Dev nD) : Dat τ (Elt F) Unit ℕ (UU nD τ sig) ℕ cfg0 c where
  A w := (s₀ m ρ).mem ((cfg0.win w).arr.view.loc (c : Thread nD τ))
  after w _ := match w with
    | ⟨0, _⟩ => (given m).table c
    | ⟨1, _⟩ => (given m).narrow c
    | ⟨2, _⟩ => (given m).select c
    | ⟨3, _⟩ => (given m).tokens c
    | ⟨4, _⟩ => (given m).table (across c)
    | ⟨5, _⟩ => result (given m) c
  Φ t := match t with
    | ⟨0, _⟩ => iprop(plan.start (τ := τ) (hand (given m)) c ∗ someCom c)
    | ⟨_ + 1, _⟩ => iprop(zeros c ∗ someCom c)
  q _ := fullShare
  owed t := match t with
    | ⟨0, _⟩ => plan.dues τ plan.owed c
    | ⟨_ + 1, _⟩ => plan.dues τ ∅ c

/-! ## The kernel's obligation -/

abbrev 𝒱₀ : Variants := Variants.none

/-- What the launch hands the kernel, and what it takes back. -/
def bodyPre (c : Dev nD) : sProp 𝕄 :=
  iprop((plan.start (τ := τ) (hand (given m)) c ∗ someCom c) ∗ (dats m ρ 0 c).owesAt () t0_0.castSucc
    ∗ (∃ d, owns (c : Thread nD τ) tabM fullShare ((dats m ρ 0 c).before (0 : Fin 6) t0_0 d))
    ∗ (∃ d, owns (c : Thread nD τ) narM fullShare ((dats m ρ 0 c).before (1 : Fin 6) t0_0 d))
    ∗ (∃ d, owns (c : Thread nD τ) selM fullShare ((dats m ρ 0 c).before (2 : Fin 6) t0_0 d))
    ∗ (∃ d, owns (c : Thread nD τ) tokM fullShare ((dats m ρ 0 c).before (3 : Fin 6) t0_0 d))
    ∗ (∃ d, owns (c : Thread nD τ) inM fullShare ((dats m ρ 0 c).before (4 : Fin 6) t0_0 d))
    ∗ (∃ d, owns (c : Thread nD τ) bufM fullShare ((dats m ρ 0 c).before (5 : Fin 6) t0_0 d)))
def bodyPost (c : Dev nD) : sProp 𝕄 :=
  iprop((zeros c ∗ someCom c) ∗ (dats m ρ 0 c).owesAt () t0_0.succ
    ∗ owns (c : Thread nD τ) tabM fullShare ((given m).table c) ∗ owns (c : Thread nD τ) narM fullShare ((given m).narrow c)
    ∗ owns (c : Thread nD τ) selM fullShare ((given m).select c) ∗ owns (c : Thread nD τ) tokM fullShare ((given m).tokens c)
    ∗ owns (c : Thread nD τ) inM fullShare ((given m).table (across c)) ∗ owns (c : Thread nD τ) bufM fullShare (result (given m) c))

theorem fetch_0 : (cfg0.win (0 : Fin 6)).fetch t0_0 = true := rfl
theorem fetch_1 : (cfg0.win (1 : Fin 6)).fetch t0_0 = true := rfl
theorem fetch_2 : (cfg0.win (2 : Fin 6)).fetch t0_0 = true := rfl
theorem fetch_3 : (cfg0.win (3 : Fin 6)).fetch t0_0 = true := rfl

theorem body_run (c : Dev nD) : bodyPre m ρ c ⊢ wp frame (wpE (defs₀ (F := F)) 𝒱₀ (c : Thread nD τ) none) Set.univ (flow c) (fun _ => bodyPost m ρ c) := by
  have h0 (d) : (dats m ρ 0 c).before (0 : Fin 6) t0_0 d = (given m).table c := by unfold Dat.before; rw [if_pos fetch_0]; rfl
  have h1 (d) : (dats m ρ 0 c).before (1 : Fin 6) t0_0 d = (given m).narrow c := by unfold Dat.before; rw [if_pos fetch_1]; rfl
  have h2 (d) : (dats m ρ 0 c).before (2 : Fin 6) t0_0 d = (given m).select c := by unfold Dat.before; rw [if_pos fetch_2]; rfl
  have h3 (d) : (dats m ρ 0 c).before (3 : Fin 6) t0_0 d = (given m).tokens c := by unfold Dat.before; rw [if_pos fetch_3]; rfl
  unfold bodyPre bodyPost zeros Dat.owesAt Pipeline.owesWithin
  rw [show (dats m ρ 0 c).owed t0_0.castSucc = plan.dues τ plan.owed c from rfl, show (dats m ρ 0 c).owed t0_0.succ = plan.dues τ ∅ c from rfl]
  simp only [h0, h1, h2, h3]
  iintro ⟨⟨Hst, Hm⟩, ⟨%W, -, HO⟩, ⟨%d0, Ht⟩, ⟨%d1, Hn⟩, ⟨%d2, Hs⟩, ⟨%d3, Hx⟩, ⟨%d4, Hi⟩, ⟨%d5, Hb⟩⟩
  iapply (wp_flow 𝒱₀ (given m) c (fun _ => _))
  unfold runPre runPost Meet.owing
  isplitl [Hst Hm HO Ht Hn Hs Hx Hi Hb]
  · isplitl [Hst]; · iexact Hst
    isplitl [HO]; · iexists W; iexact HO
    isplitl [Ht]; · iexact Ht
    isplitl [Hn]; · iexact Hn
    isplitl [Hs]; · iexact Hs
    isplitl [Hx]; · iexact Hx
    isplitl [Hi]; · unfold someIn; iexists _; iexact Hi
    isplitl [Hb]; · iexists _; iexact Hb
    iexact Hm
  iintro ⟨Hz, ⟨%W', HO⟩, Ht, Hn, Hs, Hx, Hi, Hb, Hm⟩
  isplitl [Hz Hm]
  · isplitl [Hz]; · iexact Hz
    iexact Hm
  isplitl [HO]
  · iexists W'
    isplitr; · ipureintro; exact fun _ _ => Or.inl trivial
    iexact HO
  isplitl [Ht]; · iexact Ht
  isplitl [Hn]; · iexact Hn
  isplitl [Hs]; · iexact Hs
  isplitl [Hx]; · iexact Hx
  isplitl [Hi]; · iexact Hi
  iexact Hb

set_option maxRecDepth 65536 in
theorem body_obligation (c : Dev nD) : BodyObligation (dats (F := F) m ρ 0 c) (defs₀ (F := F)) 𝒱₀ () Set.univ := fun t => by
  rw [fin_N0 t]
  rw [bigSep_W0, bigSep_W0]
  show bodyPre m ρ c ⊢ wp frame (wpE (defs₀ (F := F)) 𝒱₀ (c : Thread nD τ) none) Set.univ
    (cc0__xmeta_body (F := F) tabM (Memref.isWhole_whole _) narM (Memref.isWhole_whole _) selM (Memref.isWhole_whole _)
      tokM (Memref.isWhole_whole _) inM (Memref.isWhole_whole _) bufM (Memref.isWhole_whole _) comM (Memref.isWhole_whole _) cc0_scratch1 cc0_scratch2)
    (fun _ => bodyPost m ρ c)
  rw [body_eq_flow, wp_deviceId]
  exact body_run m ρ c

/-! ## The launch -/

/-- The kernel's own semaphores. -/
abbrev osem : Bool × Bool → SemLoc sig := fun gk => semOf (some gk)

theorem stage_lt : ∀ (w : Fin cfg0.W) (s : Fin (cfg0.spec w).nbuf), ((cfg0.spec w).sem s).val < 6 := by decide

theorem ownSemFacts : Pipeline.OwnSemFacts cfg0.spec osem where
  isScoped gk := by revert gk; decide
  inj a b h := Option.some.inj (semOf_inj h)
  disj gk w s h := by
    have h1 : dmaAt gk.1 gk.2 = (cfg0.spec w).sem s := by unfold osem semOf at h; simpa using h
    have h2 := congrArg Fin.val h1
    rw [dmaAt_val] at h2
    have h3 := stage_lt w s
    omega

theorem share_eq (c : Dev nD) (w : Fin cfg0.W) : (dats m ρ 0 c).share w = fullShare := by unfold Dat.share; split <;> rfl

theorem unscopedSems0_eq (c : Dev nD) : (unscopedSems0 c : sProp 𝕄) = semVal (plan.cell τ c none) 0 := by
  unfold unscopedSems0; rw [bigSep_eq_bigSepL_of_eq [SemLoc.reg barS] (by decide) (by decide)]; rfl

/-- All the counters of the plan: the barrier's and the kernel's own. -/
theorem zeros_eq (c : Dev nD) : (zeros c : sProp 𝕄)
    = iprop(unscopedSems0 c ∗ Pipeline.ownSems0 (Ix := Unit) (Name := ℕ) (U := UU nD τ sig) (Lvl := ℕ) (Val := Elt F) (τ := τ) osem c) := by
  unfold zeros Pipeline.ownSems0; rw [bigSep_maybe, unscopedSems0_eq]; rfl

def u₀ : UU nD τ sig :=
  (initOf (Pipeline.cells cfgs cellOf_inj) (Pipeline.launchToks cfgs cellOf_inj), initOf (plan.cells τ) (plan.toks τ))

theorem glob : (bigSep Finset.univ fun c => iprop(Pipeline.ownSems0 (Ix := Unit) (Name := ℕ) (U := UU nD τ sig) (Lvl := ℕ) (Val := Elt F) (τ := τ) osem c
        ∗ unscopedSems0 c ∗ plan.minted (τ := τ) (hand (given m)) c) : sProp 𝕄)
    ⊢ |={Set.univ}=> bigSep Finset.univ (plan.dealt (τ := τ) (hand (given m))) := by
  refine (bigSep_mono fun c _ => ?_).trans (plan.deal (hand (given m)) (V := zeros) fun c => BI.Entails.refl _)
  show iprop(Pipeline.ownSems0 osem c ∗ unscopedSems0 c ∗ plan.minted (τ := τ) (hand (given m)) c) ⊢ iprop(zeros c ∗ plan.minted (τ := τ) (hand (given m)) c)
  rw [zeros_eq]
  iintro ⟨H1, H2, H3⟩
  isplitl [H1 H2]
  · isplitl [H2] <;> iassumption
  iexact H3

theorem start_intro (c : Dev nD) :
    iprop(Pipeline.unscopedRestP Pipeline.Prefetch.none cfg0.spec c (fun b => m ((c : Thread nD τ).loc b)) ∗ levAts Meet.levels plan.lev
        ∗ Pipeline.launchCred (plan.dues τ plan.owed) c ∗ prngReg c (ρ c) ∗ plan.dealt (τ := τ) (hand (given m)) c)
      ⊢ |={Set.univ}=> iprop(plan.start (τ := τ) (hand (given m)) c ∗ emp) := by
  iintro ⟨-, Hlev, Hcr, -, HG⟩
  ihave Hc := (plan.launch_credits c) $$ Hcr
  imodintro
  unfold Meet.start
  isplitl
  · isplitl [HG]; · iexact HG
    isplitl [Hc] <;> iassumption
  · iempintro

theorem scratch_eq (c : Dev nD) : (Pipeline.scopedRest cfg0.spec c : sProp 𝕄) = someCom c := by
  rw [scopedRest0_eq]
  unfold someCom
  simp only [owns_whole]
  rfl

theorem phi0_intro (c : Dev nD) :
    iprop(plan.start (τ := τ) (hand (given m)) c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = iprop(plan.start (τ := τ) (hand (given m)) c ∗ someCom c) from rfl, scratch_eq]
  iintro ⟨Hs, -, Hr⟩
  isplitl [Hs] <;> iassumption

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = iprop(zeros c ∗ someCom c) from rfl, scratch_eq, zeros_eq]
  iintro ⟨⟨H1, H2⟩, H3⟩
  isplitl [H1]; · iexact H1
  isplitl [H2] <;> iassumption

theorem above_stage : ∀ x ∈ plan.owed, 0 < plan.level x.1 := by decide

theorem waits (c : Dev nD) : (levAts Meet.levels plan.lev : sProp 𝕄) ⊢ Pipeline.cellsWaits cfgs (dats m ρ) () 0 c :=
  Pipeline.cellsWaits_intro cfgs (dats m ρ) () 0 c fun w s t => by
    have hs : ∀ k, plan.sem k = .dma ((cfg0.win w).sem s) → plan.level k ≤ 0 := by
      rintro (_ | gk) h
      · exact absurd h (by show SemLoc.reg barS ≠ _; simp)
      · exact absurd h (ownSemFacts.disj gk w s)
    rcases t with ⟨_ | _, ht⟩
    · exact plan.mayWait_of 0 hs above_stage c
    · exact plan.mayWait_of 0 hs (fun x hx => absurd hx (Finset.notMem_empty x)) c

/-! ## The run -/

def finalA (c : Dev nD) (w : Fin cfg0.W) : Buf (Elt F) ((cfg0.win w).arr.view.loc (c : Thread nD τ)) := (dats m ρ 0 c).arrAt w cfg0.N

theorem finalA_0 (c : Dev nD) : finalA m ρ c (0 : Fin 6) = m ((c : Thread nD τ).loc main_arg0) := (dats (F := F) m ρ 0 c).arrAt_in (0 : Fin 6) rfl _
theorem finalA_1 (c : Dev nD) : finalA m ρ c (1 : Fin 6) = m ((c : Thread nD τ).loc main_arg1) := (dats (F := F) m ρ 0 c).arrAt_in (1 : Fin 6) rfl _
theorem finalA_2 (c : Dev nD) : finalA m ρ c (2 : Fin 6) = m ((c : Thread nD τ).loc main_arg2) := (dats (F := F) m ρ 0 c).arrAt_in (2 : Fin 6) rfl _
theorem finalA_3 (c : Dev nD) : finalA m ρ c (3 : Fin 6) = m ((c : Thread nD τ).loc main_arg3) := (dats (F := F) m ρ 0 c).arrAt_in (3 : Fin 6) rfl _

theorem finalA_read4 (c : Dev nD) : (win0_4.blk t0_0).view.read (Elt F) (finalA m ρ c (4 : Fin 6)) = (given m).table (across c) := by
  unfold finalA
  rw [show cfg0.N = (t0_0 : Fin cfg0.N).val + 1 from rfl, (dats m ρ 0 c).arrAt_succ (4 : Fin 6) t0_0]
  rw [show (cfg0.win (4 : Fin 6)).flush t0_0 = true from by decide, if_pos rfl]
  exact View.read_write_univ _ _
theorem finalA_read5 (c : Dev nD) : (win0_5.blk t0_0).view.read (Elt F) (finalA m ρ c (5 : Fin 6)) = result (given m) c := by
  unfold finalA
  rw [show cfg0.N = (t0_0 : Fin cfg0.N).val + 1 from rfl, (dats m ρ 0 c).arrAt_succ (5 : Fin 6) t0_0]
  rw [show (cfg0.win (5 : Fin 6)).flush t0_0 = true from by decide, if_pos rfl]
  exact View.read_write_univ _ _

theorem table_eq (c : Dev nD) : (given m).table c = m ((c : Thread nD τ).loc main_arg0) :=
  (show (win0_0.blk t0_0).view.read (Elt F) (m ((c : Thread nD τ).loc main_arg0)) = _ from Memref.read_access_unit_zero (Elt F) main_arg0 (by decide) _ _)
theorem narrow_eq (c : Dev nD) : (given m).narrow c = m ((c : Thread nD τ).loc main_arg1) :=
  (show (win0_1.blk t0_0).view.read (Elt F) (m ((c : Thread nD τ).loc main_arg1)) = _ from Memref.read_access_unit_zero (Elt F) main_arg1 (by decide) _ _)
theorem select_eq (c : Dev nD) : (given m).select c = m ((c : Thread nD τ).loc main_arg2) :=
  (show (win0_2.blk t0_0).view.read (Elt F) (m ((c : Thread nD τ).loc main_arg2)) = _ from Memref.read_access_unit_zero (Elt F) main_arg2 (by decide) _ _)
theorem tokens_eq (c : Dev nD) : (given m).tokens c = m ((c : Thread nD τ).loc main_arg3) :=
  (show (win0_3.blk t0_0).view.read (Elt F) (m ((c : Thread nD τ).loc main_arg3)) = _ from Memref.read_access_unit_zero (Elt F) main_arg3 (by decide) _ _)
theorem finalA_4 (c : Dev nD) : finalA m ρ c (4 : Fin 6) = (given m).table (across c) :=
  (Memref.read_access_unit_zero (Elt F) main_v1_0 (by decide) _ _).symm.trans (finalA_read4 m ρ c)
theorem finalA_5 (c : Dev nD) : finalA m ρ c (5 : Fin 6) = result (given m) c :=
  (Memref.read_access_unit_zero (Elt F) main_v1_1 (by decide) _ _).symm.trans (finalA_read5 m ρ c)

set_option maxRecDepth 8000 in
/-- The run, for any float values. -/
theorem run_main : θ_run (defs (F := F)) (onTc (τ := τ) (main (F := F))) (s₀ m ρ) (fun r =>
    (∀ c : Dev nD, (r.2.mem ((c : Thread nD τ).loc main_v1_0) = (given m).table (across c)
        ∧ r.2.mem ((c : Thread nD τ).loc main_v1_1) = result (given m) c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)) ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := fun c => (body_obligation m ρ c).loose) (hne := block_pos0) (harr := arr_whole0) (hstage := stage_whole0) (hshare := share_eq m ρ)
    (hdistinct := winFacts0.arr_inj)
    (O₀ := plan.dues τ plan.owed) (howed₀ := fun _ => rfl) (howedN := fun c => plan.dues_empty c)
    (L := Meet.levels) (lv := plan.lev) (hL := Meet.levels_of_ne) (hwaits := waits m ρ)
    (G := plan.minted (τ := τ) (hand (given m))) (G' := plan.dealt (τ := τ) (hand (given m))) (u₀ := u₀)
    (hu₀ := by
      unfold u₀
      iintro Hu
      ihave H := (ownU_pair _ _) $$ Hu
      icases H with ⟨HP, HX⟩
      imod (plan.fund (hand (given m))) $$ HX with HG
      imodintro
      isplitl [HP] <;> iassumption)
    (hglob := glob m)
    (hA := fun _ _ => rfl) (hpf := fun _ k => k.elim0)
    (X := plan.start (τ := τ) (hand (given m))) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c => ⟨⟨((h c).1 (4 : Fin 6)).trans (finalA_4 m ρ c), ((h c).1 (5 : Fin 6)).trans (finalA_5 m ρ c)⟩,
        ((h c).1 (0 : Fin 6)).trans (finalA_0 m ρ c), ((h c).1 (1 : Fin 6)).trans (finalA_1 m ρ c),
        ((h c).1 (2 : Fin 6)).trans (finalA_2 m ρ c), ((h c).1 (3 : Fin 6)).trans (finalA_3 m ρ c)⟩,
      sem_eq_zero hs fun c => (h c).2.2⟩)

end Cert.Swap

end
-- ==== Proof.DispatchValue.lean ====
/-
# The dispatch reference, entry by entry

With exact arithmetic an entry of the reference's second result is one of two sums over the tokens of a half: of a row of
the given selection times the tokens, or of the selection the routing describes times the other half's tokens.
-/
module

public import proofs.«01_k».proof.Proof.Gen.DispatchIdeal.Run
public import Idealize.ShloMosaic.Lib.Pipeline.Value
public import Idealize.ShloMosaic.Lib.IdealHost
public import Idealize.ShloMosaic.Lib.Pointwise

@[expose] public section

noncomputable section

namespace Cert.Dispatching

open Idealize.ShloMosaic
open Idealize.ShloMosaic.TcCoe
open Cert.DispatchIdeal Cert.DispatchIdeal.Gen

/-- Whether a token of expert `e` and place `p` goes to row `r` of the device whose first expert is `b`; -/
def hit (b e p r : BitVec 32) : BitVec 1 :=
  IntOp.andi (IntOp.andi (IntOp.andi (IntOp.cmpi .sge (IntOp.subi e b) 0#32) (IntOp.cmpi .slt (IntOp.subi e b) 4#32)) (IntOp.cmpi .slt p 168#32))
    (IntOp.cmpi .eq (IntOp.addi (IntOp.muli (IntOp.subi e b) 168#32) p) r)
/-- one if so, else zero. -/
def mark (b e p r : BitVec 32) : EReal := FloatOps.uitofp (F := Ideal) .f32 (hit b e p r)

variable (W : FVec Ideal S16x1024 .f32) (B : FVec Ideal S2048x1024 .bf16) (S : FVec Ideal S2688x1024 .f32) (X : FVec Ideal S2048x1024 .f32)

/-! ## Places in the whole arrays -/

/-- Row `a` of half `h` of the table; token `t` of half `h`; row `r` of the selection of the device at `(x, y)`. -/
def tableAt (h : Fin 2) (a : Fin 8) (t : Fin 1024) : S16x1024.Idx := ix2 (n0 := 16) (n1 := 1024) ⟨8 * h.val + a.val, by omega⟩ t
def tokenAt (h : Fin 2) (t d : Fin 1024) : S2048x1024.Idx := ix2 (n0 := 2048) (n1 := 1024) ⟨1024 * h.val + t.val, by omega⟩ d
def selectAt (x y : Fin 2) (r : Fin 672) (t : Fin 1024) : S2688x1024.Idx := ix2 (n0 := 2688) (n1 := 1024) ⟨672 * (2 * x.val + y.val) + r.val, by omega⟩ t

/-- The table's entry as a whole number. -/
def wordAt (h : Fin 2) (a : Fin 8) (t : Fin 1024) : BitVec 32 := FloatOps.fptosi (F := Ideal) 32 (W (tableAt h a t))
/-- The selection that the table of half `h` describes, for the device whose first expert is `b`. -/
def chosen (b : BitVec 32) (h : Fin 2) (r : Fin 672) (t : Fin 1024) : EReal :=
  mark b (wordAt W h 0 t) (wordAt W h 2 t) (BitVec.ofNat 32 r.val) + mark b (wordAt W h 1 t) (wordAt W h 3 t) (BitVec.ofNat 32 r.val)

/-! ## The reference in parts -/

abbrev other : FVec Ideal S2x8x1024 .f32 := Host.reverse [0] (shapeCast S2x8x1024 W shapeCasts_S16x1024_S2x8x1024)
abbrev otherTokens : FVec Ideal S2x1024x1024 .f32 :=
  extf .f32 (Host.reverse [0] (shapeCast S2x1024x1024 B shapeCasts_S2048x1024_S2x1024x1024)) bitsLt_bf16_f32
abbrev experts : IVec S2x2x1024 32 := fptosi 32 (extractStridedSlice S2x2x1024 ![0, 0, 0] (other W) slices_S2x8x1024_S2x2x1024_0_0_0)
abbrev places : IVec S2x2x1024 32 := fptosi 32 (extractStridedSlice S2x2x1024 ![0, 2, 0] (other W) slices_S2x8x1024_S2x2x1024_0_2_0)
abbrev firsts : IVec S2x2x1x1 32 :=
  shapeCast S2x2x1x1 (muli (iotaInDim S4 32 0) (broadcastInDim S4 ![] bcast_S_S4 (constantI S_ 32 4#32))) shapeCasts_S4_S2x2x1x1
abbrev spread (v : IVec S2x2x1024 32) : IVec S2x1x2x1024 32 := broadcastInDim S2x1x2x1024 ![0, 2, 3] bcast_S2x2x1024_S2x1x2x1024_0_2_3 v
abbrev wide {α : Type} (v : S2x1x2x1024.Idx → α) : S2x2x2x1024.Idx → α :=
  broadcastInDim S2x2x2x1024 ![0, 1, 2, 3] bcast_S2x1x2x1024_S2x2x2x1024_0_1_2_3 v
abbrev tall {α : Type} (v : S2x2x2x1024.Idx → α) : S2x2x2x672x1024.Idx → α :=
  broadcastInDim S2x2x2x672x1024 ![0, 1, 2, 3, 4] bcast_S2x2x2x1x1024_S2x2x2x672x1024_0_1_2_3_4
    (broadcastInDim S2x2x2x1x1024 ![0, 1, 2, 4] bcast_S2x2x2x1024_S2x2x2x1x1024_0_1_2_4 v)
abbrev whole (n : BitVec 32) : IVec S2x2x2x1024 32 := broadcastInDim S2x2x2x1024 ![] bcast_S_S2x2x2x1024 (constantI S_ 32 n)
abbrev firstsWide : IVec S2x2x2x1024 32 := broadcastInDim S2x2x2x1024 ![0, 1, 2, 3] bcast_S2x2x1x1_S2x2x2x1024_0_1_2_3 firsts
abbrev locals : IVec S2x2x2x1024 32 := subi (wide (spread (experts W))) firstsWide
abbrev here : IVec S2x2x2x1024 1 :=
  andi (andi (cmpi .sge (locals W) (whole 0#32)) (cmpi .slt (locals W) (whole 4#32)))
    (wide (cmpi .slt (spread (places W)) (broadcastInDim S2x1x2x1024 ![] bcast_S_S2x1x2x1024 (constantI S_ 32 168#32))))
abbrev rowAt : IVec S2x2x2x1024 32 := addi (muli (locals W) (whole 168#32)) (wide (spread (places W)))
abbrev rowNumbers : IVec S2x2x2x672x1024 32 :=
  broadcastInDim S2x2x2x672x1024 ![0, 1, 2, 3, 4] bcast_S1x1x1x672x1_S2x2x2x672x1024_0_1_2_3_4
    (broadcastInDim S1x1x1x672x1 ![3, 4] bcast_S672x1_S1x1x1x672x1_3_4 (broadcastInDim S672x1 ![0] bcast_S672_S672x1_0 (iotaInDim S672 32 0)))
abbrev hits : IVec S2x2x2x672x1024 1 := andi (tall (here W)) (cmpi .eq (tall (rowAt W)) rowNumbers)
def picked : FVec Ideal S2x2x672x1024 .f32 :=
  Host.reduceAdd (uitofp .f32 (hits W)) (constant S_ .f32 0x00000000#32) reducesTo_S2x2x2x672x1024_S2x2x672x1024_d2 h_S_

def ofOwn : FVec Ideal S2x2x672x1024 .f32 :=
  Host.dotGeneral dot_S2x2x672x1024_S2x1024x1024_S2x2x672x1024_3_1_12_2_0_0 none
    (shapeCast S2x2x672x1024 S shapeCasts_S2688x1024_S2x2x672x1024) (shapeCast S2x1024x1024 X shapeCasts_S2048x1024_S2x1024x1024)
def ofOther : FVec Ideal S2x2x672x1024 .f32 :=
  Host.dotGeneral dot_S2x2x672x1024_S2x1024x1024_S2x2x672x1024_3_1_12_2_0_0 none (picked W) (otherTokens B)
def tables : FVec Ideal S16x1024 .f32 := shapeCast S16x1024 (other W) shapeCasts_S2x8x1024_S16x1024
def buffers : FVec Ideal S16x336x1024 .f32 :=
  concatenate S16x336x1024 1 [⟨S16x168x1024, shapeCast S16x168x1024 (ofOwn S X) shapeCasts_S2x2x672x1024_S16x168x1024⟩,
    ⟨S16x168x1024, shapeCast S16x168x1024 (ofOther W B) shapeCasts_S2x2x672x1024_S16x168x1024⟩] concatenates_S16x168x1024_S16x168x1024_S16x336x1024_d1

theorem buffers_eq (m : (ℓ : Loc nD τ sig) → Buf (Elt Ideal) ℓ) (c : Dev nD) : Value.res_out1 m c
    = buffers (m ((c.tc : Thread nD τ).loc main_arg0)) (m ((c.tc : Thread nD τ).loc main_arg1)) (m ((c.tc : Thread nD τ).loc main_arg2))
      (m ((c.tc : Thread nD τ).loc main_arg3)) := rfl

/-! ## The parts at an index -/

theorem spread_at (v : IVec S2x2x1024 32) (x z k : Fin 2) (t : Fin 1024) :
    spread v (ix4 (n0 := 2) (n1 := 1) (n2 := 2) (n3 := 1024) x 0 k t) = v (ix3 x k t) := by
  refine broadcastInDim_apply _ _ _ _ _ fun a => ?_
  fin_cases a <;> rfl
theorem wide_at {α : Type} (v : S2x1x2x1024.Idx → α) (x y k : Fin 2) (t : Fin 1024) :
    wide v (ix4 (n0 := 2) (n1 := 2) (n2 := 2) (n3 := 1024) x y k t) = v (ix4 x 0 k t) := by
  refine broadcastInDim_apply _ _ _ _ _ fun a => ?_
  fin_cases a <;> rfl
theorem tall_at {α : Type} (v : S2x2x2x1024.Idx → α) (x y k : Fin 2) (r : Fin 672) (t : Fin 1024) :
    tall v (ix5 (n0 := 2) (n1 := 2) (n2 := 2) (n3 := 672) (n4 := 1024) x y k r t) = v (ix4 x y k t) := by
  refine (broadcastInDim_apply _ _ _ _ (ix5 (n0 := 2) (n1 := 2) (n2 := 2) (n3 := 1) (n4 := 1024) x y k 0 t) fun a => ?_).trans
    (broadcastInDim_apply _ _ _ _ _ fun a => ?_) <;> fin_cases a <;> rfl
theorem rowNumbers_at (x y k : Fin 2) (r : Fin 672) (t : Fin 1024) :
    rowNumbers (ix5 (n0 := 2) (n1 := 2) (n2 := 2) (n3 := 672) (n4 := 1024) x y k r t) = BitVec.ofNat 32 r.val := by
  refine (broadcastInDim_apply _ _ _ _ (ix5 (n0 := 1) (n1 := 1) (n2 := 1) (n3 := 672) (n4 := 1) 0 0 0 r 0) fun a => ?_).trans
    ((broadcastInDim_apply _ _ _ _ (ix2 (n0 := 672) (n1 := 1) r 0) fun a => ?_).trans
      ((broadcastInDim_apply _ _ _ _ (ix1 (n0 := 672) r) fun a => ?_).trans rfl)) <;> fin_cases a <;> rfl
theorem firstsWide_at (x y k : Fin 2) (t : Fin 1024) :
    firstsWide (ix4 (n0 := 2) (n1 := 2) (n2 := 2) (n3 := 1024) x y k t) = BitVec.ofNat 32 (2 * x.val + y.val) * 4#32 := by
  refine (broadcastInDim_apply _ _ _ _ (ix4 (n0 := 2) (n1 := 2) (n2 := 1) (n3 := 1) x y 0 0) fun a => ?_).trans ?_
  · fin_cases a <;> rfl
  refine (shapeCast_apply _ _ _ (ix1 (n0 := 4) ⟨2 * x.val + y.val, by omega⟩) ?_).trans rfl
  rw [Shape.rowMajor_val_four, Shape.rowMajor_val_one]
  show 2 * x.val + y.val = ((x.val * 2 + y.val) * 1 + 0) * 1 + 0
  omega

theorem other_at (x : Fin 2) (a : Fin 8) (t : Fin 1024) : other W (ix3 (n0 := 2) (n1 := 8) (n2 := 1024) x a t) = W (tableAt x.rev a t) := by
  show shapeCast S2x8x1024 W shapeCasts_S16x1024_S2x8x1024 _ = _
  refine shapeCast_apply W _ _ _ ?_
  rw [Shape.rowMajor_val_two, Shape.rowMajor_val_three]
  show (8 * x.rev.val + a.val) * 1024 + t.val = (x.rev.val * 8 + a.val) * 1024 + t.val
  omega
theorem otherTokens_at (x : Fin 2) (t d : Fin 1024) :
    (otherTokens B (ix3 (n0 := 2) (n1 := 1024) (n2 := 1024) x t d) : EReal) = B (tokenAt x.rev t d) := by
  show shapeCast S2x1024x1024 B shapeCasts_S2048x1024_S2x1024x1024 _ = _
  refine shapeCast_apply B _ _ _ ?_
  rw [Shape.rowMajor_val_two, Shape.rowMajor_val_three]
  show (1024 * x.rev.val + t.val) * 1024 + d.val = (x.rev.val * 1024 + t.val) * 1024 + d.val
  omega

theorem experts_at (x k : Fin 2) (t : Fin 1024) :
    experts W (ix3 (n0 := 2) (n1 := 2) (n2 := 1024) x k t) = wordAt W x.rev ⟨k.val, by omega⟩ t := by
  refine congrArg (FloatOps.fptosi (F := Ideal) 32) ((extractStridedSlice_apply _ _ _ _ (ix3 (n0 := 2) (n1 := 8) (n2 := 1024) x ⟨k.val, by omega⟩ t) fun a => ?_).trans
    (other_at W x _ t))
  fin_cases a
  · show x.val = 0 + x.val; omega
  · show k.val = 0 + k.val; omega
  · show t.val = 0 + t.val; omega
theorem places_at (x k : Fin 2) (t : Fin 1024) :
    places W (ix3 (n0 := 2) (n1 := 2) (n2 := 1024) x k t) = wordAt W x.rev ⟨2 + k.val, by omega⟩ t := by
  refine congrArg (FloatOps.fptosi (F := Ideal) 32) ((extractStridedSlice_apply _ _ _ _ (ix3 (n0 := 2) (n1 := 8) (n2 := 1024) x ⟨2 + k.val, by omega⟩ t) fun a => ?_).trans
    (other_at W x _ t))
  fin_cases a
  · show x.val = 0 + x.val; omega
  · show 2 + k.val = 2 + k.val; omega
  · show t.val = 0 + t.val; omega

abbrev firstOf (x y : Fin 2) : BitVec 32 := BitVec.ofNat 32 (2 * x.val + y.val) * 4#32

theorem locals_at (x y k : Fin 2) (t : Fin 1024) : locals W (ix4 (n0 := 2) (n1 := 2) (n2 := 2) (n3 := 1024) x y k t)
    = IntOp.subi (wordAt W x.rev ⟨k.val, by omega⟩ t) (firstOf x y) := by
  show IntOp.subi (wide (spread (experts W)) _) (firstsWide _) = _
  rw [firstsWide_at, wide_at, spread_at _ x 0, experts_at]

theorem hits_at (x y k : Fin 2) (r : Fin 672) (t : Fin 1024) :
    hits W (ix5 (n0 := 2) (n1 := 2) (n2 := 2) (n3 := 672) (n4 := 1024) x y k r t)
      = hit (firstOf x y) (wordAt W x.rev ⟨k.val, by omega⟩ t) (wordAt W x.rev ⟨2 + k.val, by omega⟩ t) (BitVec.ofNat 32 r.val) := by
  show IntOp.andi (tall (here W) _) (IntOp.cmpi .eq (tall (rowAt W) _) (rowNumbers _)) = _
  rw [tall_at, tall_at, rowNumbers_at]
  show IntOp.andi (IntOp.andi (IntOp.andi (IntOp.cmpi .sge (locals W _) 0#32) (IntOp.cmpi .slt (locals W _) 4#32)) (wide _ _))
    (IntOp.cmpi .eq (IntOp.addi (IntOp.muli (locals W _) 168#32) (wide _ _)) _) = _
  rw [locals_at, wide_at, wide_at, spread_at _ x 0, places_at]
  show IntOp.andi (IntOp.andi _ (IntOp.cmpi .slt (spread (places W) _) 168#32)) _ = _
  rw [spread_at _ x 0, places_at]
  rfl

theorem picked_at (x y : Fin 2) (r : Fin 672) (t : Fin 1024) :
    picked W (ix4 (n0 := 2) (n1 := 2) (n2 := 672) (n3 := 1024) x y r t) = chosen W (firstOf x y) x.rev r t := by
  unfold picked
  rw [ValueIdx.hostReduceAdd_apply, Ideal.hostReduceAdd_r5_a2]
  rw [show (constant (F := Ideal) S_ .f32 0x00000000#32) (Shape.Idx.first h_S_) = (0 : EReal) from Ideal.ofBits_zero_f32, zero_add, Fin.sum_univ_two]
  exact congrArg₂ (fun a b : BitVec 1 => (FloatOps.uitofp (F := Ideal) .f32 a + FloatOps.uitofp (F := Ideal) .f32 b : EReal))
    (hits_at W x y 0 r t) (hits_at W x y 1 r t)

theorem product_at (l : FVec Ideal S2x2x672x1024 .f32) (v : FVec Ideal S2x1024x1024 .f32) (x y : Fin 2) (r : Fin 672) (d : Fin 1024) :
    (Host.dotGeneral dot_S2x2x672x1024_S2x1024x1024_S2x2x672x1024_3_1_12_2_0_0 none l v (ix4 (n0 := 2) (n1 := 2) (n2 := 672) (n3 := 1024) x y r d) : EReal)
      = ∑ t : Fin 1024, (l (ix4 (n0 := 2) (n1 := 2) (n2 := 672) (n3 := 1024) x y r t) * v (ix3 (n0 := 2) (n1 := 1024) (n2 := 1024) x t d) : EReal) := by
  show Ideal.matmul dot_S2x2x672x1024_S2x1024x1024_S2x2x672x1024_3_1_12_2_0_0 l v (fun _ => (0 : EReal)) _ = _
  rw [Ideal.matmul_apply₁_of _ (a := 3) (K := 1024) rfl rfl _ _ _ _ (fun t => ix4 (n0 := 2) (n1 := 2) (n2 := 672) (n3 := 1024) x y r t)
    (fun t => ix3 (n0 := 2) (n1 := 1024) (n2 := 1024) x t d)]
  · exact zero_add _
  · intro k; funext a; fin_cases a <;> rfl
  · intro k; funext a; fin_cases a <;> rfl

theorem ofOwn_at (x y : Fin 2) (r : Fin 672) (d : Fin 1024) : (ofOwn S X (ix4 (n0 := 2) (n1 := 2) (n2 := 672) (n3 := 1024) x y r d) : EReal)
    = ∑ t : Fin 1024, (S (selectAt x y r t) * X (tokenAt x t d) : EReal) := by
  unfold ofOwn
  rw [product_at]
  refine Finset.sum_congr rfl fun t _ => congrArg₂ (fun a b : EReal => a * b) (shapeCast_apply S _ _ _ ?_) (shapeCast_apply X _ _ _ ?_)
  · rw [Shape.rowMajor_val_two, Shape.rowMajor_val_four]
    show (672 * (2 * x.val + y.val) + r.val) * 1024 + t.val = ((x.val * 2 + y.val) * 672 + r.val) * 1024 + t.val
    omega
  · rw [Shape.rowMajor_val_two, Shape.rowMajor_val_three]
    show (1024 * x.val + t.val) * 1024 + d.val = (x.val * 1024 + t.val) * 1024 + d.val
    omega

theorem ofOther_at (x y : Fin 2) (r : Fin 672) (d : Fin 1024) : (ofOther W B (ix4 (n0 := 2) (n1 := 2) (n2 := 672) (n3 := 1024) x y r d) : EReal)
    = ∑ t : Fin 1024, (chosen W (firstOf x y) x.rev r t * B (tokenAt x.rev t d) : EReal) := by
  unfold ofOther
  rw [product_at]
  exact Finset.sum_congr rfl fun t _ => congrArg₂ (fun a b : EReal => a * b) (picked_at W x y r t) (otherTokens_at B x t d)

/-! ## The results at an index -/

/-- Row `a` of half `x` of the first result is the other half's; -/
theorem tables_at (x : Fin 2) (a : Fin 8) (t : Fin 1024) : tables W (tableAt x a t) = W (tableAt x.rev a t) := by
  unfold tables
  refine (shapeCast_apply (other W) _ _ (ix3 (n0 := 2) (n1 := 8) (n2 := 1024) x a t) ?_).trans (other_at W x a t)
  rw [Shape.rowMajor_val_two, Shape.rowMajor_val_three]
  show (x.val * 8 + a.val) * 1024 + t.val = (8 * x.val + a.val) * 1024 + t.val
  omega

/-- Row `q` of the first or second half of expert `e` of the device at `(x, y)`. -/
def bufferAt (x y : Fin 2) (e : Fin 4) (h : Bool) (q : Fin 168) (d : Fin 1024) : S16x336x1024.Idx :=
  ix3 (n0 := 16) (n1 := 336) (n2 := 1024) ⟨4 * (2 * x.val + y.val) + e.val, by omega⟩ ⟨168 * h.toNat + q.val, by have := h.toNat_le; omega⟩ d
/-- A device's row `q` of expert `e`. -/
def rowIn (e : Fin 4) (q : Fin 168) : Fin 672 := ⟨168 * e.val + q.val, by omega⟩

theorem cast_at (v : FVec Ideal S2x2x672x1024 .f32) (x y : Fin 2) (e : Fin 4) (q : Fin 168) (d : Fin 1024) :
    shapeCast S16x168x1024 v shapeCasts_S2x2x672x1024_S16x168x1024 (ix3 (n0 := 16) (n1 := 168) (n2 := 1024) ⟨4 * (2 * x.val + y.val) + e.val, by omega⟩ q d)
      = v (ix4 (n0 := 2) (n1 := 2) (n2 := 672) (n3 := 1024) x y (rowIn e q) d) := by
  refine shapeCast_apply v _ _ _ ?_
  rw [Shape.rowMajor_val_three, Shape.rowMajor_val_four]
  show ((x.val * 2 + y.val) * 672 + (168 * e.val + q.val)) * 1024 + d.val = ((4 * (2 * x.val + y.val) + e.val) * 168 + q.val) * 1024 + d.val
  omega

/-- the first half of an expert's buffer is the product of the given selection; -/
theorem buffers_first (x y : Fin 2) (e : Fin 4) (q : Fin 168) (d : Fin 1024) : (buffers W B S X (bufferAt x y e false q d) : EReal)
    = ∑ t : Fin 1024, (S (selectAt x y (rowIn e q) t) * X (tokenAt x t d) : EReal) := by
  unfold buffers
  refine (concatenate_pair_apply_left (t := S16x336x1024) (s₁ := S16x168x1024) (s₂ := S16x168x1024) (1 : Fin 3) _ _ _ _ rfl (ix3 (n0 := 16) (n1 := 168) (n2 := 1024) ⟨4 * (2 * x.val + y.val) + e.val, by omega⟩ q d)
    fun b => ?_).trans ((cast_at _ x y e q d).trans (ofOwn_at S X x y _ d))
  fin_cases b
  · rfl
  · show q.val = 168 * 0 + q.val; omega
  · rfl

/-- the second half is that of the selection the other half's table describes. -/
theorem buffers_second (x y : Fin 2) (e : Fin 4) (q : Fin 168) (d : Fin 1024) : (buffers W B S X (bufferAt x y e true q d) : EReal)
    = ∑ t : Fin 1024, (chosen W (firstOf x y) x.rev (rowIn e q) t * B (tokenAt x.rev t d) : EReal) := by
  unfold buffers
  refine (concatenate_pair_apply_right (t := S16x336x1024) (s₁ := S16x168x1024) (s₂ := S16x168x1024) (1 : Fin 3) _ _ _ _ rfl rfl (ix3 (n0 := 16) (n1 := 168) (n2 := 1024) ⟨4 * (2 * x.val + y.val) + e.val, by omega⟩ q d)
    (fun b hb => ?_) ?_).trans ((cast_at _ x y e q d).trans (ofOther_at W B x y _ d))
  · fin_cases b
    · rfl
    · exact absurd rfl hb
    · rfl
  · show q.val + 168 = 168 * 1 + q.val; omega

end Cert.Dispatching

end
-- ==== Proof.ExchangeValue.lean ====
/-
# What the exchange computes

With exact arithmetic, each device's results are its part of the dispatch reference's: the neighbour's table, and for each
of its experts the two products the reference puts into that expert's buffer.
-/
module

public import proofs.«01_k».proof.Proof.ExchangeRun
public import proofs.«01_k».proof.Proof.DispatchValue
public import Idealize.ShloMosaic.Lib.Layout
public import Idealize.ShloMosaic.Lib.KernelVsHost

@[expose] public section

noncomputable section

namespace Cert.Swap

open Idealize.ShloMosaic
open Idealize.ShloMosaic.TcCoe
open Cert.ExchangeIdeal Cert.ExchangeIdeal.Gen Cert.Meeting Cert.Dispatching

/-! ## How the arrays are cut -/

theorem tiles_table : Layout.TilesN ⟨2, ![8, 1024]⟩ ⟨2, ![16, 1024]⟩ (fun b => Layout.cutSize [2, 2] ((![[0], []] : Fin 2 → List ℕ) b)) := by decide
theorem tiles_tokens : Layout.TilesN ⟨2, ![1024, 1024]⟩ ⟨2, ![2048, 1024]⟩ (fun b => Layout.cutSize [2, 2] ((![[0], []] : Fin 2 → List ℕ) b)) := by decide
theorem axes_rows : ∀ b, ∀ i ∈ (![[0], []] : Fin 2 → List ℕ) b, 0 < ([2, 2] : List ℕ).getD i 0 := by decide
theorem tiles_select : Layout.Tiles ⟨2, ![672, 1024]⟩ ⟨2, ![2688, 1024]⟩ 0 4 := by decide
theorem tiles_buffers : Layout.Tiles ⟨3, ![4, 336, 1024]⟩ ⟨3, ![16, 336, 1024]⟩ 0 4 := by decide

abbrev gridRow (c : Dev nD) : Fin 2 := ⟨c.val / 2, by have : c.val < 4 := c.isLt; omega⟩
abbrev gridCol (c : Dev nD) : Fin 2 := ⟨c.val % 2, by omega⟩

theorem gridRow_across : ∀ c : Dev nD, gridRow (across c) = (gridRow c).rev := by decide
theorem mesh_rows : ∀ c : Dev nD, ((Layout.meshBlock [2, 2] ![[0], []] c axes_rows : (b : Fin 2) → _) (0 : Fin 2)).val = c.val / 2 := by decide
theorem mesh_cols : ∀ c : Dev nD, ((Layout.meshBlock [2, 2] ![[0], []] c axes_rows : (b : Fin 2) → _) (1 : Fin 2)).val = 0 := by decide
theorem base_eq : ∀ c : Dev nD, base c = firstOf (gridRow c) (gridCol c) := by decide

/-- A device's entry of an array cut by rows, in the whole array. -/
theorem table_at (W : FVec Ideal Cert.DispatchIdeal.S16x1024 .f32) (c : Dev nD) (a : Fin 8) (t : Fin 1024) :
    Layout.blockN ⟨2, ![8, 1024]⟩ ⟨2, ![16, 1024]⟩ (Layout.meshBlock [2, 2] ![[0], []] c axes_rows) W tiles_table (ix2 (n0 := 8) (n1 := 1024) a t)
      = W (tableAt (gridRow c) a t) := by
  rw [Layout.blockN_apply]
  refine congrArg W (funext fun b => Fin.ext ?_)
  rw [Layout.TilesN.idx_val]
  fin_cases b
  · show ((Layout.meshBlock [2, 2] ![[0], []] c axes_rows : (b : Fin 2) → _) (0 : Fin 2)).val * 8 + a.val = 8 * (c.val / 2) + a.val
    rw [mesh_rows]; omega
  · show ((Layout.meshBlock [2, 2] ![[0], []] c axes_rows : (b : Fin 2) → _) (1 : Fin 2)).val * 1024 + t.val = t.val
    rw [mesh_cols]; omega
theorem token_at {φ : FTy} (W : FVec Ideal Cert.DispatchIdeal.S2048x1024 φ) (c : Dev nD) (t d : Fin 1024) :
    Layout.blockN ⟨2, ![1024, 1024]⟩ ⟨2, ![2048, 1024]⟩ (Layout.meshBlock [2, 2] ![[0], []] c axes_rows) W tiles_tokens (ix2 (n0 := 1024) (n1 := 1024) t d)
      = W (tokenAt (gridRow c) t d) := by
  rw [Layout.blockN_apply]
  refine congrArg W (funext fun b => Fin.ext ?_)
  rw [Layout.TilesN.idx_val]
  fin_cases b
  · show ((Layout.meshBlock [2, 2] ![[0], []] c axes_rows : (b : Fin 2) → _) (0 : Fin 2)).val * 1024 + t.val = 1024 * (c.val / 2) + t.val
    rw [mesh_rows]; omega
  · show ((Layout.meshBlock [2, 2] ![[0], []] c axes_rows : (b : Fin 2) → _) (1 : Fin 2)).val * 1024 + d.val = d.val
    rw [mesh_cols]; omega
theorem select_at (S : FVec Ideal Cert.DispatchIdeal.S2688x1024 .f32) (c : Dev nD) (r : Fin 672) (t : Fin 1024) :
    Layout.block ⟨2, ![672, 1024]⟩ ⟨2, ![2688, 1024]⟩ 0 4 c S tiles_select (ix2 (n0 := 672) (n1 := 1024) r t)
      = S (selectAt (gridRow c) (gridCol c) r t) := by
  rw [Layout.block_apply]
  refine congrArg S (funext fun b => Fin.ext ?_)
  rw [Layout.Tiles.idx_val]
  fin_cases b
  · show c.val * 672 + r.val = 672 * (2 * (c.val / 2) + c.val % 2) + r.val
    omega
  · rfl

/-! ## The selection a table describes -/

/-- No row is the one past the last, so a token is marked in exactly the row it goes to. -/
theorem reach (b e p : BitVec 32) (r : Fin 672) :
    IntOp.cmpi .eq (BitVec.ofNat 32 r.val) (Scalar.select (IntOp.andi (IntOp.andi (IntOp.cmpi .sge (IntOp.subi e b) 0#32) (IntOp.cmpi .slt (IntOp.subi e b) 4#32))
        (IntOp.cmpi .slt p 168#32)) (IntOp.addi (IntOp.muli (IntOp.subi e b) 168#32) p) 672#32)
      = hit b e p (BitVec.ofNat 32 r.val) := by
  unfold hit
  generalize IntOp.andi (IntOp.andi (IntOp.cmpi .sge (IntOp.subi e b) 0#32) (IntOp.cmpi .slt (IntOp.subi e b) 4#32)) (IntOp.cmpi .slt p 168#32) = g
  generalize IntOp.addi (IntOp.muli (IntOp.subi e b) 168#32) p = w
  have hne : (BitVec.ofNat 32 r.val == 672#32) = false := by
    refine beq_eq_false_iff_ne.mpr fun h => ?_
    have := congrArg BitVec.toNat h
    simp only [BitVec.toNat_ofNat] at this
    omega
  have hg : g = 0#1 ∨ g = 1#1 := by revert g; decide
  rcases hg with rfl | rfl
  · show BitVec.ofBool (BitVec.ofNat 32 r.val == 672#32) = 0#1 &&& _
    rw [hne]; simp
  · show BitVec.ofBool (BitVec.ofNat 32 r.val == w) = 1#1 &&& BitVec.ofBool (w == BitVec.ofNat 32 r.val)
    rw [BEq.comm]
    generalize BitVec.ofBool _ = q
    revert q; decide

theorem row_at (t : FVec Ideal S8x1024 .f32) (r : Fin 4) (k : Fin 1024) : tableRow t r (ix2 (n0 := 1) (n1 := 1024) 0 k)
    = FloatOps.fptosi (F := Ideal) 32 (t (ix2 (n0 := 8) (n1 := 1024) ⟨r.val, by omega⟩ k)) := by
  refine congrArg (FloatOps.fptosi (F := Ideal) 32) (extractStridedSlice_apply _ _ _ _ _ fun a => ?_)
  fin_cases a
  · show r.val = r.val + 0; omega
  · show k.val = 0 + k.val; omega

theorem marks_at (b : BitVec 32) (e p : IVec S1x1024 32) (r : Fin 672) (k : Fin 1024) :
    marks (F := Ideal) (goesTo b e p) (ix2 (n0 := 672) (n1 := 1024) r k)
      = mark b (e (ix2 (n0 := 1) (n1 := 1024) 0 k)) (p (ix2 (n0 := 1) (n1 := 1024) 0 k)) (BitVec.ofNat 32 r.val) := by
  unfold marks
  rw [sitofp_extui_eq_uitofp]
  refine congrArg (FloatOps.uitofp (F := Ideal) .f32) ?_
  show IntOp.cmpi .eq (iota .tc S672x1024 32 [0] _ _) (broadcastTo S672x1024 _ _ _) = _
  rw [iota_single_apply, broadcastTo_apply _ _ _ (ix2 (n0 := 1) (n1 := 1024) 0 k) (fun a => by fin_cases a <;> rfl)]
  exact reach b _ _ r

theorem selection_at (b : BitVec 32) (t : FVec Ideal S8x1024 .f32) (W : FVec Ideal Cert.DispatchIdeal.S16x1024 .f32) (h : Fin 2)
    (ht : ∀ (a : Fin 8) (k : Fin 1024), t (ix2 (n0 := 8) (n1 := 1024) a k) = W (tableAt h a k)) (r : Fin 672) (k : Fin 1024) :
    (selection b t (ix2 (n0 := 672) (n1 := 1024) r k) : EReal) = chosen W b h r k := by
  show (((Scalar.ofBits .f32 0x00000000#32 : Ideal .f32) : EReal) + marks (F := Ideal) (goesTo b _ _) _ + marks (F := Ideal) (goesTo b _ _) _ : EReal) = _
  rw [show ((Scalar.ofBits .f32 0x00000000#32 : Ideal .f32) : EReal) = 0 from Ideal.ofBits_zero_f32, zero_add, marks_at, marks_at, row_at, row_at, row_at, row_at,
    ht, ht, ht, ht]
  rfl

/-! ## The products -/

theorem product_at (s : FVec Ideal S672x1024 .f32) (x : FVec Ideal S1024x1024 .f32) (r : Fin 672) (d : Fin 1024) :
    (product s x (ix2 (n0 := 672) (n1 := 1024) r d) : EReal)
      = ∑ t : Fin 1024, (s (ix2 (n0 := 672) (n1 := 1024) r t) * x (ix2 (n0 := 1024) (n1 := 1024) t d) : EReal) := by
  show Ideal.matmul dot_S672x1024_S1024x1024_S672x1024_1_0_0_1_n_n s x _ _ = _
  rw [Ideal.matmul_apply₁_of _ (a := 1) (K := 1024) rfl rfl _ _ _ _ (fun t => ix2 (n0 := 672) (n1 := 1024) r t) (fun t => ix2 (n0 := 1024) (n1 := 1024) t d)]
  · rw [show (constant (F := Ideal) S672x1024 .f32 0x00000000#32) (ix2 (n0 := 672) (n1 := 1024) r d) = (0 : EReal) from Ideal.ofBits_zero_f32]
    exact zero_add _
  · intro k; funext a; fin_cases a <;> rfl
  · intro k; funext a; fin_cases a <;> rfl

theorem rows_at (v : FVec Ideal S672x1024 .f32) (e : Fin 4) (q : Fin 168) (d : Fin 1024) :
    rowsOf v e (ix3 (n0 := 1) (n1 := 168) (n2 := 1024) 0 q d) = v (ix2 (n0 := 672) (n1 := 1024) (rowIn e q) d) := by
  refine (shapeCast_apply _ _ _ (ix2 (n0 := 168) (n1 := 1024) q d) ?_).trans (extractStridedSlice_apply _ _ _ _ _ fun a => ?_)
  · rw [Shape.rowMajor_val_two, Shape.rowMajor_val_three]
    show q.val * 1024 + d.val = (0 * 168 + q.val) * 1024 + d.val
    omega
  · fin_cases a
    · show 168 * e.val + q.val = 168 * e.val + q.val; rfl
    · show d.val = 0 + d.val; omega

theorem allTab_emb (i : S8x1024.Idx) : allTab.emb i = i := funext fun a => Fin.ext (by
  rw [Rect.emb_apply]; fin_cases a <;> · show 0 + 1 * _ = _; rw [zero_add, one_mul])
theorem allSel_emb (i : S672x1024.Idx) : allSel.emb i = i := funext fun a => Fin.ext (by
  rw [Rect.emb_apply]; fin_cases a <;> · show 0 + 1 * _ = _; rw [zero_add, one_mul])
theorem allTok_emb (i : S1024x1024.Idx) : allTok.emb i = i := funext fun a => Fin.ext (by
  rw [Rect.emb_apply]; fin_cases a <;> · show 0 + 1 * _ = _; rw [zero_add, one_mul])

/-! ## The results -/

section Results

variable (A : Given Ideal) (W : FVec Ideal Cert.DispatchIdeal.S16x1024 .f32) (B : FVec Ideal Cert.DispatchIdeal.S2048x1024 .bf16)
  (S : FVec Ideal Cert.DispatchIdeal.S2688x1024 .f32) (X : FVec Ideal Cert.DispatchIdeal.S2048x1024 .f32)
  (hW : ∀ c, A.table c = Layout.blockN ⟨2, ![8, 1024]⟩ ⟨2, ![16, 1024]⟩ (Layout.meshBlock [2, 2] ![[0], []] c axes_rows) W tiles_table)
  (hB : ∀ c, A.narrow c = Layout.blockN ⟨2, ![1024, 1024]⟩ ⟨2, ![2048, 1024]⟩ (Layout.meshBlock [2, 2] ![[0], []] c axes_rows) B tiles_tokens)
  (hS : ∀ c, A.select c = Layout.block ⟨2, ![672, 1024]⟩ ⟨2, ![2688, 1024]⟩ 0 4 c S tiles_select)
  (hX : ∀ c, A.tokens c = Layout.blockN ⟨2, ![1024, 1024]⟩ ⟨2, ![2048, 1024]⟩ (Layout.meshBlock [2, 2] ![[0], []] c axes_rows) X tiles_tokens)

include hS hX in
theorem own_at (c : Dev nD) (r : Fin 672) (d : Fin 1024) : (own A c (ix2 (n0 := 672) (n1 := 1024) r d) : EReal)
    = ∑ t : Fin 1024, (S (selectAt (gridRow c) (gridCol c) r t) * X (tokenAt (gridRow c) t d) : EReal) := by
  unfold own ownOf
  rw [product_at]
  refine Finset.sum_congr rfl fun t _ => ?_
  rw [shapeCast_self, shapeCast_self, allSel_emb, allTok_emb, hS, hX, select_at, token_at]

include hW hB in
theorem come_at (c : Dev nD) (r : Fin 672) (d : Fin 1024) : (come A c (ix2 (n0 := 672) (n1 := 1024) r d) : EReal)
    = ∑ t : Fin 1024, (chosen W (firstOf (gridRow c) (gridCol c)) (gridRow c).rev r t * B (tokenAt (gridRow c).rev t d) : EReal) := by
  unfold come comeOf
  rw [product_at]
  refine Finset.sum_congr rfl fun t _ => congrArg₂ (fun a b : EReal => a * b) ?_ ?_
  · rw [base_eq]
    refine selection_at _ _ W _ (fun a k => ?_) r t
    rw [shapeCast_self, allTab_emb, hW, table_at, gridRow_across]
  · show (A.narrow (across c) (allTok.emb _) : EReal) = _
    rw [allTok_emb, hB, token_at, gridRow_across]

include hW in
/-- The first result: each device has the rows its neighbour was given. -/
theorem table_result (c : Dev nD) : A.table (across c)
    = Layout.blockN ⟨2, ![8, 1024]⟩ ⟨2, ![16, 1024]⟩ (Layout.meshBlock [2, 2] ![[0], []] c axes_rows) (tables W) tiles_table := by
  funext i
  obtain ⟨a, t, rfl⟩ : ∃ (a : Fin 8) (t : Fin 1024), i = ix2 (n0 := 8) (n1 := 1024) a t :=
    ⟨i (0 : Fin 2), i (1 : Fin 2), funext fun b => by fin_cases b <;> rfl⟩
  rw [hW, table_at, table_at, tables_at, gridRow_across]

include hW hB hS hX in
/-- The second: each device has its experts' buffers. -/
theorem buffers_result (c : Dev nD) : result A c
    = Layout.block ⟨3, ![4, 336, 1024]⟩ ⟨3, ![16, 336, 1024]⟩ 0 4 c (buffers W B S X) tiles_buffers := by
  funext i
  have h0 : (i (0 : Fin 3)).val < 4 := (i (0 : Fin 3)).isLt
  have h1 : (i (1 : Fin 3)).val < 336 := (i (1 : Fin 3)).isLt
  have hc : c.val < 4 := c.isLt
  let e : Fin 4 := i (0 : Fin 3)
  let d : Fin 1024 := i (2 : Fin 3)
  obtain ⟨h, q, hq⟩ : ∃ (h : Bool) (q : Fin 168), (i (1 : Fin 3)).val = 168 * h.toNat + q.val := by
    by_cases hlt : (i (1 : Fin 3)).val < 168
    · exact ⟨false, ⟨_, hlt⟩, by show (i (1 : Fin 3)).val = 168 * 0 + (i (1 : Fin 3)).val; omega⟩
    · exact ⟨true, ⟨(i (1 : Fin 3)).val - 168, by omega⟩, by show (i (1 : Fin 3)).val = 168 * 1 + ((i (1 : Fin 3)).val - 168); omega⟩
  have hi : (slots (h, e)).emb (ix3 (n0 := 1) (n1 := 168) (n2 := 1024) 0 q d) = i := funext fun b => Fin.ext (by
    rw [Rect.emb_apply]
    fin_cases b
    · show (i (0 : Fin 3)).val + 1 * 0 = (i (0 : Fin 3)).val; omega
    · show 168 * h.toNat + 1 * q.val = (i (1 : Fin 3)).val; omega
    · show 0 + 1 * (i (2 : Fin 3)).val = (i (2 : Fin 3)).val; omega)
  have hl : result A c i = filled A c (h, e) (ix3 (n0 := 1) (n1 := 168) (n2 := 1024) 0 q d) := by
    rw [← hi]; exact Rect.glue_emb slots slots_cover slots_apart (filled A c) (h, e) _
  have hr : Layout.block ⟨3, ![4, 336, 1024]⟩ ⟨3, ![16, 336, 1024]⟩ 0 4 c (buffers W B S X) tiles_buffers i
      = buffers W B S X (bufferAt (gridRow c) (gridCol c) e h q d) := by
    rw [Layout.block_apply]
    refine congrArg (buffers W B S X) (funext fun b => Fin.ext ?_)
    rw [Layout.Tiles.idx_val]
    fin_cases b
    · show c.val * 4 + (i (0 : Fin 3)).val = 4 * (2 * (c.val / 2) + c.val % 2) + (i (0 : Fin 3)).val
      omega
    · exact hq
    · rfl
  rw [hl, hr]
  cases h
  · exact (rows_at (own A c) e q d).trans ((own_at A S X hS hX c _ d).trans (buffers_first W B S X _ _ e q d).symm)
  · exact (rows_at (come A c) e q d).trans ((come_at A W B hW hB c _ d).trans (buffers_second W B S X _ _ e q d).symm)

end Results

end Cert.Swap

end
-- ==== Proof.GatherBody.lean ====
/-
# The gathering kernel on one device

A device signals its neighbour across `x` and waits for that neighbour's signal. It stores its own rows at their place in
its result and copies them to the same place of the neighbour's result, whose rows it gets in the same way.

Its cells: the barrier, the sending and the receiving semaphore. Signalling the neighbour's barrier hands the neighbour the
rows of the result it will copy into; the copy's arrival hands them back at what was sent, and its leaving gives the sender
its argument back.
-/
module

public import proofs.«01_k».proof.Proof.Steps
public import proofs.«01_k».proof.Proof.Gen.GatherIdeal.Skeleton

@[expose] public section

noncomputable section

namespace Cert.Gathering

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.GatherIdeal Cert.GatherIdeal.Gen Cert.Meeting

variable {F : FTy → Type} [FloatOps F]

local notation "𝕄" => MT nD τ sig Unit (Elt F) ℕ (UU nD τ sig) ℕ

/-! ## The program -/

/-- The device's rows, and the result. -/
abbrev rowM : Memref sig .tc .vmem S8x1024 .f32 := Memref.whole cc0_stg0_0
abbrev outM : Memref sig .tc .vmem S16x1024 .f32 := Memref.whole cc0_stg1_0

abbrev allRows : Rect S8x1024 := Rect.unit (s := S8x1024) ![0, 0] S8x1024.size inb_S8x1024_S8x1024_0_0
/-- The place of the rows of device `d` in a result. -/
abbrev place (d : Dev nD) : Rect S16x1024 := Rect.unit (s := S16x1024) (k0_off2 d) S8x1024.size (k0_off2_inb d)
abbrev outAt (d : Dev nD) : Memref sig .tc .vmem S8x1024 .f32 := outM.slice (place d) (fun _ => rfl)

abbrev barS : Sem sig := (SemArray.scalar (sig.barrier 0 rfl) : Sems sig S_).sem

abbrev EffT (F : FTy → Type) : Type → Type := TpuEff nD τ sig (Elt F) Λ₀ .tc

/-- What one device does. -/
def flow (c : Dev nD) : Prog (EffT F) PUnit :=
  .op (.semSignal (Dev.tc (⟨k0_dev1 c, k0_dev1_lt c⟩ : Dev nD)) barS 1) fun _ =>
  .op (.semWait barS 1) fun _ =>
  .op (.load rowM allRows.toLoadRect (View.loadsAt_vmem h_S8x1024)) fun v =>
  .op (.load outM (place c).toLoadRect (View.loadsAt_vmem h_S8x1024)) fun _ =>
  .op (.store outM (place c) (shapeCast S8x1024 v shapeCasts_S8x1024_S8x1024) Finset.univ (View.stores_vmem_bits_univ h_S8x1024 rfl) (.inl rfl)) fun _ =>
  .op (.enqueueDma rowM (.remote (Dev.tc (⟨k0_dev2 c, k0_dev2_lt c⟩ : Dev nD)) (outAt c) (.dma cc0_scratch0.sem)) (.dma cc0_scratch1.sem)
    (Memref.isWhole_whole cc0_stg0_0).wordExact (View.wordExact_bits rfl) ⟨⟨rfl, Or.inl rfl⟩, trivial⟩) fun _ =>
  .op (.waitDma2 cc0_scratch0.sem (outAt c) rowM (View.wordExact_bits rfl) (Memref.isWhole_whole cc0_stg0_0).wordExact) fun _ =>
  .op (.waitDma2 cc0_scratch1.sem rowM (outAt c) (Memref.isWhole_whole cc0_stg0_0).wordExact (View.wordExact_bits rfl)) fun _ =>
  .ret ⟨⟩

set_option maxRecDepth 65536 in
/-- The printed kernel is this. -/
theorem body_eq_flow : cc0__rag_body (F := F) rowM (Memref.isWhole_whole _) outM (Memref.isWhole_whole _) cc0_scratch0 cc0_scratch1
    = .op .deviceId flow := by
  rfl

/-! ## The plan -/

theorem across_lt : ∀ c : Dev nD, ((c.val % 2) + 2) - 2 * (c.val / 2) < nD := by decide
/-- The neighbour across `x`. -/
def across : Dev nD ≃ Dev nD :=
  Function.Involutive.toPerm (fun c => (⟨((c.val % 2) + 2) - 2 * (c.val / 2), across_lt c⟩ : Dev nD)) (by unfold Function.Involutive; decide)

theorem across_twice (c : Dev nD) : across (across c) = c := by revert c; decide
theorem across_val (c : Dev nD) : (across c).val = ((c.val % 2) + 2) - 2 * (c.val / 2) := rfl

theorem dev1_eq (c : Dev nD) : (⟨k0_dev1 c, k0_dev1_lt c⟩ : Dev nD) = across c := Fin.ext (k0_dev1_eq c)
theorem dev2_eq (c : Dev nD) : (⟨k0_dev2 c, k0_dev2_lt c⟩ : Dev nD) = across c := Fin.ext (k0_dev2_eq c)

/-- A device's own place in its result, and its neighbour's; -/
abbrev whose (c : Dev nD) (b : Bool) : Dev nD := if b then across c else c
abbrev places (c : Dev nD) (b : Bool) : Rect S16x1024 := place (whose c b)

theorem off_at (d : Dev nD) : k0_off2 d (0 : Fin 2) = 8 * (d.val / 2) := by rw [k0_off2_eq]; rfl
theorem off_at' (d : Dev nD) : k0_off2 d (1 : Fin 2) = 0 := by rw [k0_off2_eq]; rfl

/-- the two tile it. -/
theorem places_apart (c : Dev nD) (b b' : Bool) (h : b ≠ b') : Disjoint (places c b).set (places c b').set := by
  refine Rect.unit_disjoint (0 : Fin 2) ?_
  rw [off_at, off_at]
  show 8 * ((whose c b).val / 2) + 8 ≤ 8 * ((whose c b').val / 2) ∨ 8 * ((whose c b').val / 2) + 8 ≤ 8 * ((whose c b).val / 2)
  revert c b b'; decide

theorem places_half : ∀ (c : Dev nD) (h : Fin 2), ∃ b, (whose c b).val / 2 = h.val := by decide

theorem places_cover (c : Dev nD) : (Finset.univ : Finset Bool).biUnion (fun b => (places c b).set) = Finset.univ := by
  ext i
  simp only [Finset.mem_biUnion, Finset.mem_univ, true_and, iff_true]
  have h0 : (i (0 : Fin 2)).val < 16 := (i (0 : Fin 2)).isLt
  have h1 : (i (1 : Fin 2)).val < 1024 := (i (1 : Fin 2)).isLt
  obtain ⟨b, hb⟩ := places_half c ⟨(i (0 : Fin 2)).val / 8, by omega⟩
  refine ⟨b, Rect.mem_set_unit.mpr fun a => ?_⟩
  have hb : (whose c b).val / 2 = (i (0 : Fin 2)).val / 8 := hb
  fin_cases a
  · show k0_off2 (whose c b) (0 : Fin 2) ≤ (i (0 : Fin 2)).val ∧ (i (0 : Fin 2)).val < k0_off2 (whose c b) (0 : Fin 2) + 8
    rw [off_at]; omega
  · show k0_off2 (whose c b) (1 : Fin 2) ≤ (i (1 : Fin 2)).val ∧ (i (1 : Fin 2)).val < k0_off2 (whose c b) (1 : Fin 2) + 1024
    rw [off_at']; omega

/-- The cells: the barrier (`none`), the sending (`false`) and the receiving (`true`) semaphore. -/
abbrev Key : Type := Option Bool

def dmaAt (g : Bool) : DmaSem sig := if g then cc0_scratch1.sem else cc0_scratch0.sem
theorem dmaAt_val : ∀ g : Bool, (dmaAt g).val = 2 + g.toNat := by decide
theorem dmaAt_inj : ∀ a b : Bool, dmaAt a = dmaAt b → a = b := by decide

def semOf : Key → SemLoc sig
  | none => .reg barS
  | some g => .dma (dmaAt g)

theorem semOf_inj : Function.Injective semOf := by
  rintro (_ | g) (_ | g') h
  · rfl
  · exact absurd h (by unfold semOf; simp)
  · exact absurd h (by unfold semOf; simp)
  · have h1 : dmaAt g = dmaAt g' := by unfold semOf at h; simpa using h
    exact congrArg some (dmaAt_inj g g' h1)

/-- The units a copy brings. -/
def unit : ℕ := rowM.view.dmaCredit
theorem unit_pos : 0 < unit := View.dmaCredit_pos _ (by decide)
theorem credit_row : rowM.view.dmaCredit = unit := rfl
theorem credit_out (d : Dev nD) : (outAt d).view.dmaCredit = unit := rfl
theorem amount_out (d : Dev nD) (sm : DmaSem sig) : (outAt d).view.amount (.dma sm) = unit := rfl

def owedLate : Finset (Key × Bool) := {(some true, false)}

def plan : Meet nD sig Key where
  sem := semOf
  inj := semOf_inj
  duties _ := {false}
  amount k := match k with | none => 1 | some _ => unit
  pos k := match k with | none => Nat.one_pos | some _ => unit_pos
  level k := match k with | none => 1 | some g => if g then 2 else 0
  toward k _ := match k with
    | none => across
    | some g => if g then across else Equiv.refl _
  owed := insert (none, false) owedLate

theorem owedLate_eq : owedLate = insert (some true, false) ∅ := rfl
theorem above_bar : ∀ x ∈ owedLate, plan.level none < plan.level x.1 := by decide
theorem above_all (k : Key) : ∀ x ∈ (∅ : Finset (Key × Bool)), plan.level k < plan.level x.1 := fun x hx => absurd hx (Finset.notMem_empty _)

variable (R : Dev nD → Vec F S8x1024 .f32)

/-- What a device stores in its own place, and what its result is at the end. -/
def mine (c : Dev nD) : FVec F S8x1024 .f32 := shapeCast S8x1024 (fun i => R c (allRows.emb i)) shapeCasts_S8x1024_S8x1024
def parts (c : Dev nD) (b : Bool) : FVec F S8x1024 .f32 := if b then R (across c) else mine R c
def result (c : Dev nD) : Vec F S16x1024 .f32 := Rect.glue (places c) (places_cover c) (parts R c)

/-- What paying each duty hands the cell's owner `c`. -/
def hand (c : Dev nD) (k : Key) (_ : Bool) : sProp 𝕄 := match k with
  | none => iprop(∃ Y, owns (across c : Thread nD τ) (outAt c) fullShare Y)
  | some false => owns (c : Thread nD τ) rowM fullShare (R c)
  | some true => owns (c : Thread nD τ) (outAt (across c)) fullShare (R (across c))

instance hand_storable (c : Dev nD) (k : Key) (d : Bool) : BI.Storable (upEmb : UEmb _ 𝕄) (hand R c k d) := by
  unfold hand
  rcases k with _ | _ | _ <;> (dsimp only; infer_instance)

/-! ## The run -/

variable {defs : Defs nD τ sig (Elt F) Λ₀} (𝒱 : Variants)

abbrev right (c : Dev nD) (k : Key) : sProp 𝕄 := dutyTok ER (plan.cell τ c k) 0 false

/-- Families over the cells, cell by cell; -/
theorem over_keys (Φ : Key → sProp 𝕄) : bigSep Finset.univ Φ = iprop(Φ none ∗ Φ (some false) ∗ Φ (some true)) := by
  rw [bigSep_maybe, bigSep_pair]

/-- over what is owed from the start; -/
theorem over_owed (Φ : Key × Bool → sProp 𝕄) : bigSep plan.owed Φ = iprop(Φ (none, false) ∗ Φ (some true, false)) := by
  rw [show plan.owed = insert (none, false) owedLate from rfl, bigSep_insert (by decide)]
  unfold owedLate
  rw [bigSep_singleton]
  rfl

/-- the rights a device uses. -/
theorem rights_used (c : Dev nD) : (plan.rights τ c : sProp 𝕄)
    ⊢ iprop(right (across c) none ∗ right c (some false) ∗ right (across c) (some true)) := by
  unfold Meet.rights
  rw [bigSep_univ_prod (fun x : Key × Bool => (dutyTok ER (plan.cell τ (plan.toward x.1 x.2 c) x.1) 0 x.2 : sProp 𝕄)), over_keys]
  simp only [bigSep_pair]
  iintro ⟨⟨H1, -⟩, ⟨H2, -⟩, ⟨H3, -⟩⟩
  isplitl [H1]; · iexact H1
  isplitl [H2]; · iexact H2
  iexact H3

/-- The result, place by place; -/
theorem out_apart (c : Dev nD) : (iprop(∃ X, owns (c : Thread nD τ) outM fullShare X) : sProp 𝕄)
    ⊢ iprop((∃ Y, owns (c : Thread nD τ) (outAt c) fullShare Y) ∗ ∃ Y, owns (c : Thread nD τ) (outAt (across c)) fullShare Y) := by
  iintro ⟨%X, H⟩
  ihave H := (apart outM c (places c) (fun _ _ => rfl) (places_apart c) (places_cover c) (X := X)) $$ H
  iapply (Entails.of_eq (bigSep_pair fun b : Bool =>
    (iprop(∃ Y, owns (c : Thread nD τ) (outM.slice (places c b) (fun _ => rfl)) fullShare Y) : sProp 𝕄)))
  iexact H

/-- and together again. -/
theorem out_together (c : Dev nD) :
    (iprop(owns (c : Thread nD τ) (outAt c) fullShare (mine R c) ∗ owns (c : Thread nD τ) (outAt (across c)) fullShare (R (across c))) : sProp 𝕄)
    ⊢ owns (c : Thread nD τ) outM fullShare (result R c) := by
  unfold result
  refine (Entails.of_eq ?_).trans (together (Val := Elt F) (e := .f32) (s := S16x1024) outM c (places c) (fun _ _ => rfl) (places_apart c) (places_cover c)
    (q := fullShare) (parts R c))
  rw [bigSep_pair]
  rfl

/-- What a device starts with, and what it ends with. -/
def runPre (c : Dev nD) : sProp 𝕄 :=
  iprop(plan.start (τ := τ) (hand R) c ∗ plan.owing τ (Elt F) plan.owed c
    ∗ owns (c : Thread nD τ) rowM fullShare (R c) ∗ (∃ X, owns (c : Thread nD τ) outM fullShare X))
def runPost (c : Dev nD) : sProp 𝕄 :=
  iprop((bigSep Finset.univ fun k : Key => semVal (plan.cell τ c k) 0) ∗ plan.owing τ (Elt F) ∅ c
    ∗ owns (c : Thread nD τ) rowM fullShare (R c) ∗ owns (c : Thread nD τ) outM fullShare (result R c))

theorem wp_flow (c : Dev nD) (Q : PUnit → sProp 𝕄) :
    iprop(runPre R c ∗ (runPost R c -∗ Q ⟨⟩)) ⊢ wp frame (wpE defs 𝒱 (c : Thread nD τ) none) Set.univ (flow c) Q := by
  unfold runPre Meet.start Meet.dealt Meet.places Meet.credits flow
  rw [over_keys, over_owed]
  iintro ⟨⟨⟨⟨%K, #HR, ⟨HaB, HaS, HaR⟩, Hrt⟩, ⟨HcB, HcR⟩, #Hl⟩, HO, Hr, Ho⟩, Hk⟩
  ihave Hrt := (rights_used c) $$ Hrt
  icases Hrt with ⟨HtB, HtS, HtR⟩
  ihave Ho := (out_apart c) $$ Ho
  icases Ho with ⟨⟨%Y, Ho⟩, Ho'⟩
  iapply (plan.wp_tell (hand R) 𝒱 K c _ (k := none) (d := false) (dev1_eq c) rfl rfl (Finset.mem_singleton_self _)
    (S' := owedLate) rfl (by decide)) $$ [HO HtB Ho']
  · isplitr; · iexact HR
    isplitl [HO]; · iexact HO
    isplitl [HtB]; · iexact HtB
    rw [show hand R (plan.toward none false c) none false
      = iprop(∃ Y, owns (across (across c) : Thread nD τ) (outAt (across c)) fullShare Y) from rfl, across_twice]
    iexact Ho'
  iintro HO
  iapply (plan.wp_meet (hand R) 𝒱 K c (k := none) (sm := .reg barS) rfl (k' := 1) (fun _ => rfl) rfl above_bar) $$ [HaB HcB HO]
  · isplitr; · iexact HR
    isplitl [HcB]; · iexact HcB
    isplitl [HO]; · iexact HO
    isplitr; · iexact Hl
    iexact HaB
  iintro ⟨HO, HaB, Hh⟩
  ihave Hh := (show (bigSep (plan.duties none) fun d => hand R c none d) ⊢ iprop(∃ Y, owns (across c : Thread nD τ) (outAt c) fullShare Y) from
    Entails.of_eq bigSep_singleton) $$ Hh
  iapply (wp_look 𝒱 rowM allRows c) $$ Hr; iintro Hr
  iapply (wp_peek 𝒱 outM (place c) (fun _ => rfl) c) $$ Ho; iintro Ho
  iapply (wp_put 𝒱 outM (place c) (fun _ => rfl) c) $$ Ho; iintro Ho
  iapply (plan.wp_ship_owned (hand R) 𝒱 K c _ (kS := some false) (kR := some true) (dS := false) (dR := false) (dev2_eq c) rfl rfl rfl
    (Finset.mem_singleton_self _) (Finset.mem_singleton_self _) owedLate_eq (by decide) (amount_out c _) rfl
    (q := fullShare) (X := R c) (BI.Entails.refl _)
    (by rw [show hand R (plan.toward (some true) false c) (some true) false
          = owns (across c : Thread nD τ) (outAt (across (across c))) fullShare (R (across (across c))) from rfl, across_twice]
        exact BI.Entails.refl _)) $$ [HO Hr Hh HtS HtR]
  · isplitr; · iexact HR
    isplitl [Hr]; · iexact Hr
    isplitl [Hh]; · iexact Hh
    isplitl [HO]; · iexact HO
    isplitl [HtS]; · iexact HtS
    iexact HtR
  iintro ⟨HcS, HO⟩
  iapply (plan.wp_meet_copy (hand R) 𝒱 K c (k := some false) (d := false) rfl rfl credit_row rfl (above_all _)) $$ [HaS HcS HO]
  · isplitr; · iexact HR
    isplitl [HcS]; · iexact HcS
    isplitl [HO]; · iexact HO
    isplitr; · iexact Hl
    iexact HaS
  iintro ⟨HO, HaS, Hr⟩
  ihave Hr := (show hand R c (some false) false ⊢ owns (c : Thread nD τ) rowM fullShare (R c) from BI.Entails.refl _) $$ Hr
  iapply (plan.wp_meet_copy (hand R) 𝒱 K c (k := some true) (d := false) rfl rfl (credit_out c) rfl (above_all _)) $$ [HaR HcR HO]
  · isplitr; · iexact HR
    isplitl [HcR]; · iexact HcR
    isplitl [HO]; · iexact HO
    isplitr; · iexact Hl
    iexact HaR
  iintro ⟨HO, HaR, Ho'⟩
  ihave Ho' := (show hand R c (some true) false ⊢ owns (c : Thread nD τ) (outAt (across c)) fullShare (R (across c)) from BI.Entails.refl _) $$ Ho'
  iapply (wp_fupd frame _ Set.univ)
  rw [wp_ret]
  imodintro
  imod (plan.closeAll (hand R) K c) $$ [HaB HaS HaR] with Hz
  · isplitr; · iexact HR
    rw [over_keys]
    isplitl [HaB]; · iexact HaB
    isplitl [HaS]; · iexact HaS
    iexact HaR
  imodintro
  iapply Hk
  unfold runPost
  isplitl [Hz]; · iexact Hz
  isplitl [HO]; · iexact HO
  isplitl [Hr]; · iexact Hr
  iapply (out_together R c)
  isplitl [Ho]; · iexact Ho
  iexact Ho'

end Cert.Gathering

end
-- ==== Proof.GatherRun.lean ====
/-
# The gathering kernel's launch

From any memory with zero counters, every device runs its part to the end: its result array holds `result`, its argument
is as it was, and every counter is zero again. For any float values.
-/
module

public import proofs.«01_k».proof.Proof.GatherBody
public import proofs.«01_k».proof.Proof.Gen.GatherIdeal.Launch
public import Idealize.ShloMosaic.Lib.Pipeline.CollectiveSegs

@[expose] public section

noncomputable section

namespace Cert.Gathering

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pipeline
open Cert.GatherIdeal Cert.GatherIdeal.Gen Cert.Meeting

variable {F : FTy → Type} [FloatOps F]

local notation "𝕄" => MT nD τ sig Unit (Elt F) ℕ (UU nD τ sig) ℕ

variable (m : (ℓ : Loc nD τ sig) → Buf (Elt F) ℓ) (ρ : Dev nD → PrngReg)

/-- The memory at the start; -/
abbrev s₀ : MemSt nD τ sig (Elt F) := ⟨m, fun _ => 0, ρ⟩
/-- each device's rows, as its kernel is given them. -/
def rows (c : Dev nD) : Vec F S8x1024 .f32 := (win0_0.blk t0_0).view.read (Elt F) (m ((c : Thread nD τ).loc main_arg0))

/-- The plan's counters. -/
def zeros (c : Dev nD) : sProp 𝕄 := bigSep Finset.univ fun k : Key => semVal (plan.cell τ c k) 0

/-- What the launch keeps of each device, before its kernel and after it. -/
def dats (_ : Fin 1) (c : Dev nD) : Dat τ (Elt F) Unit ℕ (UU nD τ sig) ℕ cfg0 c where
  A w := (s₀ m ρ).mem ((cfg0.win w).arr.view.loc (c : Thread nD τ))
  after w _ := match w with
    | ⟨0, _⟩ => rows m c
    | ⟨1, _⟩ => result (rows m) c
  Φ t := match t with
    | ⟨0, _⟩ => plan.start (τ := τ) (hand (rows m)) c
    | ⟨_ + 1, _⟩ => zeros c
  q _ := fullShare
  owed t := match t with
    | ⟨0, _⟩ => plan.dues τ plan.owed c
    | ⟨_ + 1, _⟩ => plan.dues τ ∅ c

/-! ## The kernel's obligation -/

abbrev 𝒱₀ : Variants := Variants.none

/-- What the launch hands the kernel, and what it takes back. -/
def bodyPre (c : Dev nD) : sProp 𝕄 :=
  iprop(plan.start (τ := τ) (hand (rows m)) c ∗ (dats m ρ 0 c).owesAt () t0_0.castSucc
    ∗ (∃ d, owns (c : Thread nD τ) rowM fullShare ((dats m ρ 0 c).before (0 : Fin 2) t0_0 d))
    ∗ (∃ d, owns (c : Thread nD τ) outM fullShare ((dats m ρ 0 c).before (1 : Fin 2) t0_0 d)))
def bodyPost (c : Dev nD) : sProp 𝕄 :=
  iprop(zeros c ∗ (dats m ρ 0 c).owesAt () t0_0.succ
    ∗ owns (c : Thread nD τ) rowM fullShare (rows m c) ∗ owns (c : Thread nD τ) outM fullShare (result (rows m) c))

theorem fetch_0 : (cfg0.win (0 : Fin 2)).fetch t0_0 = true := rfl

theorem body_run (c : Dev nD) : bodyPre m ρ c ⊢ wp frame (wpE (defs₀ (F := F)) 𝒱₀ (c : Thread nD τ) none) Set.univ (flow c) (fun _ => bodyPost m ρ c) := by
  have hx (d) : (dats m ρ 0 c).before (0 : Fin 2) t0_0 d = rows m c := by unfold Dat.before; rw [if_pos fetch_0]; rfl
  unfold bodyPre bodyPost zeros Dat.owesAt Pipeline.owesWithin
  rw [show (dats m ρ 0 c).owed t0_0.castSucc = plan.dues τ plan.owed c from rfl, show (dats m ρ 0 c).owed t0_0.succ = plan.dues τ ∅ c from rfl]
  simp only [hx]
  iintro ⟨Hst, ⟨%W, -, HO⟩, ⟨%d0, Hr⟩, ⟨%d1, Ho⟩⟩
  iapply (wp_flow (rows m) 𝒱₀ c (fun _ => _))
  unfold runPre runPost Meet.owing
  isplitl [Hst HO Hr Ho]
  · isplitl [Hst]; · iexact Hst
    isplitl [HO]; · iexists W; iexact HO
    isplitl [Hr]; · iexact Hr
    iexists _; iexact Ho
  iintro ⟨Hz, ⟨%W', HO⟩, Hr, Ho⟩
  isplitl [Hz]; · iexact Hz
  isplitl [HO]
  · iexists W'
    isplitr; · ipureintro; exact fun _ _ => Or.inl trivial
    iexact HO
  isplitl [Hr] <;> iassumption

set_option maxRecDepth 65536 in
theorem body_obligation (c : Dev nD) : BodyObligation (dats (F := F) m ρ 0 c) (defs₀ (F := F)) 𝒱₀ () Set.univ := fun t => by
  rw [fin_N0 t]
  rw [bigSep_W0, bigSep_W0]
  show bodyPre m ρ c ⊢ wp frame (wpE (defs₀ (F := F)) 𝒱₀ (c : Thread nD τ) none) Set.univ
    (cc0__rag_body (F := F) rowM (Memref.isWhole_whole _) outM (Memref.isWhole_whole _) cc0_scratch0 cc0_scratch1)
    (fun _ => bodyPost m ρ c)
  rw [body_eq_flow, wp_deviceId]
  exact body_run m ρ c

/-! ## The launch -/

/-- The kernel's own semaphores. -/
abbrev osem : Bool → SemLoc sig := fun gk => semOf (some gk)

theorem stage_lt : ∀ (w : Fin cfg0.W) (s : Fin (cfg0.spec w).nbuf), ((cfg0.spec w).sem s).val < 2 := by decide

theorem ownSemFacts : Pipeline.OwnSemFacts cfg0.spec osem where
  isScoped gk := by revert gk; decide
  inj a b h := Option.some.inj (semOf_inj h)
  disj gk w s h := by
    have h1 : dmaAt gk = (cfg0.spec w).sem s := by unfold osem semOf at h; simpa using h
    have h2 := congrArg Fin.val h1
    rw [dmaAt_val] at h2
    have h3 := stage_lt w s
    omega

theorem share_eq (c : Dev nD) (w : Fin cfg0.W) : (dats m ρ 0 c).share w = fullShare := by unfold Dat.share; split <;> rfl

theorem unscopedSems0_eq (c : Dev nD) : (unscopedSems0 c : sProp 𝕄) = semVal (plan.cell τ c none) 0 := by
  unfold unscopedSems0; rw [bigSep_eq_bigSepL_of_eq [SemLoc.reg barS] (by decide) (by decide)]; rfl

/-- All the counters of the plan: the barrier's and the kernel's own. -/
theorem zeros_eq (c : Dev nD) : (zeros c : sProp 𝕄)
    = iprop(unscopedSems0 c ∗ Pipeline.ownSems0 (Ix := Unit) (Name := ℕ) (U := UU nD τ sig) (Lvl := ℕ) (Val := Elt F) (τ := τ) osem c) := by
  unfold zeros Pipeline.ownSems0; rw [bigSep_maybe, unscopedSems0_eq]; rfl

def u₀ : UU nD τ sig :=
  (initOf (Pipeline.cells cfgs cellOf_inj) (Pipeline.launchToks cfgs cellOf_inj), initOf (plan.cells τ) (plan.toks τ))

theorem glob : (bigSep Finset.univ fun c => iprop(Pipeline.ownSems0 (Ix := Unit) (Name := ℕ) (U := UU nD τ sig) (Lvl := ℕ) (Val := Elt F) (τ := τ) osem c
        ∗ unscopedSems0 c ∗ plan.minted (τ := τ) (hand (rows m)) c) : sProp 𝕄)
    ⊢ |={Set.univ}=> bigSep Finset.univ (plan.dealt (τ := τ) (hand (rows m))) := by
  refine (bigSep_mono fun c _ => ?_).trans (plan.deal (hand (rows m)) (V := zeros) fun c => BI.Entails.refl _)
  show iprop(Pipeline.ownSems0 osem c ∗ unscopedSems0 c ∗ plan.minted (τ := τ) (hand (rows m)) c) ⊢ iprop(zeros c ∗ plan.minted (τ := τ) (hand (rows m)) c)
  rw [zeros_eq]
  iintro ⟨H1, H2, H3⟩
  isplitl [H1 H2]
  · isplitl [H2] <;> iassumption
  iexact H3

theorem start_intro (c : Dev nD) :
    iprop(Pipeline.unscopedRestP Pipeline.Prefetch.none cfg0.spec c (fun b => m ((c : Thread nD τ).loc b)) ∗ levAts Meet.levels plan.lev
        ∗ Pipeline.launchCred (plan.dues τ plan.owed) c ∗ prngReg c (ρ c) ∗ plan.dealt (τ := τ) (hand (rows m)) c)
      ⊢ |={Set.univ}=> iprop(plan.start (τ := τ) (hand (rows m)) c ∗ emp) := by
  iintro ⟨-, Hlev, Hcr, -, HG⟩
  ihave Hc := (plan.launch_credits c) $$ Hcr
  imodintro
  unfold Meet.start
  isplitl
  · isplitl [HG]; · iexact HG
    isplitl [Hc] <;> iassumption
  · iempintro

theorem phi0_intro (c : Dev nD) :
    iprop(plan.start (τ := τ) (hand (rows m)) c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = plan.start (τ := τ) (hand (rows m)) c from rfl]
  iintro ⟨Hs, -, -⟩
  iexact Hs

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = zeros c from rfl, scopedRest0_eq, zeros_eq]
  iintro ⟨H1, H2⟩
  isplitl [H1]; · iexact H1
  isplitl [H2]; · iexact H2
  iempintro

theorem above_stage : ∀ x ∈ plan.owed, 0 < plan.level x.1 := by decide

theorem waits (c : Dev nD) : (levAts Meet.levels plan.lev : sProp 𝕄) ⊢ Pipeline.cellsWaits cfgs (dats m ρ) () 0 c :=
  Pipeline.cellsWaits_intro cfgs (dats m ρ) () 0 c fun w s t => by
    have hs : ∀ k, plan.sem k = .dma ((cfg0.win w).sem s) → plan.level k ≤ 0 := by
      rintro (_ | gk) h
      · exact absurd h (by show SemLoc.reg barS ≠ _; simp)
      · exact absurd h (ownSemFacts.disj gk w s)
    rcases t with ⟨_ | _, ht⟩
    · exact plan.mayWait_of 0 hs above_stage c
    · exact plan.mayWait_of 0 hs (fun x hx => absurd hx (Finset.notMem_empty x)) c

/-! ## The run -/

def finalA (c : Dev nD) (w : Fin cfg0.W) : Buf (Elt F) ((cfg0.win w).arr.view.loc (c : Thread nD τ)) := (dats m ρ 0 c).arrAt w cfg0.N

theorem finalA_arg (c : Dev nD) : finalA m ρ c (0 : Fin 2) = m ((c : Thread nD τ).loc main_arg0) := (dats (F := F) m ρ 0 c).arrAt_in (0 : Fin 2) rfl _

theorem finalA_read (c : Dev nD) : (win0_1.blk t0_0).view.read (Elt F) (finalA m ρ c (1 : Fin 2)) = result (rows m) c := by
  unfold finalA
  rw [show cfg0.N = (t0_0 : Fin cfg0.N).val + 1 from rfl, (dats m ρ 0 c).arrAt_succ (1 : Fin 2) t0_0]
  rw [show (cfg0.win (1 : Fin 2)).flush t0_0 = true from by decide, if_pos rfl]
  exact View.read_write_univ _ _

theorem rows_eq (c : Dev nD) : rows m c = m ((c : Thread nD τ).loc main_arg0) :=
  Memref.read_access_unit_zero (Elt F) main_arg0 (by decide) _ _
theorem finalA_res (c : Dev nD) : finalA m ρ c (1 : Fin 2) = result (rows m) c :=
  (Memref.read_access_unit_zero (Elt F) main_v1 (by decide) _ _).symm.trans (finalA_read m ρ c)

set_option maxRecDepth 8000 in
/-- The run, for any float values. -/
theorem run_main : θ_run (defs (F := F)) (onTc (τ := τ) (main (F := F))) (s₀ m ρ) (fun r =>
    (∀ c : Dev nD, r.2.mem ((c : Thread nD τ).loc main_v1) = result (rows m) c
      ∧ r.2.mem ((c : Thread nD τ).loc main_arg0) = m ((c : Thread nD τ).loc main_arg0)) ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := fun c => (body_obligation m ρ c).loose) (hne := block_pos0) (harr := arr_whole0) (hstage := stage_whole0) (hshare := share_eq m ρ)
    (hdistinct := winFacts0.arr_inj)
    (O₀ := plan.dues τ plan.owed) (howed₀ := fun _ => rfl) (howedN := fun c => plan.dues_empty c)
    (L := Meet.levels) (lv := plan.lev) (hL := Meet.levels_of_ne) (hwaits := waits m ρ)
    (G := plan.minted (τ := τ) (hand (rows m))) (G' := plan.dealt (τ := τ) (hand (rows m))) (u₀ := u₀)
    (hu₀ := by
      unfold u₀
      iintro Hu
      ihave H := (ownU_pair _ _) $$ Hu
      icases H with ⟨HP, HX⟩
      imod (plan.fund (hand (rows m))) $$ HX with HG
      imodintro
      isplitl [HP] <;> iassumption)
    (hglob := glob m)
    (hA := fun _ _ => rfl) (hpf := fun _ k => k.elim0)
    (X := plan.start (τ := τ) (hand (rows m))) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c => ⟨((h c).1 (1 : Fin 2)).trans (finalA_res m ρ c), ((h c).1 (0 : Fin 2)).trans (finalA_arg m ρ c)⟩,
      sem_eq_zero hs fun c => (h c).2.2⟩)

end Cert.Gathering

end
-- ==== Proof.GatherValue.lean ====
/-
# What the gather computes

Each device's result is the whole array of which every device has its half of the rows.
-/
module

public import proofs.«01_k».proof.Proof.GatherRun
public import proofs.«01_k».proof.Proof.Gen.WholeIdeal
public import Idealize.ShloMosaic.Lib.StableHlo.Run
public import Idealize.ShloMosaic.Lib.Pipeline.Value
public import Idealize.ShloMosaic.Lib.Layout
public import Idealize.ShloMosaic.Lib.Pointwise

@[expose] public section

noncomputable section

namespace Cert.Gathering

open Idealize.ShloMosaic Idealize.SL.Sem
open Idealize.ShloMosaic.TcCoe
open Cert.GatherIdeal Cert.GatherIdeal.Gen Cert.Meeting

theorem tiles_rows : Layout.TilesN ⟨2, ![8, 1024]⟩ ⟨2, ![16, 1024]⟩ (fun b => Layout.cutSize [2, 2] ((![[0], []] : Fin 2 → List ℕ) b)) := by decide
theorem axes_rows : ∀ b, ∀ i ∈ (![[0], []] : Fin 2 → List ℕ) b, 0 < ([2, 2] : List ℕ).getD i 0 := by decide
theorem mesh_rows : ∀ c : Dev nD, ((Layout.meshBlock [2, 2] ![[0], []] c axes_rows : (b : Fin 2) → _) (0 : Fin 2)).val = c.val / 2 := by decide
theorem mesh_cols : ∀ c : Dev nD, ((Layout.meshBlock [2, 2] ![[0], []] c axes_rows : (b : Fin 2) → _) (1 : Fin 2)).val = 0 := by decide

section Result

variable (W : Vec Ideal S16x1024 .f32) (R : Dev nD → Vec Ideal S8x1024 .f32)
  (hR : ∀ c, R c = Layout.blockN ⟨2, ![8, 1024]⟩ ⟨2, ![16, 1024]⟩ (Layout.meshBlock [2, 2] ![[0], []] c axes_rows) W tiles_rows)

theorem allRows_emb (i : S8x1024.Idx) : allRows.emb i = i := funext fun a => Fin.ext (by
  rw [Rect.emb_apply]; fin_cases a <;> · show 0 + 1 * _ = _; rw [zero_add, one_mul])

theorem mine_eq (c : Dev nD) : mine R c = R c := by
  unfold mine
  exact (shapeCast_self _ _).trans (funext fun i => congrArg (R c) (allRows_emb i))

theorem parts_eq (c : Dev nD) (b : Bool) : parts R c b = R (whose c b) := by
  cases b
  · exact mine_eq R c
  · rfl

include hR in
/-- A device's rows are those at its place in the whole. -/
theorem rows_at (d : Dev nD) (y : S8x1024.Idx) : R d y = W ((place d).emb y) := by
  rw [hR d, Layout.blockN_apply]
  refine congrArg W (funext fun b => Fin.ext ?_)
  rw [Layout.TilesN.idx_val, Rect.emb_apply]
  fin_cases b
  · show ((Layout.meshBlock [2, 2] ![[0], []] d axes_rows : (b : Fin 2) → _) (0 : Fin 2)).val * 8 + (y (0 : Fin 2)).val = k0_off2 d (0 : Fin 2) + 1 * (y (0 : Fin 2)).val
    rw [mesh_rows, k0_off2_eq]
    show d.val / 2 * 8 + (y (0 : Fin 2)).val = 8 * (d.val / 2) + 1 * (y (0 : Fin 2)).val
    omega
  · show ((Layout.meshBlock [2, 2] ![[0], []] d axes_rows : (b : Fin 2) → _) (1 : Fin 2)).val * 1024 + (y (1 : Fin 2)).val = k0_off2 d (1 : Fin 2) + 1 * (y (1 : Fin 2)).val
    rw [mesh_cols, k0_off2_eq]
    show 0 * 1024 + (y (1 : Fin 2)).val = 0 + 1 * (y (1 : Fin 2)).val
    omega

include hR in
/-- Every device has the whole. -/
theorem result_eq (c : Dev nD) : result R c = W := by
  funext i
  obtain ⟨b, -, hb⟩ := Finset.mem_biUnion.mp ((places_cover c).symm ▸ Finset.mem_univ i)
  choose j hj hi using (places c b).mem_set.mp hb
  obtain ⟨y, rfl⟩ : ∃ y : S8x1024.Idx, (places c b).emb y = i := ⟨fun a => ⟨j a, hj a⟩, funext fun a => Fin.ext (hi a).symm⟩
  exact (Rect.glue_emb (places c) (places_cover c) (places_apart c) (parts R c) b y).trans
    ((congrFun (parts_eq R c b) y).trans (rows_at W R hR (whose c b) y))

end Result

end Cert.Gathering

/-! ## The whole array itself

The program on one device returns its argument as it stands. -/

namespace Cert.WholeIdeal

open Idealize.ShloMosaic Idealize.SL.Sem Idealize.ShloMosaic.StableHlo
open Idealize.ShloMosaic.TcCoe

variable {F : FTy → Type} [FloatOps F]

theorem scopedRefs_eq : (Finset.univ.filter fun b : Ref sig .tc => b.isScoped) = ∅ := by decide
theorem scopedSems_eq : (Finset.univ.filter fun sm : SemLoc sig => sm.isScoped .tc) = ∅ := by decide

theorem run_main (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      r.2.mem ((c.tc : Thread nD τ).loc main_arg0) = m ((c.tc : Thread nD τ).loc main_arg0) :=
  (θ_run defs _ _).mono (fun _ h c => h c main_arg0)
    (run_seq scopedRefs_eq scopedSems_eq defs main (fun _ => []) (fun _ => rfl) (fun _ => trivial) m ρ)

end Cert.WholeIdeal

end
-- ==== Proof.FeedRun.lean ====
/-
# The experts' kernel: its body and its launch

The kernel walks the pairs (buffer, slice of the hidden width), four slices to a buffer. At a buffer's first slice it
writes the slice's share of the result, at each later one it adds the share to what is there; the finished block is written
back after the fourth. From any memory whose table names existing experts, the run ends with the result array made of those
blocks, the arguments as they were and every counter zero. For any float values.
-/
module

public import proofs.«01_k».proof.Proof.GatherValue
public import proofs.«01_k».proof.Proof.Gen.FeedIdeal.Launch
public import proofs.«01_k».proof.Proof.Gen.FeedIdeal.Skeleton
public import Idealize.ShloMosaic.Lib.Pipeline.Frame
public import Idealize.ShloMosaic.Lib.Pipeline.FrameBody
public import Idealize.ShloMosaic.Lib.Pipeline.TableIdle
public import Idealize.ShloMosaic.Lib.Pipeline.Value

@[expose] public section

noncomputable section

namespace Cert.Feeding

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline
open Cert.FeedIdeal Cert.FeedIdeal.Gen

variable {F : FTy → Type} [FloatOps F]

local notation "𝕄" => MT nD τ sig Unit (Elt F) ℕ (UR sig nD τ) ℕ

abbrev 𝒱₀ : Variants := Variants.none

/-! ## One run of the body -/

theorem zeros3 : (![0, 0, 0] : Fin 3 → Nat) = fun _ => 0 := by decide

/-- A block read whole, and a block written whole. -/
abbrev allB : Rect S1x336x1024 := Rect.unit (s := S1x336x1024) ![0, 0, 0] S1x336x1024.size Facts₀.inb_S1x336x1024_S1x336x1024_0_0_0
abbrev allW : Rect S1x1024x1024 := Rect.unit (s := S1x1024x1024) ![0, 0, 0] S1x1024x1024.size Facts₀.inb_S1x1024x1024_S1x1024x1024_0_0_0

theorem allB_emb (x : S1x336x1024.Idx) : allB.emb x = x := by
  funext a; apply Fin.ext; rw [Rect.emb_apply]
  fin_cases a
  · show 0 + 1 * (x 0).val = (x 0).val; omega
  · show 0 + 1 * (x 1).val = (x 1).val; omega
  · show 0 + 1 * (x 2).val = (x 2).val; omega
theorem allW_emb (x : S1x1024x1024.Idx) : allW.emb x = x := by
  funext a; apply Fin.ext; rw [Rect.emb_apply]
  fin_cases a
  · show 0 + 1 * (x 0).val = (x 0).val; omega
  · show 0 + 1 * (x 1).val = (x 1).val; omega
  · show 0 + 1 * (x 2).val = (x 2).val; omega

theorem read_allB (c : Dev nD) (M : Memref sig .tc .vmem S1x336x1024 .f32) (g : Buf (Elt F) (M.view.loc (c : Thread nD τ))) :
    (M.access allB).read (Elt F) g = M.view.read (Elt F) g := by
  funext x
  show _root_.cast _ (g (M.view.emb (allB.emb x))) = _root_.cast _ (g (M.view.emb x))
  rw [allB_emb]
theorem read_allW (c : Dev nD) (M : Memref sig .tc .vmem S1x1024x1024 .f32) (g : Buf (Elt F) (M.view.loc (c : Thread nD τ))) :
    (M.access allW).read (Elt F) g = M.view.read (Elt F) g := by
  funext x
  show _root_.cast _ (g (M.view.emb (allW.emb x))) = _root_.cast _ (g (M.view.emb x))
  rw [allW_emb]
theorem read_write_allB (c : Dev nD) (M : Memref sig .tc .vmem S1x336x1024 .f32) (f : Buf (Elt F) (M.view.loc (c : Thread nD τ)))
    (v : Vec F S1x336x1024 .f32) : M.view.read (Elt F) ((M.access allB).write (Elt F) f v Finset.univ) = v := by
  funext y
  conv_lhs => rw [← allB_emb y]
  rw [View.read_slice_write_emb _ _ _ (Finset.mem_univ _)]

section Body

variable (i : grid0.Coords) (T : Memref sig .tc .smem S4 .i32) (hT : T.IsWhole)
  (X : Memref sig .tc .vmem S1x336x1024 .f32) (hX : X.IsWhole) (A B : Memref sig .tc .vmem S1x1024x1024 .f32) (hA : A.IsWhole) (hB : B.IsWhole)
  (O : Memref sig .tc .vmem S1x336x1024 .f32) (hO : O.IsWhole)

/-- At a buffer's first slice the body stores the slice's share; -/
theorem first_body (h1 : k0_cond1 i = 1#1) (h2 : ¬ k0_cond2 i = 1#1) :
    cc0__ffn_body (F := F) i T hT X hX A hA B hB O hO
      = .op (.load X allB.toLoadRect (View.loadsAt_vmem Facts₀.h_S1x336x1024)) fun (x : Vec F S1x336x1024 .f32) =>
        .op (.load A allW.toLoadRect (View.loadsAt_vmem Facts₀.h_S1x1024x1024)) fun (a : Vec F S1x1024x1024 .f32) =>
        .op (.load B allW.toLoadRect (View.loadsAt_vmem Facts₀.h_S1x1024x1024)) fun (b : Vec F S1x1024x1024 .f32) =>
        .op (.load O allB.toLoadRect (View.loadsAt_vmem Facts₀.h_S1x336x1024)) fun (_ : Vec F S1x336x1024 .f32) =>
        .op (.store O allB (k0_pay2 x a b) Finset.univ (View.stores_vmem_bits_univ Facts₀.h_S1x336x1024 rfl) (.inl rfl)) fun _ =>
        .ret ⟨⟩ := by
  rw [cc0__ffn_body_eq_skeleton]
  unfold cc0__ffn_body_skel
  simp only [dif_pos h1, dif_neg h2]
  rfl

/-- at each later one it adds the share to what is there. -/
theorem later_body (h1 : ¬ k0_cond1 i = 1#1) (h2 : k0_cond2 i = 1#1) :
    cc0__ffn_body (F := F) i T hT X hX A hA B hB O hO
      = .op (.load X allB.toLoadRect (View.loadsAt_vmem Facts₀.h_S1x336x1024)) fun (x : Vec F S1x336x1024 .f32) =>
        .op (.load A allW.toLoadRect (View.loadsAt_vmem Facts₀.h_S1x1024x1024)) fun (a : Vec F S1x1024x1024 .f32) =>
        .op (.load B allW.toLoadRect (View.loadsAt_vmem Facts₀.h_S1x1024x1024)) fun (b : Vec F S1x1024x1024 .f32) =>
        .op (.load O allB.toLoadRect (View.loadsAt_vmem Facts₀.h_S1x336x1024)) fun (o : Vec F S1x336x1024 .f32) =>
        .op (.load O allB.toLoadRect (View.loadsAt_vmem Facts₀.h_S1x336x1024)) fun (_ : Vec F S1x336x1024 .f32) =>
        .op (.store O allB (k0_pay3 x a b o) Finset.univ (View.stores_vmem_bits_univ Facts₀.h_S1x336x1024 rfl) (.inl rfl)) fun _ =>
        .ret ⟨⟩ := by
  rw [cc0__ffn_body_eq_skeleton]
  unfold cc0__ffn_body_skel
  simp only [dif_neg h1, dif_pos h2]
  rfl

variable (c : Dev nD) (x o : Vec F S1x336x1024 .f32) (a b : Vec F S1x1024x1024 .f32)

theorem wp_first (h1 : k0_cond1 i = 1#1) (h2 : ¬ k0_cond2 i = 1#1) (Q : PUnit → sProp 𝕄) :
    iprop((owns (c : Thread nD τ) X fullShare x ∗ owns (c : Thread nD τ) A fullShare a ∗ owns (c : Thread nD τ) B fullShare b
        ∗ (∃ d, owns (c : Thread nD τ) O fullShare d))
      ∗ ((owns (c : Thread nD τ) X fullShare x ∗ owns (c : Thread nD τ) A fullShare a ∗ owns (c : Thread nD τ) B fullShare b
        ∗ owns (c : Thread nD τ) O fullShare (k0_pay2 x a b)) -∗ Q ⟨⟩))
    ⊢ wp frame (wpE (defs₀ (F := F)) 𝒱₀ (c : Thread nD τ) none) Set.univ (cc0__ffn_body (F := F) i T hT X hX A hA B hB O hO) Q := by
  rw [first_body i T hT X hX A B hA hB O hO h1 h2]
  unfold owns
  iintro ⟨⟨⟨%f, %hf, HX⟩, ⟨%g, %hg, HA⟩, ⟨%h, %hh, HB⟩, ⟨%d, %k, -, HO⟩⟩, Hk⟩
  iapply (wp_load_rect 𝒱₀ (c : Thread nD τ) none Set.univ (m := X) (r := allB) (View.set_slice_subset _ _)) $$ HX
  iintro HX
  iapply (wp_load_rect 𝒱₀ (c : Thread nD τ) none Set.univ (m := A) (r := allW) (View.set_slice_subset _ _)) $$ HA
  iintro HA
  iapply (wp_load_rect 𝒱₀ (c : Thread nD τ) none Set.univ (m := B) (r := allW) (View.set_slice_subset _ _)) $$ HB
  iintro HB
  iapply (wp_load_rect 𝒱₀ (c : Thread nD τ) none Set.univ (m := O) (r := allB) (View.set_slice_subset _ _)) $$ HO
  iintro HO
  iapply (wp_store 𝒱₀ (c : Thread nD τ) none Set.univ (m := O) (r := allB) (Mk := Finset.univ) (View.set_slice_subset _ _)) $$ HO
  iintro HO
  rw [wp_ret]; imodintro
  iapply Hk
  isplitl [HX]
  · iexists f; isplitr; · ipureintro; exact hf
    iexact HX
  isplitl [HA]
  · iexists g; isplitr; · ipureintro; exact hg
    iexact HA
  isplitl [HB]
  · iexists h; isplitr; · ipureintro; exact hh
    iexact HB
  iexists _; isplitr
  swap; · iexact HO
  ipureintro; rw [read_write_allB, read_allB, read_allW, read_allW, hf, hg, hh]

theorem wp_later (h1 : ¬ k0_cond1 i = 1#1) (h2 : k0_cond2 i = 1#1) (Q : PUnit → sProp 𝕄) :
    iprop((owns (c : Thread nD τ) X fullShare x ∗ owns (c : Thread nD τ) A fullShare a ∗ owns (c : Thread nD τ) B fullShare b
        ∗ owns (c : Thread nD τ) O fullShare o)
      ∗ ((owns (c : Thread nD τ) X fullShare x ∗ owns (c : Thread nD τ) A fullShare a ∗ owns (c : Thread nD τ) B fullShare b
        ∗ owns (c : Thread nD τ) O fullShare (k0_pay3 x a b o)) -∗ Q ⟨⟩))
    ⊢ wp frame (wpE (defs₀ (F := F)) 𝒱₀ (c : Thread nD τ) none) Set.univ (cc0__ffn_body (F := F) i T hT X hX A hA B hB O hO) Q := by
  rw [later_body i T hT X hX A B hA hB O hO h1 h2]
  unfold owns
  iintro ⟨⟨⟨%f, %hf, HX⟩, ⟨%g, %hg, HA⟩, ⟨%h, %hh, HB⟩, ⟨%k, %hk, HO⟩⟩, Hk⟩
  iapply (wp_load_rect 𝒱₀ (c : Thread nD τ) none Set.univ (m := X) (r := allB) (View.set_slice_subset _ _)) $$ HX
  iintro HX
  iapply (wp_load_rect 𝒱₀ (c : Thread nD τ) none Set.univ (m := A) (r := allW) (View.set_slice_subset _ _)) $$ HA
  iintro HA
  iapply (wp_load_rect 𝒱₀ (c : Thread nD τ) none Set.univ (m := B) (r := allW) (View.set_slice_subset _ _)) $$ HB
  iintro HB
  iapply (wp_load_rect 𝒱₀ (c : Thread nD τ) none Set.univ (m := O) (r := allB) (View.set_slice_subset _ _)) $$ HO
  iintro HO
  iapply (wp_load_rect 𝒱₀ (c : Thread nD τ) none Set.univ (m := O) (r := allB) (View.set_slice_subset _ _)) $$ HO
  iintro HO
  iapply (wp_store 𝒱₀ (c : Thread nD τ) none Set.univ (m := O) (r := allB) (Mk := Finset.univ) (View.set_slice_subset _ _)) $$ HO
  iintro HO
  rw [wp_ret]; imodintro
  iapply Hk
  isplitl [HX]
  · iexists f; isplitr; · ipureintro; exact hf
    iexact HX
  isplitl [HA]
  · iexists g; isplitr; · ipureintro; exact hg
    iexact HA
  isplitl [HB]
  · iexists h; isplitr; · ipureintro; exact hh
    iexact HB
  iexists _; isplitr
  swap; · iexact HO
  ipureintro; rw [read_write_allB, read_allB, read_allB, read_allW, read_allW, hf, hg, hh, hk]

end Body

/-! ## What each window's buffer holds -/

variable (a : (pcfg0 (F := F)).Adm) (m : (ℓ : Loc nD τ sig) → Buf (Elt F) ℓ) (ρ : Dev nD → PrngReg)

/-- The blocks the kernel is handed at a point: rows of the buffer, and the two slices of its expert's weights. -/
def xs (c : Dev nD) (t : Fin grid0.N) : Vec F S1x336x1024 .f32 := ((win0 a 0).blk t).view.read (Elt F) (m ((c : Thread nD τ).loc main_arg1))
def ups (c : Dev nD) (t : Fin grid0.N) : Vec F S1x1024x1024 .f32 := ((win0 a 1).blk t).view.read (Elt F) (m ((c : Thread nD τ).loc main_arg2))
def downs (c : Dev nD) (t : Fin grid0.N) : Vec F S1x1024x1024 .f32 := ((win0 a 2).blk t).view.read (Elt F) (m ((c : Thread nD τ).loc main_arg3))

/-- The result's block after each point: begun at the first slice, added to at the later ones. -/
def outs (c : Dev nD) : (n : Nat) → n < grid0.N → Vec F S1x336x1024 .f32
  | 0, h => k0_pay2 (xs a m c ⟨0, h⟩) (ups a m c ⟨0, h⟩) (downs a m c ⟨0, h⟩)
  | n + 1, h => if (n + 1) % 4 = 0 then k0_pay2 (xs a m c ⟨n + 1, h⟩) (ups a m c ⟨n + 1, h⟩) (downs a m c ⟨n + 1, h⟩)
      else k0_pay3 (xs a m c ⟨n + 1, h⟩) (ups a m c ⟨n + 1, h⟩) (downs a m c ⟨n + 1, h⟩) (outs c n (Nat.lt_of_succ_lt h))

theorem outs_first (c : Dev nD) (t : Fin grid0.N) (h : t.val % 4 = 0) : outs a m c t.val t.isLt = k0_pay2 (xs a m c t) (ups a m c t) (downs a m c t) := by
  obtain ⟨_ | n, ht⟩ := t
  · rfl
  · exact if_pos h
theorem outs_later (c : Dev nD) (t : Fin grid0.N) (h : t.val % 4 ≠ 0) :
    outs a m c t.val t.isLt = k0_pay3 (xs a m c t) (ups a m c t) (downs a m c t) (outs a m c (t.val - 1) (by omega)) := by
  obtain ⟨_ | n, ht⟩ := t
  · exact absurd rfl h
  · exact if_neg h

/-- What the launch keeps of the device. -/
def dats (_ : Fin 1) (c : Dev nD) : Dat τ (Elt F) Unit ℕ (UR sig nD τ) ℕ (cfg0 a) c where
  A w := m ((c : Thread nD τ).loc (arrRef spec0 w))
  after w t := match w with
    | ⟨0, _⟩ => xs a m c t
    | ⟨1, _⟩ => ups a m c t
    | ⟨2, _⟩ => downs a m c t
    | ⟨3, _⟩ => outs a m c t.val t.isLt
  Φ _ := iprop(ΦA spec0 c ∗ ΦT pre0 a.1 c)
  q _ := fullShare
  owed _ := 0

theorem cond1_first : ∀ t : Fin grid0.N, t.val % 4 = 0 → k0_cond1 (grid0.coords t) = 1#1 ∧ ¬ k0_cond2 (grid0.coords t) = 1#1 := by decide
theorem cond1_later : ∀ t : Fin grid0.N, t.val % 4 ≠ 0 → ¬ k0_cond1 (grid0.coords t) = 1#1 ∧ k0_cond2 (grid0.coords t) = 1#1 := by decide
theorem live_0_3 : ∀ i : grid0.Coords, idle0 3 i = false := by decide

/-- The result's block is written back after the fourth slice. -/
theorem flush_3 (t : Fin grid0.N) : (win0 a 3).flush t = decide (t.val % 4 = 3) := by
  show (true && (t.val + 1 = grid0.N || decide (∃ h : t.val + 1 < grid0.N, cc0_transform_3 (grid0.coords ⟨t.val + 1, h⟩) ≠ cc0_transform_3 (grid0.coords t))) : Bool) = _
  revert t; decide

theorem fresh_3 (t : Fin grid0.N) : (cfg0 a).fresh 3 t.val = decide (t.val % 4 = 0) := by
  obtain ⟨_ | n, ht⟩ := t
  · rw [Cfg.fresh_zero]; rfl
  · have h := Cfg.fresh_succ (cfg0 a) 3 n (Nat.lt_of_succ_lt ht)
    show (cfg0 a).fresh 3 (n + 1) = decide ((n + 1) % 4 = 0)
    rw [h, show ((cfg0 a).win 3).flush ⟨n, _⟩ = _ from flush_3 a ⟨n, Nat.lt_of_succ_lt ht⟩]
    rw [show (cfg0 a).idle 3 ((cfg0 a).grid.coords ⟨n, Nat.lt_of_succ_lt ht⟩) = false from live_0_3 _]
    simp only [Bool.false_and, Bool.or_false, decide_eq_decide]
    omega

theorem before_0 (c : Dev nD) (t : Fin grid0.N) (d) : (dats a m 0 c).before (0 : Fin 4) t d = xs a m c t :=
  (dats a m 0 c).before_in_eq_fetched (0 : Fin 4) rfl (fun _ => rfl) (fun _ _ _ => rfl) (fun _ => rfl) t d
theorem before_1 (c : Dev nD) (t : Fin grid0.N) (d) : (dats a m 0 c).before (1 : Fin 4) t d = ups a m c t :=
  (dats a m 0 c).before_in_eq_fetched (1 : Fin 4) rfl (fun _ => rfl) (fun _ _ _ => rfl) (fun _ => rfl) t d
theorem before_2 (c : Dev nD) (t : Fin grid0.N) (d) : (dats a m 0 c).before (2 : Fin 4) t d = downs a m c t :=
  (dats a m 0 c).before_in_eq_fetched (2 : Fin 4) rfl (fun _ => rfl) (fun _ _ _ => rfl) (fun _ => rfl) t d
theorem before_3 (c : Dev nD) (t : Fin grid0.N) (h : t.val % 4 ≠ 0) (d) :
    (dats a m 0 c).before (3 : Fin 4) t d = outs a m c (t.val - 1) (by omega) := by
  rw [(dats a m 0 c).before_out_traj (3 : Fin 4) rfl (fun _ _ => rfl)
    (fun t _ hi _ => absurd ((live_0_3 _).symm.trans hi) Bool.false_ne_true) t.val t rfl d]
  rw [if_neg (by rw [fresh_3]; simpa using h)]
  rfl

/-! ## The kernel's obligation -/

/-- The buffers the kernel is handed at a point. -/
abbrev xM (t : Fin grid0.N) : Memref sig .tc .vmem S1x336x1024 .f32 := spec0_0.stage ((cfg0 a).slots t 0)
abbrev upM (t : Fin grid0.N) : Memref sig .tc .vmem S1x1024x1024 .f32 := spec0_1.stage ((cfg0 a).slots t 1)
abbrev downM (t : Fin grid0.N) : Memref sig .tc .vmem S1x1024x1024 .f32 := spec0_2.stage ((cfg0 a).slots t 2)
abbrev outM (t : Fin grid0.N) : Memref sig .tc .vmem S1x336x1024 .f32 := spec0_3.stage ((cfg0 a).slots t 3)

def bodyPre (c : Dev nD) (t : Fin grid0.N) : sProp 𝕄 :=
  iprop((dats a m 0 c).Φ t.castSucc ∗ (dats a m 0 c).owesAt () t.castSucc
    ∗ (∃ d, owns (c : Thread nD τ) (xM a t) fullShare ((dats a m 0 c).before (0 : Fin 4) t d))
    ∗ (∃ d, owns (c : Thread nD τ) (upM a t) fullShare ((dats a m 0 c).before (1 : Fin 4) t d))
    ∗ (∃ d, owns (c : Thread nD τ) (downM a t) fullShare ((dats a m 0 c).before (2 : Fin 4) t d))
    ∗ (∃ d, owns (c : Thread nD τ) (outM a t) fullShare ((dats a m 0 c).before (3 : Fin 4) t d)))
def bodyPost (c : Dev nD) (t : Fin grid0.N) : sProp 𝕄 :=
  iprop((dats a m 0 c).Φ t.succ ∗ (dats a m 0 c).owesAt () t.succ
    ∗ owns (c : Thread nD τ) (xM a t) fullShare (xs a m c t) ∗ owns (c : Thread nD τ) (upM a t) fullShare (ups a m c t)
    ∗ owns (c : Thread nD τ) (downM a t) fullShare (downs a m c t) ∗ owns (c : Thread nD τ) (outM a t) fullShare (outs a m c t.val t.isLt))

theorem body_run (c : Dev nD) (t : Fin grid0.N) : bodyPre a m c t ⊢ wp frame (wpE (defs₀ (F := F)) 𝒱₀ (c : Thread nD τ) none) Set.univ
    (cc0__ffn_body (F := F) (grid0.coords t) (Memref.whole main_arg0) (Memref.isWhole_whole _)
      (xM a t) (Facts₀.hstage0_0 (((cfg0 a).slots t 0).cast Facts₀.nbuf0_0)) (upM a t) (Facts₀.hstage0_1 (((cfg0 a).slots t 1).cast Facts₀.nbuf0_1))
      (downM a t) (Facts₀.hstage0_2 (((cfg0 a).slots t 2).cast Facts₀.nbuf0_2)) (outM a t) (Facts₀.hstage0_3 (((cfg0 a).slots t 3).cast Facts₀.nbuf0_3)))
    (fun _ => bodyPost a m c t) := by
  unfold bodyPre bodyPost
  simp only [before_0, before_1, before_2]
  rw [show (dats a m 0 c).Φ t.castSucc = (dats a m 0 c).Φ t.succ from rfl, show (dats a m 0 c).owesAt () t.castSucc = (dats a m 0 c).owesAt () t.succ from rfl]
  by_cases h : t.val % 4 = 0
  · rw [outs_first a m c t h]
    iintro ⟨HΦ, HO, ⟨%d0, HX⟩, ⟨%d1, HA⟩, ⟨%d2, HB⟩, ⟨%d3, Ho⟩⟩
    iapply (wp_first _ _ _ _ _ _ _ _ _ _ _ c _ _ _ (cond1_first t h).1 (cond1_first t h).2)
    isplitl [HX HA HB Ho]
    · isplitl [HX]; · iexact HX
      isplitl [HA]; · iexact HA
      isplitl [HB]; · iexact HB
      iexists _; iexact Ho
    iintro ⟨HX, HA, HB, Ho⟩
    isplitl [HΦ]; · iexact HΦ
    isplitl [HO]; · iexact HO
    isplitl [HX]; · iexact HX
    isplitl [HA]; · iexact HA
    isplitl [HB]; · iexact HB
    iexact Ho
  · rw [outs_later a m c t h]
    simp only [before_3 a m c t h]
    iintro ⟨HΦ, HO, ⟨%d0, HX⟩, ⟨%d1, HA⟩, ⟨%d2, HB⟩, ⟨%d3, Ho⟩⟩
    iapply (wp_later _ _ _ _ _ _ _ _ _ _ _ c _ _ _ _ (cond1_later t h).1 (cond1_later t h).2)
    isplitl [HX HA HB Ho]
    · isplitl [HX]; · iexact HX
      isplitl [HA]; · iexact HA
      isplitl [HB]; · iexact HB
      iexact Ho
    iintro ⟨HX, HA, HB, Ho⟩
    isplitl [HΦ]; · iexact HΦ
    isplitl [HO]; · iexact HO
    isplitl [HX]; · iexact HX
    isplitl [HA]; · iexact HA
    isplitl [HB]; · iexact HB
    iexact Ho

/-- What the obligation asks of the result's buffer: as no point leaves it alone, what the kernel left there. -/
def outPost (c : Dev nD) (t : Fin grid0.N) : sProp 𝕄 :=
  match (cfg0 a).idle (3 : Fin 4) ((cfg0 a).grid.coords t) with
  | true =>
    match ((cfg0 a).win (3 : Fin 4)).flush t with
    | false => iprop(∃ d, owns (c : Thread nD τ) (outM a t) fullShare ((dats a m 0 c).before (3 : Fin 4) t d))
    | true => owns (c : Thread nD τ) (outM a t) fullShare ((dats a m 0 c).after (3 : Fin 4) t)
  | false => owns (c : Thread nD τ) (outM a t) fullShare ((dats a m 0 c).after (3 : Fin 4) t)

theorem outPost_eq (c : Dev nD) (t : Fin grid0.N) : outPost a m c t = owns (c : Thread nD τ) (outM a t) fullShare (outs a m c t.val t.isLt) := by
  unfold outPost
  rw [show (cfg0 a).idle (3 : Fin 4) ((cfg0 a).grid.coords t) = false from live_0_3 _]
  rfl

theorem body_obligation (c : Dev nD) : BodyObligation (dats (F := F) a m 0 c) (defs₀ (F := F)) 𝒱₀ () Set.univ := fun t => by
  rw [bigSep_W0, bigSep_W0]
  show bodyPre a m c t ⊢ wp frame (wpE (defs₀ (F := F)) 𝒱₀ (c : Thread nD τ) none) Set.univ
    (cc0__ffn_body (F := F) (grid0.coords t) (Memref.whole main_arg0) (Memref.isWhole_whole _)
      (xM a t) (Facts₀.hstage0_0 (((cfg0 a).slots t 0).cast Facts₀.nbuf0_0)) (upM a t) (Facts₀.hstage0_1 (((cfg0 a).slots t 1).cast Facts₀.nbuf0_1))
      (downM a t) (Facts₀.hstage0_2 (((cfg0 a).slots t 2).cast Facts₀.nbuf0_2)) (outM a t) (Facts₀.hstage0_3 (((cfg0 a).slots t 3).cast Facts₀.nbuf0_3)))
    (fun _ => iprop((dats a m 0 c).Φ t.succ ∗ (dats a m 0 c).owesAt () t.succ
    ∗ owns (c : Thread nD τ) (xM a t) fullShare (xs a m c t) ∗ owns (c : Thread nD τ) (upM a t) fullShare (ups a m c t)
    ∗ owns (c : Thread nD τ) (downM a t) fullShare (downs a m c t) ∗ outPost a m c t))
  rw [outPost_eq]
  exact body_run a m c t

/-! ## The launch -/

/-- The memory at the start. -/
abbrev s₀ : MemSt nD τ sig (Elt F) := ⟨m, fun _ => 0, ρ⟩

/-- The table is none of the windows' arrays. -/
theorem arg0_rest : main_arg0 ∈ restRefs sig spec0 := by decide

/-- The run, for any float values, where the launch's table is the admissible one. -/
theorem run_main (ha : ∀ (c : Dev nD) k, m ((c : Thread nD τ).loc (pre0.ref k)) = a.1 k) :
    θ_run (defs (F := F)) (onTc (τ := τ) (main (F := F))) (s₀ m ρ) (fun r =>
      (∀ c : Dev nD, r.2.mem ((c : Thread nD τ).loc main_v0) = (dats a m 0 c).arrAt (3 : Fin 4) (cfg0 a).N
        ∧ r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2)
        ∧ r.2.mem ((c : Thread nD τ).loc main_arg3) = m ((c : Thread nD τ).loc main_arg3)) ∧ r.2.sem = fun _ => 0) :=
  Pipeline.θ_run_frameP pcfgs (fun _ => a) (dats a m) (0 : Fin 1) launch0 defs₀ 𝒱₀ m ρ main
    (hbody := fun c => (body_obligation a m c).loose)
    (hshare := fun c => (dats a m 0 c).share_full fun _ => rfl) (howed := fun _ _ => rfl)
    (V := fun c b => m ((c : Thread nD τ).loc b))
    (hmain := Pipeline.hmainP_region pcfgs 0 defs₀ 𝒱₀ m main fun _ => rfl)
    (hA := fun _ _ => rfl) (hpf := ha) (hΦ := fun _ _ => rfl)
    (Q' := _) (hQ' := fun r h => ⟨fun c => ⟨(h.1 c).1 (3 : Fin 4), (h.1 c).2 main_arg0 arg0_rest,
      ((h.1 c).1 (0 : Fin 4)).trans ((dats a m 0 c).arrAt_in (0 : Fin 4) rfl _),
      ((h.1 c).1 (1 : Fin 4)).trans ((dats a m 0 c).arrAt_in (1 : Fin 4) rfl _),
      ((h.1 c).1 (2 : Fin 4)).trans ((dats a m 0 c).arrAt_in (2 : Fin 4) rfl _)⟩, h.2⟩)

end Cert.Feeding

end
-- ==== Proof.FeedValue.lean ====
/-
# What the experts' kernel computes

Where the table names existing experts, every block the kernel asks for lies inside the weights. With exact arithmetic the
result is then the reference's: each buffer through its expert's two layers, the four slices' shares added up.
-/
module

public import proofs.«01_k».proof.Proof.FeedRun
public import proofs.«01_k».proof.Proof.Gen.ExpertsIdeal.Run
public import proofs.«01_k».proof.Proof.Gen.Pre_among
public import Idealize.ShloMosaic.Lib.ReduceAll
public import Idealize.ShloMosaic.Lib.StackMember

@[expose] public section

noncomputable section

namespace Cert.Feeding

open Idealize.ShloMosaic
open Idealize.ShloMosaic.TcCoe
open Idealize.ShloMosaic.Pipeline
open Cert.FeedIdeal Cert.FeedIdeal.Gen

variable {F : FTy → Type} [FloatOps F]

/-! ## The table -/

theorem both_one : ∀ p q : Bool, IntOp.andi (BitVec.ofBool p) (BitVec.ofBool q) = 1#1 → p = true ∧ q = true := by decide

/-- Every entry of the table is an expert's number. -/
theorem names_of_pre (T : IVec S4 32) (X : FVec F S4x336x1024 .f32) (U : FVec F S8x1024x4096 .f32) (D : FVec F S8x4096x1024 .f32)
    (h : Cert.Pre_among.fn (F := F) T X U D = fun _ => 1#1) (j : S4.Idx) : (T j).toNat < 8 := by
  haveI : Subsingleton (Cert.Pre_among.S_).Idx := ⟨fun a b => funext fun k => k.elim0⟩
  have e := Host.reduce_andi_all _ _ _ _ (fun k => k.elim0) (congrFun h fun k => k.elim0) j
  simp only [andi, cmpi, broadcastInDim, constantI, IntOp.cmpi] at e
  obtain ⟨hge, hlt⟩ := both_one _ _ e
  simp only [BitVec.sle, BitVec.slt, decide_eq_true_eq, BitVec.toInt, BitVec.toNat_ofNat] at hge hlt
  omega

theorem coord_word : ∀ n : Fin 4, (Scalar.indexCast (BitVec.ofNat 32 n.val) : Index).toNat = n.val := by decide
theorem coord_nat : ∀ n : Fin 4, (BitVec.ofNat 32 n.val).toNat = n.val := by decide

/-- The table's word at a grid point: its entry at the point's buffer. -/
theorem word_at (pf : pre0.Contents (Elt F)) (i : grid0.Coords) :
    pf.at 0 (Rect.unit (s := S4) ![(Scalar.indexCast (BitVec.ofNat 32 (i 0).val) : Index).toNat] S1.size (Facts₀.k0_off1_inb i)) Facts₀.numel1_S1
      = (pf 0 : IVec S4 32) (ix1 (n0 := 4) (i 0)) := by
  refine congrArg (pf 0 : IVec S4 32) (funext fun (k : Fin 1) => Fin.ext ?_)
  obtain rfl : k = 0 := Subsingleton.elim _ _
  show (Scalar.indexCast (BitVec.ofNat 32 (i 0).val) : Index).toNat + 1 * 0 = (i 0).val
  have e := coord_word (i 0)
  omega

theorem rows_in (v n : Nat) (hv : v < 8) (hn : n < 4) : ∀ k : Fin 3,
    ((![v, 0, n] : Fin 3 → Nat) k + 1) * S1x1024x1024.size k ≤ S8x1024x4096.size k := by
  intro k
  fin_cases k
  · show (v + 1) * 1 ≤ 8; omega
  · show (0 + 1) * 1024 ≤ 1024; omega
  · show (n + 1) * 1024 ≤ 4096; omega
theorem cols_in (v n : Nat) (hv : v < 8) (hn : n < 4) : ∀ k : Fin 3,
    ((![v, n, 0] : Fin 3 → Nat) k + 1) * S1x1024x1024.size k ≤ S8x4096x1024.size k := by
  intro k
  fin_cases k
  · show (v + 1) * 1 ≤ 8; omega
  · show (n + 1) * 1024 ≤ 4096; omega
  · show (0 + 1) * 1024 ≤ 1024; omega

/-- The blocks of the weights, by expert and slice. -/
theorem up_index (pf : pre0.Contents (Elt F)) (i : grid0.Coords) : cc0_transform_1 Facts₀.k0_off1_inb Facts₀.numel1_S1 pf i
    = ![((pf 0 : IVec S4 32) (ix1 (n0 := 4) (i 0))).toNat, 0, (i 1).val] := by
  show ![(pf.at 0 _ _ : BitVec 32).toNat, 0, (BitVec.ofNat 32 (i 1).val).toNat] = _
  rw [word_at pf i, coord_nat (i 1)]
theorem down_index (pf : pre0.Contents (Elt F)) (i : grid0.Coords) : cc0_transform_2 Facts₀.k0_off1_inb Facts₀.numel1_S1 pf i
    = ![((pf 0 : IVec S4 32) (ix1 (n0 := 4) (i 0))).toNat, (i 1).val, 0] := by
  show ![(pf.at 0 _ _ : BitVec 32).toNat, (BitVec.ofNat 32 (i 1).val).toNat, 0] = _
  rw [word_at pf i, coord_nat (i 1)]

/-- A table of experts' numbers is admissible: every block it names lies inside the weights. -/
theorem ok_of (pf : pre0.Contents (Elt F)) (h : ∀ j, ((pf 0 : IVec S4 32) j).toNat < 8) : ok0 pf := by
  unfold ok0
  refine ⟨fun i => ⟨?_, Or.inl rfl⟩, fun i => ⟨?_, Or.inl rfl⟩⟩
  · rw [up_index]; exact rows_in _ _ (h _) (i 1).isLt
  · rw [down_index]; exact cols_in _ _ (h _) (i 1).isLt

variable (m : (ℓ : Loc nD τ sig) → Buf (Elt F) ℓ) (ρ : Dev nD → PrngReg)

/-- The arguments, each under its own type. -/
def table : IVec S4 32 := m (((0 : Dev nD) : Thread nD τ).loc main_arg0)
def given : FVec F S4x336x1024 .f32 := m (((0 : Dev nD) : Thread nD τ).loc main_arg1)
def wide : FVec F S8x1024x4096 .f32 := m (((0 : Dev nD) : Thread nD τ).loc main_arg2)
def narrow : FVec F S8x4096x1024 .f32 := m (((0 : Dev nD) : Thread nD τ).loc main_arg3)

variable (h : ∀ j, (table m j).toNat < 8)

def contents : pre0.Contents (Elt F) := fun k => m (((0 : Dev nD) : Thread nD τ).loc (pre0.ref k))

/-- The launch's table. -/
def adm : (pcfg0 (F := F)).Adm := ⟨contents m, ok_of (contents m) h⟩

theorem adm_eq (c : Dev nD) (k) : m ((c : Thread nD τ).loc (pre0.ref k)) = (adm m h).1 k := by
  obtain rfl : c = 0 := Subsingleton.elim _ _
  rfl

theorem run_named : θ_run (defs (F := F)) (onTc (τ := τ) (main (F := F))) (s₀ m ρ) (fun r =>
      (∀ c : Dev nD, r.2.mem ((c : Thread nD τ).loc main_v0) = (dats (adm m h) m 0 c).arrAt (3 : Fin 4) (cfg0 (adm m h)).N
        ∧ r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2)
        ∧ r.2.mem ((c : Thread nD τ).loc main_arg3) = m ((c : Thread nD τ).loc main_arg3)) ∧ r.2.sem = fun _ => 0) :=
  run_main (adm m h) m ρ (adm_eq m h)

/-! ## The reference at an entry -/

section Pick
variable {α : Type} {B C : Nat}

/-- Whole matrices picked from a stack of eight, four times, by their numbers. -/
abbrev pickDims (wf : GatherDims.WF ⟨3, ![8, B, C]⟩ ⟨2, ![4, 1]⟩ ⟨3, ![4, B, C]⟩ [1, 2] [0] [] [0] [] 1 ![1, B, C]) :
    GatherDims ⟨3, ![8, B, C]⟩ ⟨2, ![4, 1]⟩ ⟨3, ![4, B, C]⟩ where
  offsetDims := [1, 2]
  collapsedSliceDims := [0]
  operandBatchingDims := []
  startIndicesBatchingDims := []
  startIndexMap := [0]
  indexVectorDim := 1
  sliceSizes := ![1, B, C]
  wf := wf

theorem pick_at (wf : GatherDims.WF ⟨3, ![8, B, C]⟩ ⟨2, ![4, 1]⟩ ⟨3, ![4, B, C]⟩ [1, 2] [0] [] [0] [] 1 ![1, B, C])
    (x : (⟨3, ![8, B, C]⟩ : Shape).Idx → α) (n : IVec ⟨2, ![4, 1]⟩ 32) (e : Fin 4) (b : Fin B) (c : Fin C) (v : Fin 8)
    (hv : (n (ix2 (n0 := 4) (n1 := 1) e 0)).toInt = (v.val : Int)) :
    Host.gather (pickDims wf) x n (ix3 (n0 := 4) (n1 := B) (n2 := C) e b c) = x (ix3 (n0 := 8) (n1 := B) (n2 := C) v b c) := by
  unfold Host.gather
  refine congrArg x (funext fun k => Fin.ext ?_)
  show (pickDims wf).start _ n k + (pickDims wf).batchCoord _ k + (pickDims wf).offCoord _ k = _
  rw [GatherDims.batchCoord_eq_zero _ _ _ List.not_mem_nil, Nat.add_zero]
  match k with
  | ⟨0, _⟩ =>
    rw [GatherDims.offCoord_eq_zero _ _ _ (fun h => ((GatherDims.mem_sKept _ _).mp h).1 (List.mem_singleton.mpr rfl)), Nat.add_zero]
    refine (dif_pos (show (0 : Fin 3) ∈ (pickDims wf).startIndexMap from List.mem_singleton.mpr rfl)).trans ?_
    have hsi : (pickDims wf).siIdx (ix3 (n0 := 4) (n1 := B) (n2 := C) e b c) ⟨List.idxOf (0 : Fin 3) (pickDims wf).startIndexMap,
        List.idxOf_lt_length_iff.2 (List.mem_singleton.mpr rfl)⟩ = ix2 (n0 := 4) (n1 := 1) e 0 := by
      funext q; refine Fin.ext ?_
      match q with
      | ⟨0, _⟩ => rfl
      | ⟨1, _⟩ => rfl
    refine (congrArg (fun q => min (n q).toInt.toNat (8 - 1)) hsi).trans ?_
    rw [hv]
    show min (v.val : Int).toNat (8 - 1) = v.val
    have := v.isLt
    omega
  | ⟨1, _⟩ =>
    have h0 : (pickDims wf).start (ix3 (n0 := 4) (n1 := B) (n2 := C) e b c) n (1 : Fin 3) = 0 :=
      dif_neg fun h => absurd (congrArg Fin.val (List.mem_singleton.1 h)) (Nat.succ_ne_zero _)
    refine (congrArg (· + _) h0).trans ?_
    rw [Nat.zero_add]
    rfl
  | ⟨2, _⟩ =>
    have h0 : (pickDims wf).start (ix3 (n0 := 4) (n1 := B) (n2 := C) e b c) n (2 : Fin 3) = 0 :=
      dif_neg fun h => absurd (congrArg Fin.val (List.mem_singleton.1 h)) (Nat.succ_ne_zero _)
    refine (congrArg (· + _) h0).trans ?_
    rw [Nat.zero_add]
    rfl

end Pick

section Reference

variable (T : IVec S4 32) (X : FVec Ideal S4x336x1024 .f32) (U : FVec Ideal S8x1024x4096 .f32) (D : FVec Ideal S8x4096x1024 .f32)

/-- The reference's numbers: the table's, a negative one counted from the end. -/
def numbers : IVec Cert.ExpertsIdeal.S4x1 32 :=
  broadcastInDim Cert.ExpertsIdeal.S4x1 ![0] Cert.ExpertsIdeal.Facts₀.bcast_S4_S4x1_0
    (select (cmpi .slt T (broadcastInDim Cert.ExpertsIdeal.S4 ![] Cert.ExpertsIdeal.Facts₀.bcast_S_S4 (constantI Cert.ExpertsIdeal.S_ 32 0#32)))
      (addi T (broadcastInDim Cert.ExpertsIdeal.S4 ![] Cert.ExpertsIdeal.Facts₀.bcast_S_S4 (constantI Cert.ExpertsIdeal.S_ 32 8#32))) T)

/-- The reference's result, as its run leaves it. -/
def fed : FVec Ideal Cert.ExpertsIdeal.S4x336x1024 .f32 :=
  Host.dotGeneral Cert.ExpertsIdeal.dot_S4x336x4096_S4x4096x1024_S4x336x1024_2_1_1_2_0_0 none
    (maximumf (Host.dotGeneral Cert.ExpertsIdeal.dot_S4x336x1024_S4x1024x4096_S4x336x4096_2_1_1_2_0_0 none X
        (Host.gather Cert.ExpertsIdeal.gather_S8x1024x4096_S4x1_S4x1024x4096_12_0_n_n_0_1_110244096 U (numbers T)))
      (broadcastInDim Cert.ExpertsIdeal.S4x336x4096 ![] Cert.ExpertsIdeal.Facts₀.bcast_S_S4x336x4096 (constant Cert.ExpertsIdeal.S_ .f32 0x00000000#32)))
    (Host.gather Cert.ExpertsIdeal.gather_S8x4096x1024_S4x1_S4x4096x1024_12_0_n_n_0_1_140961024 D (numbers T))

variable (h : ∀ j, (T j).toNat < 8)

/-- The expert a buffer is for. -/
abbrev expert (e : Fin 4) : Fin 8 := ⟨(T (ix1 (n0 := 4) e)).toNat, h _⟩

theorem numbers_at (e : Fin 4) : (numbers T (ix2 (n0 := 4) (n1 := 1) e 0)).toInt = ((expert T h e).val : Int) := by
  have hT := h (ix1 (n0 := 4) e)
  have hpos : (T (ix1 (n0 := 4) e)).slt 0#32 = false := by
    simp only [BitVec.slt, BitVec.toInt, BitVec.toNat_ofNat, decide_eq_false_iff_not]
    omega
  have e1 : numbers T (ix2 (n0 := 4) (n1 := 1) e 0) = T (ix1 (n0 := 4) e) := by
    unfold numbers
    have e0 : ∀ W : IVec S4 32, broadcastInDim Cert.ExpertsIdeal.S4x1 ![0] Cert.ExpertsIdeal.Facts₀.bcast_S4_S4x1_0 W (ix2 (n0 := 4) (n1 := 1) e 0)
        = W (ix1 (n0 := 4) e) := fun W => by
      unfold broadcastInDim
      refine congrArg W (funext fun (k : Fin 1) => Fin.ext ?_)
      obtain rfl : k = 0 := Subsingleton.elim _ _
      rfl
    rw [e0]
    simp only [select, cmpi, IntOp.cmpi, broadcastInDim, constantI, hpos]
    rfl
  rw [e1]
  show _ = ((T (ix1 (n0 := 4) e)).toNat : Int)
  rw [BitVec.toInt]
  rw [if_pos (by omega)]

/-- One entry of the hidden layer. -/
def hidden (e : Fin 4) (r : Fin 336) (j : Fin 4096) : EReal :=
  max (∑ k : Fin 1024, (X (ix3 (n0 := 4) (n1 := 336) (n2 := 1024) e r k) * U (ix3 (n0 := 8) (n1 := 1024) (n2 := 4096) (expert T h e) k j) : EReal)) 0

theorem fed_at (e : Fin 4) (r : Fin 336) (n : Fin 1024) : (fed T X U D (ix3 (n0 := 4) (n1 := 336) (n2 := 1024) e r n) : EReal)
    = ∑ j : Fin 4096, hidden T X U h e r j * D (ix3 (n0 := 8) (n1 := 4096) (n2 := 1024) (expert T h e) j n) := by
  unfold fed
  refine (StackMember.dotGeneral_stack_apply _ none _ _ e r n).trans (Finset.sum_congr rfl fun j _ => ?_)
  refine congrArg₂ (fun a b : EReal => a * b) ?_ (pick_at _ D (numbers T) e j n (expert T h e) (numbers_at T h e))
  show max (Host.dotGeneral Cert.ExpertsIdeal.dot_S4x336x1024_S4x1024x4096_S4x336x4096_2_1_1_2_0_0 none X _ _ : EReal) _ = _
  unfold hidden
  refine congrArg₂ max ?_ Ideal.ofBits_zero_f32
  refine (StackMember.dotGeneral_stack_apply _ none _ _ e r j).trans (Finset.sum_congr rfl fun k _ => ?_)
  exact congrArg (fun b : EReal => X (ix3 (n0 := 4) (n1 := 336) (n2 := 1024) e r k) * b) (pick_at _ U (numbers T) e k j (expert T h e) (numbers_at T h e))

end Reference

/-! ## One slice's share -/

section Share

variable (x o : FVec Ideal S1x336x1024 .f32) (a b : FVec Ideal S1x1024x1024 .f32)

theorem product_at (s : FVec Ideal S336x1024 .f32) (y : FVec Ideal S1024x1024 .f32) (r : Fin 336) (n : Fin 1024) :
    (Idealize.ShloMosaic.matmul dot_S336x1024_S1024x1024_S336x1024_1_0_0_1_n_n none s y (constant S336x1024 .f32 0x00000000#32) (ix2 (n0 := 336) (n1 := 1024) r n) : EReal)
      = ∑ k : Fin 1024, (s (ix2 (n0 := 336) (n1 := 1024) r k) * y (ix2 (n0 := 1024) (n1 := 1024) k n) : EReal) := by
  show Ideal.matmul dot_S336x1024_S1024x1024_S336x1024_1_0_0_1_n_n s y _ _ = _
  rw [Ideal.matmul_apply₁_of _ (a := 1) (K := 1024) rfl rfl _ _ _ _ (fun k => ix2 (n0 := 336) (n1 := 1024) r k) (fun k => ix2 (n0 := 1024) (n1 := 1024) k n)]
  · rw [show (constant (F := Ideal) S336x1024 .f32 0x00000000#32) (ix2 (n0 := 336) (n1 := 1024) r n) = (0 : EReal) from Ideal.ofBits_zero_f32]
    exact zero_add _
  · intro k; funext a; fin_cases a <;> rfl
  · intro k; funext a; fin_cases a <;> rfl

theorem rows_cast (r : Fin 336) (k : Fin 1024) :
    shapeCast S336x1024 x Facts₀.shapeCasts_S1x336x1024_S336x1024 (ix2 (n0 := 336) (n1 := 1024) r k) = x (ix3 (n0 := 1) (n1 := 336) (n2 := 1024) 0 r k) :=
  shapeCast_apply x _ _ _ (by
    rw [Shape.rowMajor_val_two, Shape.rowMajor_val_three]
    show (0 * 336 + r.val) * 1024 + k.val = r.val * 1024 + k.val
    omega)
theorem square_cast (k j : Fin 1024) :
    shapeCast S1024x1024 a Facts₀.shapeCasts_S1x1024x1024_S1024x1024 (ix2 (n0 := 1024) (n1 := 1024) k j) = a (ix3 (n0 := 1) (n1 := 1024) (n2 := 1024) 0 k j) :=
  shapeCast_apply a _ _ _ (by
    rw [Shape.rowMajor_val_two, Shape.rowMajor_val_three]
    show (0 * 1024 + k.val) * 1024 + j.val = k.val * 1024 + j.val
    omega)
theorem block_cast (w : FVec Ideal S336x1024 .f32) (r : Fin 336) (n : Fin 1024) :
    shapeCast S1x336x1024 w Facts₀.shapeCasts_S336x1024_S1x336x1024 (ix3 (n0 := 1) (n1 := 336) (n2 := 1024) 0 r n) = w (ix2 (n0 := 336) (n1 := 1024) r n) :=
  shapeCast_apply w _ _ _ (by
    rw [Shape.rowMajor_val_two, Shape.rowMajor_val_three]
    show r.val * 1024 + n.val = (0 * 336 + r.val) * 1024 + n.val
    omega)

/-- A slice's share of an entry of the result. -/
def share (r : Fin 336) (n : Fin 1024) : EReal :=
  ∑ j : Fin 1024, (max (∑ k : Fin 1024, (x (ix3 (n0 := 1) (n1 := 336) (n2 := 1024) 0 r k) * a (ix3 (n0 := 1) (n1 := 1024) (n2 := 1024) 0 k j) : EReal)) 0
    * b (ix3 (n0 := 1) (n1 := 1024) (n2 := 1024) 0 j n) : EReal)

theorem pay1_at (r : Fin 336) (n : Fin 1024) : (k0_pay1 (F := Ideal) x a b (ix2 (n0 := 336) (n1 := 1024) r n) : EReal) = share x a b r n := by
  unfold share
  refine (product_at _ _ r n).trans (Finset.sum_congr rfl fun j _ => ?_)
  refine congrArg₂ (fun u v : EReal => u * v) ?_ (square_cast b j n)
  refine (congrArg₂ max ?_ Ideal.ofBits_zero_f32 : max _ _ = max _ _)
  refine (product_at _ _ r j).trans (Finset.sum_congr rfl fun k _ => ?_)
  exact congrArg₂ (fun u v : EReal => u * v) (rows_cast x r k) (square_cast a k j)

theorem pay2_at (r : Fin 336) (n : Fin 1024) : (k0_pay2 (F := Ideal) x a b (ix3 (n0 := 1) (n1 := 336) (n2 := 1024) 0 r n) : EReal) = share x a b r n :=
  (block_cast _ r n).trans (pay1_at x a b r n)
theorem pay3_at (r : Fin 336) (n : Fin 1024) : (k0_pay3 (F := Ideal) x a b o (ix3 (n0 := 1) (n1 := 336) (n2 := 1024) 0 r n) : EReal)
    = o (ix3 (n0 := 1) (n1 := 336) (n2 := 1024) 0 r n) + share x a b r n :=
  (block_cast (addf (shapeCast S336x1024 o Facts₀.shapeCasts_S1x336x1024_S336x1024) (k0_pay1 x a b)) r n).trans
    (congrArg₂ (fun u v : EReal => u + v) (rows_cast o r n) (pay1_at x a b r n))

end Share

/-! ## The blocks at an entry -/

theorem buffer_of : ∀ t : Fin grid0.N, ((grid0.coords t) 0).val = t.val / 4 := by decide
theorem slice_of : ∀ t : Fin grid0.N, ((grid0.coords t) 1).val = t.val % 4 := by decide

/-- The grid point of a buffer's slice. -/
abbrev point (e f : Fin 4) : Fin grid0.N := ⟨4 * e.val + f.val, by have := e.isLt; have := f.isLt; show 4 * e.val + f.val < 16; omega⟩

theorem point_buffer (e f : Fin 4) : (grid0.coords (point e f)) 0 = e :=
  Fin.ext ((buffer_of (point e f)).trans (by have := f.isLt; show (4 * e.val + f.val) / 4 = e.val; omega))
theorem point_slice (e f : Fin 4) : (grid0.coords (point e f)) 1 = f :=
  Fin.ext ((slice_of (point e f)).trans (by have := f.isLt; show (4 * e.val + f.val) % 4 = f.val; omega))

/-- A place in the hidden width, by slice. -/
abbrev place (f : Fin 4) (j : Fin 1024) : Fin 4096 := ⟨f.val * 1024 + j.val, by have := f.isLt; have := j.isLt; omega⟩

theorem xs_at (e f : Fin 4) (r : Fin 336) (k : Fin 1024) :
    xs (adm m h) m 0 (point e f) (ix3 (n0 := 1) (n1 := 336) (n2 := 1024) 0 r k) = given m (ix3 (n0 := 4) (n1 := 336) (n2 := 1024) e r k) := by
  show given m (((win0 (adm m h) 0).rect (point e f)).emb _) = _
  refine congrArg (given m) (funext fun (q : Fin 3) => Fin.ext ?_)
  refine (Window.rect_emb_val (win0 (adm m h) 0) (point e f) _ q).trans ?_
  have hi : (win0 (adm m h) 0).index (point e f) = ![e.val, 0, 0] := by
    show ![(BitVec.ofNat 32 ((grid0.coords (point e f)) 0).val).toNat, 0, 0] = _
    rw [point_buffer, coord_nat e]
  rw [hi]
  fin_cases q
  · show e.val * 1 + 0 = e.val; omega
  · show 0 * 336 + r.val = r.val; omega
  · show 0 * 1024 + k.val = k.val; omega

theorem ups_at (e f : Fin 4) (k j : Fin 1024) :
    ups (adm m h) m 0 (point e f) (ix3 (n0 := 1) (n1 := 1024) (n2 := 1024) 0 k j)
      = wide m (ix3 (n0 := 8) (n1 := 1024) (n2 := 4096) (expert (table m) h e) k (place f j)) := by
  show wide m (((win0 (adm m h) 1).rect (point e f)).emb _) = _
  refine congrArg (wide m) (funext fun (q : Fin 3) => Fin.ext ?_)
  refine (Window.rect_emb_val (win0 (adm m h) 1) (point e f) _ q).trans ?_
  have hi : (win0 (adm m h) 1).index (point e f) = ![(expert (table m) h e).val, 0, f.val] := by
    refine (up_index (contents m) (grid0.coords (point e f))).trans ?_
    rw [point_buffer, point_slice]
    rfl
  rw [hi]
  fin_cases q
  · show (expert (table m) h e).val * 1 + 0 = (expert (table m) h e).val; omega
  · show 0 * 1024 + k.val = k.val; omega
  · show f.val * 1024 + j.val = f.val * 1024 + j.val; rfl

theorem downs_at (e f : Fin 4) (j n : Fin 1024) :
    downs (adm m h) m 0 (point e f) (ix3 (n0 := 1) (n1 := 1024) (n2 := 1024) 0 j n)
      = narrow m (ix3 (n0 := 8) (n1 := 4096) (n2 := 1024) (expert (table m) h e) (place f j) n) := by
  show narrow m (((win0 (adm m h) 2).rect (point e f)).emb _) = _
  refine congrArg (narrow m) (funext fun (q : Fin 3) => Fin.ext ?_)
  refine (Window.rect_emb_val (win0 (adm m h) 2) (point e f) _ q).trans ?_
  have hi : (win0 (adm m h) 2).index (point e f) = ![(expert (table m) h e).val, f.val, 0] := by
    refine (down_index (contents m) (grid0.coords (point e f))).trans ?_
    rw [point_buffer, point_slice]
    rfl
  rw [hi]
  fin_cases q
  · show (expert (table m) h e).val * 1 + 0 = (expert (table m) h e).val; omega
  · show f.val * 1024 + j.val = f.val * 1024 + j.val; rfl
  · show 0 * 1024 + n.val = n.val; omega

/-! ## The four shares together -/

section Whole

variable (M : (ℓ : Loc nD τ sig) → Buf (Elt Ideal) ℓ) (hM : ∀ j, (table M j).toNat < 8)

abbrev shareOf (e f : Fin 4) (r : Fin 336) (n : Fin 1024) : EReal :=
  share (xs (adm M hM) M 0 (point e f)) (ups (adm M hM) M 0 (point e f)) (downs (adm M hM) M 0 (point e f)) r n

theorem shareOf_eq (e f : Fin 4) (r : Fin 336) (n : Fin 1024) : shareOf M hM e f r n
    = ∑ j : Fin 1024, (hidden (table M) (given M) (wide M) hM e r (place f j)
        * narrow M (ix3 (n0 := 8) (n1 := 4096) (n2 := 1024) (expert (table M) hM e) (place f j) n) : EReal) := by
  unfold shareOf share hidden
  refine Finset.sum_congr rfl fun j _ => congrArg₂ (fun u v : EReal => u * v) (congrArg₂ max (Finset.sum_congr rfl fun k _ => ?_) rfl) (downs_at M hM e f j n)
  exact congrArg₂ (fun u v : EReal => u * v) (xs_at M hM e f r k) (ups_at M hM e f k j)

/-- After its fourth slice a buffer's block holds the four shares' sum. -/
theorem outs_last (e : Fin 4) (r : Fin 336) (n : Fin 1024) :
    (outs (adm M hM) M 0 (point e 3).val (point e 3).isLt (ix3 (n0 := 1) (n1 := 336) (n2 := 1024) 0 r n) : EReal)
      = ∑ f : Fin 4, shareOf M hM e f r n := by
  have h3 : (point e 3).val % 4 ≠ 0 := by show (4 * e.val + 3) % 4 ≠ 0; omega
  have h2 : (point e 2).val % 4 ≠ 0 := by show (4 * e.val + 2) % 4 ≠ 0; omega
  have h1 : (point e 1).val % 4 ≠ 0 := by show (4 * e.val + 1) % 4 ≠ 0; omega
  have h0 : (point e 0).val % 4 = 0 := by show (4 * e.val + 0) % 4 = 0; omega
  have e0 := (congrFun (outs_first (adm M hM) M 0 (point e 0) h0) _).trans (pay2_at _ _ _ r n)
  have e1 := (congrFun (outs_later (adm M hM) M 0 (point e 1) h1) _).trans (pay3_at _ _ _ _ r n)
  have e2 := (congrFun (outs_later (adm M hM) M 0 (point e 2) h2) _).trans (pay3_at _ _ _ _ r n)
  have e3 := (congrFun (outs_later (adm M hM) M 0 (point e 3) h3) _).trans (pay3_at _ _ _ _ r n)
  rw [Fin.sum_univ_four]
  refine e3.trans (congrArg (fun u : EReal => u + _) ?_)
  refine e2.trans (congrArg (fun u : EReal => u + _) ?_)
  exact e1.trans (congrArg (fun u : EReal => u + _) e0)

/-- A sum over the hidden width, slice by slice. -/
theorem sum_slices (g : Fin 4096 → EReal) : ∑ j : Fin 4096, g j = ∑ f : Fin 4, ∑ j : Fin 1024, g (place f j) := by
  rw [← Fintype.sum_prod_type' (fun (f : Fin 4) (j : Fin 1024) => g (place f j))]
  refine (Equiv.sum_comp (finProdFinEquiv (m := 4) (n := 1024)) g).symm.trans (Finset.sum_congr rfl fun p _ => congrArg g (Fin.ext ?_))
  show p.2.val + 1024 * p.1.val = p.1.val * 1024 + p.2.val
  omega

abbrev whole : FVec Ideal S4x336x1024 .f32 := fed (table M) (given M) (wide M) (narrow M)

theorem outs_whole (e : Fin 4) (r : Fin 336) (n : Fin 1024) :
    outs (adm M hM) M 0 (point e 3).val (point e 3).isLt (ix3 (n0 := 1) (n1 := 336) (n2 := 1024) 0 r n)
      = whole M (ix3 (n0 := 4) (n1 := 336) (n2 := 1024) e r n) := by
  refine (outs_last M hM e r n).trans (Eq.trans ?_ (fed_at (table M) (given M) (wide M) (narrow M) hM e r n).symm)
  rw [sum_slices]
  exact Finset.sum_congr rfl fun f _ => shareOf_eq M hM e f r n

theorem out_index (t : Fin grid0.N) : (win0 (adm M hM) 3).index t = ![t.val / 4, 0, 0] := by
  show ![(BitVec.ofNat 32 ((grid0.coords t) 0).val).toNat, 0, 0] = _
  rw [coord_nat ((grid0.coords t) 0), buffer_of]

/-- The result array ends as the reference's result. -/
theorem result_eq : (dats (adm M hM) M 0 (0 : Dev nD)).arrAt (3 : Fin 4) (cfg0 (adm M hM)).N = whole M := by
  refine (dats (adm M hM) M 0 (0 : Dev nD)).arrAt_eq_of_cover (3 : Fin 4) (whole M) (fun t ht => ?_) fun i => ?_
  · have h3 : t.val % 4 = 3 := of_decide_eq_true ((flush_3 (adm M hM) t).symm.trans ht)
    have hlt : t.val < 16 := t.isLt
    obtain ⟨e, rfl⟩ : ∃ e : Fin 4, t = point e 3 := ⟨⟨t.val / 4, by omega⟩, Fin.ext (by show t.val = 4 * (t.val / 4) + 3; omega)⟩
    funext (y : S1x336x1024.Idx)
    obtain ⟨z, r, n, rfl⟩ : ∃ (z : Fin 1) (r : Fin 336) (n : Fin 1024), y = ix3 (n0 := 1) (n1 := 336) (n2 := 1024) z r n := ⟨y 0, y 1, y 2, by
      funext a; match a with | ⟨0, _⟩ => rfl | ⟨1, _⟩ => rfl | ⟨2, _⟩ => rfl⟩
    obtain rfl : z = 0 := Subsingleton.elim _ _
    refine (outs_whole M hM e r n).trans ?_
    show _ = whole M (((win0 (adm M hM) 3).rect (point e 3)).emb _)
    refine congrArg (whole M) (funext fun (q : Fin 3) => Fin.ext ?_)
    refine Eq.trans ?_ (Window.rect_emb_val (win0 (adm M hM) 3) (point e 3) _ q).symm
    rw [out_index]
    have he : (point e 3).val / 4 = e.val := by show (4 * e.val + 3) / 4 = e.val; omega
    rw [he]
    fin_cases q
    · show e.val = e.val * 1 + 0; omega
    · show r.val = 0 * 336 + r.val; omega
    · show n.val = 0 * 1024 + n.val; omega
  · have i0 : (i 0 : Nat) < 4 := (i 0).isLt
    have i1 : (i 1 : Nat) < 336 := (i 1).isLt
    have i2 : (i 2 : Nat) < 1024 := (i 2).isLt
    refine ⟨point ⟨(i 0 : Nat), i0⟩ 3, ?_, ?_⟩
    · rw [flush_3]
      refine decide_eq_true ?_
      show (4 * (i 0 : Nat) + 3) % 4 = 3
      omega
    · have hx := out_index M hM (point ⟨(i 0 : Nat), i0⟩ 3)
      have he : (point ⟨(i 0 : Nat), i0⟩ 3).val / 4 = (i 0 : Nat) := by show (4 * (i 0 : Nat) + 3) / 4 = (i 0 : Nat); omega
      rw [he] at hx
      show i ∈ ((View.whole main_v0).slice ((win0 (adm M hM) 3).rect (point ⟨(i 0 : Nat), i0⟩ 3))).set
      rw [View.set_slice_whole, Rect.mem_set_unit]
      intro (a : Fin 3)
      have hoff : ∀ b : Fin 3, (win0 (adm M hM) 3).index (point ⟨(i 0 : Nat), i0⟩ 3) b = (![(i 0 : Nat), 0, 0] : Fin 3 → Nat) b := fun b => congrFun hx b
      fin_cases a
      · show (win0 (adm M hM) 3).index _ (0 : Fin 3) * 1 ≤ (i 0 : Nat) ∧ (i 0 : Nat) < (win0 (adm M hM) 3).index _ (0 : Fin 3) * 1 + 1
        rw [hoff 0]
        show (i 0 : Nat) * 1 ≤ (i 0 : Nat) ∧ (i 0 : Nat) < (i 0 : Nat) * 1 + 1
        omega
      · show (win0 (adm M hM) 3).index _ (1 : Fin 3) * 336 ≤ (i 1 : Nat) ∧ (i 1 : Nat) < (win0 (adm M hM) 3).index _ (1 : Fin 3) * 336 + 336
        rw [hoff 1]
        show 0 * 336 ≤ (i 1 : Nat) ∧ (i 1 : Nat) < 0 * 336 + 336
        omega
      · show (win0 (adm M hM) 3).index _ (2 : Fin 3) * 1024 ≤ (i 2 : Nat) ∧ (i 2 : Nat) < (win0 (adm M hM) 3).index _ (2 : Fin 3) * 1024 + 1024
        rw [hoff 2]
        show 0 * 1024 ≤ (i 2 : Nat) ∧ (i 2 : Nat) < 0 * 1024 + 1024
        omega

end Whole

end Cert.Feeding

end
-- ==== Proof.lean ====
/-
# The four calls of the layer

The claims of `Defs`. The combining kernel adds up the four partials, the exchanging kernel fills the experts' buffers, the
gathering kernel gives every device the whole array; these three copy between devices. The experts' kernel, on one device,
puts each buffer through its expert's two layers. Each kernel and each reference runs, leaving its arguments as they were
and every counter at zero, and with exact arithmetic every device's results are its part of the reference's. The claims
about the experts' kernel are of tables that name existing experts.
-/
module

public import proofs.«01_k».proof.Defs
public import proofs.«01_k».proof.Proof.Gen.Kernel
public import proofs.«01_k».proof.Proof.Gen.KernelIdeal
public import proofs.«01_k».proof.Proof.Gen.KernelIdeal.Skeleton
public import proofs.«01_k».proof.Proof.Gen.KernelIdeal.Launch
public import proofs.«01_k».proof.Proof.Gen.ReferenceIdeal
public import proofs.«01_k».proof.Proof.Gen.ReferenceIdeal.Run
public import proofs.«01_k».proof.Proof.Gen.Exchange
public import proofs.«01_k».proof.Proof.Gen.Gather
public import proofs.«01_k».proof.Proof.Gen.ExchangeIdeal
public import proofs.«01_k».proof.Proof.Gen.ExchangeIdeal.Skeleton
public import proofs.«01_k».proof.Proof.Gen.ExchangeIdeal.Launch
public import proofs.«01_k».proof.Proof.Gen.GatherIdeal
public import proofs.«01_k».proof.Proof.Gen.GatherIdeal.Skeleton
public import proofs.«01_k».proof.Proof.Gen.GatherIdeal.Launch
public import proofs.«01_k».proof.Proof.Gen.DispatchIdeal
public import proofs.«01_k».proof.Proof.Gen.DispatchIdeal.Run
public import proofs.«01_k».proof.Proof.Gen.WholeIdeal
public import proofs.«01_k».proof.Proof.Gen.Feed
public import proofs.«01_k».proof.Proof.Gen.Pre_among
public import proofs.«01_k».proof.Proof.Gen.FeedIdeal
public import proofs.«01_k».proof.Proof.Gen.FeedIdeal.Skeleton
public import proofs.«01_k».proof.Proof.Gen.FeedIdeal.Launch
public import proofs.«01_k».proof.Proof.Gen.ExpertsIdeal
public import proofs.«01_k».proof.Proof.Gen.ExpertsIdeal.Run
public import proofs.«01_k».proof.Proof.Value
public import proofs.«01_k».proof.Proof.ExchangeValue
public import proofs.«01_k».proof.Proof.GatherValue
public import proofs.«01_k».proof.Proof.FeedRun
public import proofs.«01_k».proof.Proof.FeedValue
public import Idealize.ShloMosaic.Adequacy
public import Idealize.ShloMosaic.Init

@[expose] public section

noncomputable section

namespace Cert.Proof

open Idealize.ShloMosaic Idealize.SL.Sem

/-! ## The combining kernel -/

/-- The kernel as printed is the same text, -/
theorem bodies_eq : Cert.Kernel.defs₀ (F := Bits) = Cert.KernelIdeal.defs₀ (F := Bits) := by
  unfold Cert.Kernel.defs₀ Cert.KernelIdeal.defs₀
  refine congrArg (Defs.onTc (τ := Cert.Kernel.τ)) ?_
  funext l x
  match l, x with
  | 0, (t, s) => exact rfl
theorem defs_eq : Cert.Kernel.defs (F := Bits) = Cert.KernelIdeal.defs (F := Bits) := congrArg (Pipeline.defs Cert.Kernel.pcfgs) bodies_eq

/-- so its run is the one for any float values, at words. -/
theorem frame_kernel : Cert.quiescent_Kernel := by
  intro m ρ _
  rw [defs_eq]
  exact (θ_run Cert.KernelIdeal.defs _ _).mono (fun _ h => ⟨fun c => (h.1 c).2, h.2⟩) (Combine.run_main (F := Bits) m ρ)

theorem frame_ideal : Cert.quiescent_KernelIdeal := fun m ρ _ =>
  (θ_run Cert.KernelIdeal.defs _ _).mono (fun _ h => ⟨fun c => (h.1 c).2, h.2⟩) (Combine.run_main (F := Ideal) m ρ)

theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem values : Cert.algebraic_KernelIdeal_ReferenceIdeal := fun m ρ m' ρ' _ hagree =>
  ⟨_, (θ_run Cert.KernelIdeal.defs _ _).mono
      (fun _ h c => ⟨((h.1 c).1).trans (Combine.result_eq _ (Combine.partials m) (fun d => (Combine.partials_eq m d).trans (hagree d)) c), (h.1 c).2⟩)
      (Combine.run_main (F := Ideal) m ρ),
    (θ_run Cert.ReferenceIdeal.defs _ _).mono (fun _ h => h 0) (Cert.ReferenceIdeal.Value.run (F := Ideal) m' ρ')⟩

/-! ## The exchanging kernel -/

theorem exchange_bodies_eq : Cert.Exchange.defs₀ (F := Bits) = Cert.ExchangeIdeal.defs₀ (F := Bits) := by
  unfold Cert.Exchange.defs₀ Cert.ExchangeIdeal.defs₀
  refine congrArg (Defs.onTc (τ := Cert.Exchange.τ)) ?_
  funext l x
  match l, x with
  | 0, (t, s) => exact rfl
theorem exchange_defs_eq : Cert.Exchange.defs (F := Bits) = Cert.ExchangeIdeal.defs (F := Bits) :=
  congrArg (Pipeline.defs Cert.Exchange.pcfgs) exchange_bodies_eq

theorem exchange_frame_kernel : Cert.quiescent_Exchange := by
  intro m ρ _
  rw [exchange_defs_eq]
  exact (θ_run Cert.ExchangeIdeal.defs _ _).mono (fun _ h => ⟨fun c => (h.1 c).2, h.2⟩) (Swap.run_main (F := Bits) m ρ)

theorem exchange_frame_ideal : Cert.quiescent_ExchangeIdeal := fun m ρ _ =>
  (θ_run Cert.ExchangeIdeal.defs _ _).mono (fun _ h => ⟨fun c => (h.1 c).2, h.2⟩) (Swap.run_main (F := Ideal) m ρ)

theorem exchange_frame_reference : Cert.quiescent_DispatchIdeal := fun m ρ _ =>
  (θ_run Cert.DispatchIdeal.defs _ _).mono (fun r h => ⟨fun c => (h c).2.2, sem_eq_zero_of_no_sems (by decide) r.2⟩)
    (Cert.DispatchIdeal.Value.run (F := Ideal) m ρ)

theorem exchange_values : Cert.algebraic_ExchangeIdeal_DispatchIdeal := fun m ρ m' ρ' _ hagree =>
  ⟨_, _, (θ_run Cert.ExchangeIdeal.defs _ _).mono
      (fun _ h c => ⟨((h.1 c).1.1).trans (Swap.table_result (Swap.given m) _ (fun d => (Swap.table_eq m d).trans (hagree d).1) c),
        ((h.1 c).1.2).trans ((Swap.buffers_result (Swap.given m) _ _ _ _ (fun d => (Swap.table_eq m d).trans (hagree d).1)
          (fun d => (Swap.narrow_eq m d).trans (hagree d).2.1) (fun d => (Swap.select_eq m d).trans (hagree d).2.2.1)
          (fun d => (Swap.tokens_eq m d).trans (hagree d).2.2.2) c).trans
            (congrArg (fun v => Layout.block ⟨3, ![4, 336, 1024]⟩ ⟨3, ![16, 336, 1024]⟩ 0 4 c v Swap.tiles_buffers) (Dispatching.buffers_eq m' 0).symm)),
        (h.1 c).2⟩)
      (Swap.run_main (F := Ideal) m ρ),
    (θ_run Cert.DispatchIdeal.defs _ _).mono (fun _ h => h 0) (Cert.DispatchIdeal.Value.run (F := Ideal) m' ρ')⟩

/-! ## The gathering kernel -/

theorem gather_bodies_eq : Cert.Gather.defs₀ (F := Bits) = Cert.GatherIdeal.defs₀ (F := Bits) := by
  unfold Cert.Gather.defs₀ Cert.GatherIdeal.defs₀
  refine congrArg (Defs.onTc (τ := Cert.Gather.τ)) ?_
  funext l x
  match l, x with
  | 0, (t, s) => exact rfl
theorem gather_defs_eq : Cert.Gather.defs (F := Bits) = Cert.GatherIdeal.defs (F := Bits) :=
  congrArg (Pipeline.defs Cert.Gather.pcfgs) gather_bodies_eq

theorem gather_frame_kernel : Cert.quiescent_Gather := by
  intro m ρ _
  rw [gather_defs_eq]
  exact (θ_run Cert.GatherIdeal.defs _ _).mono (fun _ h => ⟨fun c => (h.1 c).2, h.2⟩) (Gathering.run_main (F := Bits) m ρ)

theorem gather_frame_ideal : Cert.quiescent_GatherIdeal := fun m ρ _ =>
  (θ_run Cert.GatherIdeal.defs _ _).mono (fun _ h => ⟨fun c => (h.1 c).2, h.2⟩) (Gathering.run_main (F := Ideal) m ρ)

theorem gather_frame_reference : Cert.quiescent_WholeIdeal := fun m ρ _ =>
  (θ_run Cert.WholeIdeal.defs _ _).mono (fun r h => ⟨h, sem_eq_zero_of_no_sems (by decide) r.2⟩) (Cert.WholeIdeal.run_main (F := Ideal) m ρ)

theorem gather_values : Cert.algebraic_GatherIdeal_WholeIdeal := fun m ρ m' ρ' _ hagree =>
  ⟨_, (θ_run Cert.GatherIdeal.defs _ _).mono
      (fun _ h c => ⟨((h.1 c).1).trans (Gathering.result_eq _ (Gathering.rows m) (fun d => (Gathering.rows_eq m d).trans (hagree d)) c), (h.1 c).2⟩)
      (Gathering.run_main (F := Ideal) m ρ),
    (θ_run Cert.WholeIdeal.defs _ _).mono (fun _ h => ⟨h 0, h 0⟩) (Cert.WholeIdeal.run_main (F := Ideal) m' ρ')⟩

/-! ## The experts' kernel -/

theorem feed_bodies_eq : Cert.Feed.defs₀ (F := Bits) = Cert.FeedIdeal.defs₀ (F := Bits) := by
  unfold Cert.Feed.defs₀ Cert.FeedIdeal.defs₀
  refine congrArg (Defs.onTc (τ := Cert.Feed.τ)) ?_
  funext l x
  match l, x with
  | 0, (t, s) => exact rfl
theorem feed_defs_eq : Cert.Feed.defs (F := Bits) = Cert.FeedIdeal.defs (F := Bits) :=
  congrArg (Pipeline.defs Cert.Feed.pcfgs) feed_bodies_eq

theorem feed_frame_kernel : Cert.quiescent_Feed := by
  intro m ρ h
  rw [feed_defs_eq]
  exact (θ_run Cert.FeedIdeal.defs _ _).mono (fun _ h => ⟨fun c => (h.1 c).2, h.2⟩)
    (Feeding.run_named (F := Bits) m ρ (Feeding.names_of_pre _ _ _ _ (h 0)))

theorem feed_frame_ideal : Cert.quiescent_FeedIdeal := fun m ρ h =>
  (θ_run Cert.FeedIdeal.defs _ _).mono (fun _ h => ⟨fun c => (h.1 c).2, h.2⟩)
    (Feeding.run_named (F := Ideal) m ρ (Feeding.names_of_pre _ _ _ _ (h 0)))

theorem feed_frame_reference : Cert.quiescent_ExpertsIdeal := fun m ρ _ =>
  (θ_run Cert.ExpertsIdeal.defs _ _).mono (fun r h => ⟨fun c => (h c).2, sem_eq_zero_of_no_sems (by decide) r.2⟩)
    (Cert.ExpertsIdeal.Value.run (F := Ideal) m ρ)

theorem feed_frame_reference_among : Cert.quiescent_ExpertsIdeal_pre_among := fun m ρ _ =>
  (θ_run Cert.ExpertsIdeal.defs _ _).mono (fun r h => ⟨fun c => (h c).2, sem_eq_zero_of_no_sems (by decide) r.2⟩)
    (Cert.ExpertsIdeal.Value.run (F := Ideal) m ρ)

/-- The reference's result is the one named from the kernel's arguments. -/
theorem fed_given (m : (ℓ : Loc Cert.FeedIdeal.nD Cert.FeedIdeal.τ Cert.FeedIdeal.sig) → Buf (Elt Ideal) ℓ)
    (T : IVec Cert.FeedIdeal.S4 32) (X : FVec Ideal Cert.FeedIdeal.S4x336x1024 .f32) (U : FVec Ideal Cert.FeedIdeal.S8x1024x4096 .f32)
    (D : FVec Ideal Cert.FeedIdeal.S8x4096x1024 .f32) (hT : T = Feeding.table m) (hX : X = Feeding.given m) (hU : U = Feeding.wide m)
    (hD : D = Feeding.narrow m) : Feeding.fed T X U D = Feeding.whole m := by
  subst hT hX hU hD; rfl

theorem feed_values : Cert.algebraic_FeedIdeal_ExpertsIdeal := fun m ρ m' ρ' hpre hagree =>
  have names := Feeding.names_of_pre _ _ _ _ (hpre 0)
  ⟨fun _ => Feeding.whole m, (θ_run Cert.FeedIdeal.defs _ _).mono
      (fun _ h c => ⟨((h.1 c).1).trans (by obtain rfl : c = 0 := Subsingleton.elim _ _; exact Feeding.result_eq m names), (h.1 c).2⟩)
      (Feeding.run_named (F := Ideal) m ρ names),
    (θ_run Cert.ExpertsIdeal.defs _ _).mono (fun _ h c => ⟨((h c).1).trans (by
        obtain rfl : c = 0 := Subsingleton.elim _ _
        exact fed_given m _ _ _ _ (hagree 0).1 (hagree 0).2.1 (hagree 0).2.2.1 (hagree 0).2.2.2), (h c).2⟩)
      (Cert.ExpertsIdeal.Value.run (F := Ideal) m' ρ')⟩

/-! ## All together -/

theorem claim : Cert.Claim :=
  ⟨Cert.Kernel.Gen.facts, Cert.KernelIdeal.Gen.facts, Cert.ReferenceIdeal.Gen.facts, Cert.Exchange.Gen.facts, Cert.ExchangeIdeal.Gen.facts,
    Cert.DispatchIdeal.Gen.facts, Cert.Gather.Gen.facts, Cert.GatherIdeal.Gen.facts, Cert.WholeIdeal.Gen.facts,
    Cert.Feed.Gen.facts, Cert.FeedIdeal.Gen.facts, Cert.ExpertsIdeal.Gen.facts, Cert.Pre_among.Gen.facts,
    frame_kernel, frame_ideal, frame_reference, exchange_frame_kernel, exchange_frame_ideal, exchange_frame_reference,
    gather_frame_kernel, gather_frame_ideal, gather_frame_reference, feed_frame_kernel, feed_frame_ideal, feed_frame_reference,
    feed_frame_reference_among, trivial, values, trivial, exchange_values, trivial, gather_values, trivial, feed_values⟩

end Cert.Proof

end
